-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v67_0)) (v1 : (c : Dev Cert.Kernel4Ideal.nD) → Buf (Elt Ideal) ((c.tc : Thread Cert.Kernel4Ideal.nD Cert.Kernel4Ideal.τ).loc Cert.Kernel4Ideal.main_v67_1)) (v2 : (c : Dev Cert.Kernel4Ideal.nD) → Buf (Elt Ideal) ((c.tc : Thread Cert.Kernel4Ideal.nD Cert.Kernel4Ideal.τ).loc Cert.Kernel4Ideal.main_v67_2)) (v3 : (c : Dev Cert.Kernel4Ideal.nD) → Buf (Elt Ideal) ((c.tc : Thread Cert.Kernel4Ideal.nD Cert.Kernel4Ideal.τ).loc Cert.Kernel4Ideal.main_v67_3)) (v4 : (c : Dev Cert.Kernel4Ideal.nD) → Buf (Elt Ideal) ((c.tc : Thread Cert.Kernel4Ideal.nD Cert.Kernel4Ideal.τ).loc Cert.Kernel4Ideal.main_v67_4)) (v5 : (c : Dev Cert.Kernel4Ideal.nD) → Buf (Elt Ideal) ((c.tc : Thread Cert.Kernel4Ideal.nD Cert.Kernel4Ideal.τ).loc Cert.Kernel4Ideal.main_v67_5)) (v6 : (c : Dev Cert.Kernel4Ideal.nD) → Buf (Elt Ideal) ((c.tc : Thread Cert.Kernel4Ideal.nD Cert.Kernel4Ideal.τ).loc Cert.Kernel4Ideal.main_v67_6)) (v7 : (c : Dev Cert.Kernel4Ideal.nD) → Buf (Elt Ideal) ((c.tc : Thread Cert.Kernel4Ideal.nD Cert.Kernel4Ideal.τ).loc Cert.Kernel4Ideal.main_v67_7)) (v8 : (c : Dev Cert.Kernel4Ideal.nD) → Buf (Elt Ideal) ((c.tc : Thread Cert.Kernel4Ideal.nD Cert.Kernel4Ideal.τ).loc Cert.Kernel4Ideal.main_v67_8)) (v9 : (c : Dev Cert.Kernel4Ideal.nD) → Buf (Elt Ideal) ((c.tc : Thread Cert.Kernel4Ideal.nD Cert.Kernel4Ideal.τ).loc Cert.Kernel4Ideal.main_v67_9)) (v10 : (c : Dev Cert.Kernel4Ideal.nD) → Buf (Elt Ideal) ((c.tc : Thread Cert.Kernel4Ideal.nD Cert.Kernel4Ideal.τ).loc Cert.Kernel4Ideal.main_v67_10)) (v11 : (c : Dev Cert.Kernel4Ideal.nD) → Buf (Elt Ideal) ((c.tc : Thread Cert.Kernel4Ideal.nD Cert.Kernel4Ideal.τ).loc Cert.Kernel4Ideal.main_v67_11)) (v12 : (c : Dev Cert.Kernel4Ideal.nD) → Buf (Elt Ideal) ((c.tc : Thread Cert.Kernel4Ideal.nD Cert.Kernel4Ideal.τ).loc Cert.Kernel4Ideal.main_v67_12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v67_0) = v0 c
          ∧ r.2.mem ((c.tc : Thread Cert.Kernel4Ideal.nD Cert.Kernel4Ideal.τ).loc Cert.Kernel4Ideal.main_v67_1) = v1 c
          ∧ r.2.mem ((c.tc : Thread Cert.Kernel4Ideal.nD Cert.Kernel4Ideal.τ).loc Cert.Kernel4Ideal.main_v67_2) = v2 c
          ∧ r.2.mem ((c.tc : Thread Cert.Kernel4Ideal.nD Cert.Kernel4Ideal.τ).loc Cert.Kernel4Ideal.main_v67_3) = v3 c
          ∧ r.2.mem ((c.tc : Thread Cert.Kernel4Ideal.nD Cert.Kernel4Ideal.τ).loc Cert.Kernel4Ideal.main_v67_4) = v4 c
          ∧ r.2.mem ((c.tc : Thread Cert.Kernel4Ideal.nD Cert.Kernel4Ideal.τ).loc Cert.Kernel4Ideal.main_v67_5) = v5 c
          ∧ r.2.mem ((c.tc : Thread Cert.Kernel4Ideal.nD Cert.Kernel4Ideal.τ).loc Cert.Kernel4Ideal.main_v67_6) = v6 c
          ∧ r.2.mem ((c.tc : Thread Cert.Kernel4Ideal.nD Cert.Kernel4Ideal.τ).loc Cert.Kernel4Ideal.main_v67_7) = v7 c
          ∧ r.2.mem ((c.tc : Thread Cert.Kernel4Ideal.nD Cert.Kernel4Ideal.τ).loc Cert.Kernel4Ideal.main_v67_8) = v8 c
          ∧ r.2.mem ((c.tc : Thread Cert.Kernel4Ideal.nD Cert.Kernel4Ideal.τ).loc Cert.Kernel4Ideal.main_v67_9) = v9 c
          ∧ r.2.mem ((c.tc : Thread Cert.Kernel4Ideal.nD Cert.Kernel4Ideal.τ).loc Cert.Kernel4Ideal.main_v67_10) = v10 c
          ∧ r.2.mem ((c.tc : Thread Cert.Kernel4Ideal.nD Cert.Kernel4Ideal.τ).loc Cert.Kernel4Ideal.main_v67_11) = v11 c
          ∧ r.2.mem ((c.tc : Thread Cert.Kernel4Ideal.nD Cert.Kernel4Ideal.τ).loc Cert.Kernel4Ideal.main_v67_12) = v12 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_v55) = v2 c
          ∧ r.2.mem ((c.tc : Thread Cert.Reference4Ideal.nD Cert.Reference4Ideal.τ).loc Cert.Reference4Ideal.main_v57) = v3 c
          ∧ r.2.mem ((c.tc : Thread Cert.Reference4Ideal.nD Cert.Reference4Ideal.τ).loc Cert.Reference4Ideal.main_v58) = v4 c
          ∧ r.2.mem ((c.tc : Thread Cert.Reference4Ideal.nD Cert.Reference4Ideal.τ).loc Cert.Reference4Ideal.main_v59) = v5 c
          ∧ r.2.mem ((c.tc : Thread Cert.Reference4Ideal.nD Cert.Reference4Ideal.τ).loc Cert.Reference4Ideal.main_v47) = v6 c
          ∧ r.2.mem ((c.tc : Thread Cert.Reference4Ideal.nD Cert.Reference4Ideal.τ).loc Cert.Reference4Ideal.main_v64) = v7 c
          ∧ r.2.mem ((c.tc : Thread Cert.Reference4Ideal.nD Cert.Reference4Ideal.τ).loc Cert.Reference4Ideal.main_v66) = v8 c
          ∧ r.2.mem ((c.tc : Thread Cert.Reference4Ideal.nD Cert.Reference4Ideal.τ).loc Cert.Reference4Ideal.main_v71) = v9 c
          ∧ r.2.mem ((c.tc : Thread Cert.Reference4Ideal.nD Cert.Reference4Ideal.τ).loc Cert.Reference4Ideal.main_v76) = v10 c
          ∧ r.2.mem ((c.tc : Thread Cert.Reference4Ideal.nD Cert.Reference4Ideal.τ).loc Cert.Reference4Ideal.main_v78) = v11 c
          ∧ r.2.mem ((c.tc : Thread Cert.Reference4Ideal.nD Cert.Reference4Ideal.τ).loc Cert.Reference4Ideal.main_v83) = v12 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x8192x5x64 : Shape := ⟨4, ![4, 8192, 5, 64]⟩
abbrev S4x8192x5 : Shape := ⟨3, ![4, 8192, 5]⟩
abbrev S_ : Shape := ⟨0, ![]⟩

class Facts : Prop where
  bcast_S_S4x8192x5x64 : S_.BroadcastsInDim S4x8192x5x64 (![] : Fin 0 → Fin S4x8192x5x64.rank)
  reducesTo_S4x8192x5x64_S_d0_1_2_3 : S4x8192x5x64.ReducesTo [0, 1, 2, 3] S_
  h_S_ : 0 < S_.numel
  bcast_S_S4x8192x5 : S_.BroadcastsInDim S4x8192x5 (![] : Fin 0 → Fin S4x8192x5.rank)
  reducesTo_S4x8192x5_S_d0_1_2 : S4x8192x5.ReducesTo [0, 1, 2] S_

variable [Facts]

def fn {F : FTy → Type} [FloatOps F] (main_arg0 : FVec F S4x8192x5x64 .f32) (main_arg1 : FVec F S4x8192x5x64 .f32) (main_arg2 : FVec F S4x8192x5x64 .f32) (main_arg3 : FVec F S4x8192x5 .f32) : IVec S_ 1 :=
  let main_v0 : FVec F S4x8192x5x64 .f32 := Host.absf main_arg0
  let main_cst : FVec F S_ .f32 := constant S_ .f32 0x7F800000#32
  let main_v1 : FVec F S4x8192x5x64 .f32 := broadcastInDim S4x8192x5x64 ![] bcast_S_S4x8192x5x64 main_cst
  let main_v2 : IVec S4x8192x5x64 1 := cmpf .olt main_v0 main_v1
  let main_c : IVec S_ 1 := constantI S_ 1 1#1
  let main_v3 : IVec S_ 1 := (fun x v => Host.reduce IntOp.andi x v reducesTo_S4x8192x5x64_S_d0_1_2_3 h_S_) main_v2 main_c
  let main_v4 : FVec F S4x8192x5x64 .f32 := Host.absf main_arg1
  let main_cst_0 : FVec F S_ .f32 := constant S_ .f32 0x7F800000#32
  let main_v5 : FVec F S4x8192x5x64 .f32 := broadcastInDim S4x8192x5x64 ![] bcast_S_S4x8192x5x64 main_cst_0
  let main_v6 : IVec S4x8192x5x64 1 := cmpf .olt main_v4 main_v5
  let main_c_1 : IVec S_ 1 := constantI S_ 1 1#1
  let main_v7 : IVec S_ 1 := (fun x v => Host.reduce IntOp.andi x v reducesTo_S4x8192x5x64_S_d0_1_2_3 h_S_) main_v6 main_c_1
  let main_v8 : IVec S_ 1 := andi main_v3 main_v7
  let main_v9 : FVec F S4x8192x5 .f32 := Host.absf main_arg3
  let main_cst_2 : FVec F S_ .f32 := constant S_ .f32 0x7F800000#32
  let main_v10 : FVec F S4x8192x5 .f32 := broadcastInDim S4x8192x5 ![] bcast_S_S4x8192x5 main_cst_2
  let main_v11 : IVec S4x8192x5 1 := cmpf .olt main_v9 main_v10
  let main_c_3 : IVec S_ 1 := constantI S_ 1 1#1
  let main_v12 : IVec S_ 1 := (fun x v => Host.reduce IntOp.andi x v reducesTo_S4x8192x5_S_d0_1_2 h_S_) main_v11 main_c_3
  let main_v13 : IVec S_ 1 := andi main_v8 main_v12
  main_v13
-- ==== Kernel.lean ====
abbrev S4x8192x5x64 : Shape := ⟨4, ![4, 8192, 5, 64]⟩
abbrev S4x8192x5 : Shape := ⟨3, ![4, 8192, 5]⟩
abbrev S32768x320 : Shape := ⟨2, ![32768, 320]⟩
abbrev S_ : Shape := ⟨0, ![]⟩
abbrev S32768x384 : Shape := ⟨2, ![32768, 384]⟩
abbrev S384x32768 : Shape := ⟨2, ![384, 32768]⟩
abbrev S4x8192x320 : Shape := ⟨3, ![4, 8192, 320]⟩
abbrev S4x8192x384 : Shape := ⟨3, ![4, 8192, 384]⟩
abbrev S64x512x5x64 : Shape := ⟨4, ![64, 512, 5, 64]⟩
abbrev S64x5x64x512 : Shape := ⟨4, ![64, 5, 64, 512]⟩
abbrev S64x5x16x512 : Shape := ⟨4, ![64, 5, 16, 512]⟩
abbrev S64x5x80x512 : Shape := ⟨4, ![64, 5, 80, 512]⟩
abbrev S64x400x512 : Shape := ⟨3, ![64, 400, 512]⟩
abbrev S4x8192x128 : Shape := ⟨3, ![4, 8192, 128]⟩
abbrev S4x16x512x5 : Shape := ⟨4, ![4, 16, 512, 5]⟩
abbrev S4x16x5x512 : Shape := ⟨4, ![4, 16, 5, 512]⟩
abbrev S4x16x8x512 : Shape := ⟨4, ![4, 16, 8, 512]⟩
abbrev S4x16x400x512 : Shape := ⟨4, ![4, 16, 400, 512]⟩
abbrev S384x512 : Shape := ⟨2, ![384, 512]⟩
abbrev S1x8192x384 : Shape := ⟨3, ![1, 8192, 384]⟩
abbrev S1x16x400x512 : Shape := ⟨4, ![1, 16, 400, 512]⟩
abbrev S1x8192x128 : Shape := ⟨3, ![1, 8192, 128]⟩
abbrev S1x1x8x512 : Shape := ⟨4, ![1, 1, 8, 512]⟩
abbrev S1x512x384 : Shape := ⟨3, ![1, 512, 384]⟩
abbrev S5x128x512 : Shape := ⟨3, ![5, 128, 512]⟩
abbrev S5x80x512 : Shape := ⟨3, ![5, 80, 512]⟩
abbrev S6x512x512 : Shape := ⟨3, ![6, 512, 512]⟩
abbrev S1x512 : Shape := ⟨2, ![1, 512]⟩
abbrev S64x512 : Shape := ⟨2, ![64, 512]⟩
abbrev S128x512 : Shape := ⟨2, ![128, 512]⟩
abbrev S1x128x512 : Shape := ⟨3, ![1, 128, 512]⟩
abbrev S8x512 : Shape := ⟨2, ![8, 512]⟩
abbrev S1x512x128 : Shape := ⟨3, ![1, 512, 128]⟩
abbrev S512x128 : Shape := ⟨2, ![512, 128]⟩
abbrev S512x512 : Shape := ⟨2, ![512, 512]⟩
abbrev S512x1 : Shape := ⟨2, ![512, 1]⟩
abbrev S1x512x512 : Shape := ⟨3, ![1, 512, 512]⟩
abbrev S512 : Shape := ⟨1, ![512]⟩
abbrev S1x1x80x512 : Shape := ⟨4, ![1, 1, 80, 512]⟩
abbrev S80x512 : Shape := ⟨2, ![80, 512]⟩
abbrev S1x80x512 : Shape := ⟨3, ![1, 80, 512]⟩
abbrev S1x64x512 : Shape := ⟨3, ![1, 64, 512]⟩
abbrev S1x1x512 : Shape := ⟨3, ![1, 1, 512]⟩
abbrev S512x384 : Shape := ⟨2, ![512, 384]⟩

abbrev nBuf : Space → Nat
  | .hbm => 32
  | .vmem => 12
  | .smem => 0
  | _ => 0

abbrev bufTy : (tb : Table) → Fin (tcTables nBuf tb) → BufTy
  | .hbm, ⟨0, _⟩ => ⟨S4x8192x5x64, .f32⟩
  | .hbm, ⟨1, _⟩ => ⟨S4x8192x5x64, .f32⟩
  | .hbm, ⟨2, _⟩ => ⟨S4x8192x5x64, .f32⟩
  | .hbm, ⟨3, _⟩ => ⟨S4x8192x5, .f32⟩
  | .hbm, ⟨4, _⟩ => ⟨S32768x320, .f32⟩
  | .hbm, ⟨5, _⟩ => ⟨S_, .i32⟩
  | .hbm, ⟨6, _⟩ => ⟨S_, .f32⟩
  | .hbm, ⟨7, _⟩ => ⟨S32768x384, .f32⟩
  | .hbm, ⟨8, _⟩ => ⟨S384x32768, .f32⟩
  | .hbm, ⟨9, _⟩ => ⟨S384x32768, .bf16⟩
  | .hbm, ⟨10, _⟩ => ⟨S4x8192x320, .f32⟩
  | .hbm, ⟨11, _⟩ => ⟨S_, .i32⟩
  | .hbm, ⟨12, _⟩ => ⟨S_, .f32⟩
  | .hbm, ⟨13, _⟩ => ⟨S4x8192x384, .f32⟩
  | .hbm, ⟨14, _⟩ => ⟨S4x8192x384, .bf16⟩
  | .hbm, ⟨15, _⟩ => ⟨S64x512x5x64, .f32⟩
  | .hbm, ⟨16, _⟩ => ⟨S64x5x64x512, .f32⟩
  | .hbm, ⟨17, _⟩ => ⟨S_, .f32⟩
  | .hbm, ⟨18, _⟩ => ⟨S64x5x16x512, .f32⟩
  | .hbm, ⟨19, _⟩ => ⟨S64x5x80x512, .f32⟩
  | .hbm, ⟨20, _⟩ => ⟨S64x400x512, .f32⟩
  | .hbm, ⟨21, _⟩ => ⟨S64x400x512, .bf16⟩
  | .hbm, ⟨22, _⟩ => ⟨S_, .i32⟩
  | .hbm, ⟨23, _⟩ => ⟨S_, .f32⟩
  | .hbm, ⟨24, _⟩ => ⟨S4x8192x128, .f32⟩
  | .hbm, ⟨25, _⟩ => ⟨S4x16x512x5, .f32⟩
  | .hbm, ⟨26, _⟩ => ⟨S4x16x5x512, .f32⟩
  | .hbm, ⟨27, _⟩ => ⟨S_, .i32⟩
  | .hbm, ⟨28, _⟩ => ⟨S_, .f32⟩
  | .hbm, ⟨29, _⟩ => ⟨S4x16x8x512, .f32⟩
  | .hbm, ⟨30, _⟩ => ⟨S4x16x400x512, .bf16⟩
  | .hbm, ⟨31, _⟩ => ⟨S4x8192x384, .bf16⟩
  | .local _ .vmem, ⟨0, _⟩ => ⟨S384x512, .bf16⟩
  | .local _ .vmem, ⟨1, _⟩ => ⟨S384x512, .bf16⟩
  | .local _ .vmem, ⟨2, _⟩ => ⟨S1x8192x384, .bf16⟩
  | .local _ .vmem, ⟨3, _⟩ => ⟨S1x16x400x512, .bf16⟩
  | .local _ .vmem, ⟨4, _⟩ => ⟨S1x8192x128, .f32⟩
  | .local _ .vmem, ⟨5, _⟩ => ⟨S1x1x8x512, .f32⟩
  | .local _ .vmem, ⟨6, _⟩ => ⟨S1x1x8x512, .f32⟩
  | .local _ .vmem, ⟨7, _⟩ => ⟨S1x512x384, .bf16⟩
  | .local _ .vmem, ⟨8, _⟩ => ⟨S1x512x384, .bf16⟩
  | .local _ .vmem, ⟨9, _⟩ => ⟨S5x128x512, .bf16⟩
  | .local _ .vmem, ⟨10, _⟩ => ⟨S5x80x512, .f32⟩
  | .local _ .vmem, ⟨11, _⟩ => ⟨S6x512x512, .f32⟩
  | _, _ => ⟨S4x8192x5x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_call3_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let c1_i32_43 : BitVec 32 := 1#32
  ⟨c0_i32_41, v90, c1_i32_43⟩
def k0_mult1 (i : grid0.Coords) (k0_t1 : Fin (k0_t1_loop i).trips) : BitVec 32 :=
  let c0_i32_41 : BitVec 32 := 0#32
  let c1_i32_43 : BitVec 32 := 1#32
  let arg11 : BitVec 32 := Scf.iv c0_i32_41 c1_i32_43 k0_t1
  let c512_i32_201 : BitVec 32 := 512#32
  let v345 : BitVec 32 := Scalar.muli arg11 c512_i32_201
  v345
def k0_off1 (i : grid0.Coords) (k0_t1 : Fin (k0_t1_loop i).trips) : Fin 3 → Nat :=
  let c0_202 : Index := 0#32
  let c0_i32_41 : BitVec 32 := 0#32
  let c1_i32_43 : BitVec 32 := 1#32
  let arg11 : BitVec 32 := Scf.iv c0_i32_41 c1_i32_43 k0_t1
  let c512_i32_201 : BitVec 32 := 512#32
  let v345 : BitVec 32 := Scalar.muli arg11 c512_i32_201
  let v346 : BitVec 32 := v345
  let v347 : Index := Scalar.indexCast v346
  let c0_203 : Index := 0#32
  ![0, v347.toNat, 0]
def k0_off2 (i : grid0.Coords) (k0_t1 : Fin (k0_t1_loop i).trips) : Fin 3 → Nat :=
  let c0_205 : Index := 0#32
  let c0_i32_41 : BitVec 32 := 0#32
  let c1_i32_43 : BitVec 32 := 1#32
  let arg11 : BitVec 32 := Scf.iv c0_i32_41 c1_i32_43 k0_t1
  let c512_i32_201 : BitVec 32 := 512#32
  let v345 : BitVec 32 := Scalar.muli arg11 c512_i32_201
  let v346 : BitVec 32 := v345
  let v352 : Index := Scalar.indexCast v346
  let c0_206 : Index := 0#32
  ![0, v352.toNat, 0]
def k0_off3 (i : grid0.Coords) (k0_t1 : Fin (k0_t1_loop i).trips) : Fin 3 → Nat :=
  let c0_223 : Index := 0#32
  let c0_i32_41 : BitVec 32 := 0#32
  let c1_i32_43 : BitVec 32 := 1#32
  let arg11 : BitVec 32 := Scf.iv c0_i32_41 c1_i32_43 k0_t1
  let c512_i32_201 : BitVec 32 := 512#32
  let v345 : BitVec 32 := Scalar.muli arg11 c512_i32_201
  let v346 : BitVec 32 := v345
  let v382 : Index := Scalar.indexCast v346
  let c128_224 : Index := 128#32
  ![0, v382.toNat, 128]
def k0_off4 (i : grid0.Coords) (k0_t1 : Fin (k0_t1_loop i).trips) : Fin 3 → Nat :=
  let c0_241 : Index := 0#32
  let c0_i32_41 : BitVec 32 := 0#32
  let c1_i32_43 : BitVec 32 := 1#32
  let arg11 : BitVec 32 := Scf.iv c0_i32_41 c1_i32_43 k0_t1
  let c512_i32_201 : BitVec 32 := 512#32
  let v345 : BitVec 32 := Scalar.muli arg11 c512_i32_201
  let v346 : BitVec 32 := v345
  let v412 : Index := Scalar.indexCast v346
  let c256_242 : Index := 256#32
  ![0, v412.toNat, 256]
def k0_off5 (i : grid0.Coords) (k0_t1 : Fin (k0_t1_loop i).trips) : Fin 4 → Nat :=
  let c0_254 : Index := 0#32
  let c0_i32_41 : BitVec 32 := 0#32
  let c1_i32_43 : BitVec 32 := 1#32
  let arg11 : BitVec 32 := Scf.iv c0_i32_41 c1_i32_43 k0_t1
  let v437 : Index := Scalar.indexCast arg11
  let c0_255 : Index := 0#32
  let c0_256 : Index := 0#32
  ![0, v437.toNat, 0, 0]
def k0_off6 (i : grid0.Coords) (k0_t1 : Fin (k0_t1_loop i).trips) : Fin 4 → Nat :=
  let c0_262 : Index := 0#32
  let c0_i32_41 : BitVec 32 := 0#32
  let c1_i32_43 : BitVec 32 := 1#32
  let arg11 : BitVec 32 := Scf.iv c0_i32_41 c1_i32_43 k0_t1
  let v452 : Index := Scalar.indexCast arg11
  let c80_263 : Index := 80#32
  let c0_264 : Index := 0#32
  ![0, v452.toNat, 80, 0]
def k0_off7 (i : grid0.Coords) (k0_t1 : Fin (k0_t1_loop i).trips) : Fin 4 → Nat :=
  let c0_276 : Index := 0#32
  let c0_i32_41 : BitVec 32 := 0#32
  let c1_i32_43 : BitVec 32 := 1#32
  let arg11 : BitVec 32 := Scf.iv c0_i32_41 c1_i32_43 k0_t1
  let v475 : Index := Scalar.indexCast arg11
  let c160_277 : Index := 160#32
  let c0_278 : Index := 0#32
  ![0, v475.toNat, 160, 0]
def k0_off8 (i : grid0.Coords) (k0_t1 : Fin (k0_t1_loop i).trips) : Fin 4 → Nat :=
  let c0_290 : Index := 0#32
  let c0_i32_41 : BitVec 32 := 0#32
  let c1_i32_43 : BitVec 32 := 1#32
  let arg11 : BitVec 32 := Scf.iv c0_i32_41 c1_i32_43 k0_t1
  let v498 : Index := Scalar.indexCast arg11
  let c240_291 : Index := 240#32
  let c0_292 : Index := 0#32
  ![0, v498.toNat, 240, 0]
def k0_off9 (i : grid0.Coords) (k0_t1 : Fin (k0_t1_loop i).trips) : Fin 4 → Nat :=
  let c0_304 : Index := 0#32
  let c0_i32_41 : BitVec 32 := 0#32
  let c1_i32_43 : BitVec 32 := 1#32
  let arg11 : BitVec 32 := Scf.iv c0_i32_41 c1_i32_43 k0_t1
  let v521 : Index := Scalar.indexCast arg11
  let c320_305 : Index := 320#32
  let c0_306 : Index := 0#32
  ![0, v521.toNat, 320, 0]
@[reducible] def k0_t2_loop (i : grid0.Coords) : Scf.Loop 32 :=
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let v87 : BitVec 32 := Scalar.addi c0_i32_41 v86
  let c1_i32_44 : BitVec 32 := 1#32
  ⟨v90, v87, c1_i32_44⟩
def k0_mult2 (i : grid0.Coords) (k0_t2 : Fin (k0_t2_loop i).trips) : BitVec 32 :=
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let c1_i32_44 : BitVec 32 := 1#32
  let arg11 : BitVec 32 := Scf.iv v90 c1_i32_44 k0_t2
  let c512_i32_201 : BitVec 32 := 512#32
  let v345 : BitVec 32 := Scalar.muli arg11 c512_i32_201
  v345
def k0_off10 (i : grid0.Coords) (k0_t2 : Fin (k0_t2_loop i).trips) : Fin 3 → Nat :=
  let c0_202 : Index := 0#32
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let c1_i32_44 : BitVec 32 := 1#32
  let arg11 : BitVec 32 := Scf.iv v90 c1_i32_44 k0_t2
  let c512_i32_201 : BitVec 32 := 512#32
  let v345 : BitVec 32 := Scalar.muli arg11 c512_i32_201
  let v346 : BitVec 32 := v345
  let v347 : Index := Scalar.indexCast v346
  let c0_203 : Index := 0#32
  ![0, v347.toNat, 0]
def k0_off11 (i : grid0.Coords) (k0_t2 : Fin (k0_t2_loop i).trips) : Fin 3 → Nat :=
  let c0_205 : Index := 0#32
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let c1_i32_44 : BitVec 32 := 1#32
  let arg11 : BitVec 32 := Scf.iv v90 c1_i32_44 k0_t2
  let c512_i32_201 : BitVec 32 := 512#32
  let v345 : BitVec 32 := Scalar.muli arg11 c512_i32_201
  let v346 : BitVec 32 := v345
  let v352 : Index := Scalar.indexCast v346
  let c0_206 : Index := 0#32
  ![0, v352.toNat, 0]
def k0_off12 (i : grid0.Coords) (k0_t2 : Fin (k0_t2_loop i).trips) : Fin 3 → Nat :=
  let c0_223 : Index := 0#32
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let c1_i32_44 : BitVec 32 := 1#32
  let arg11 : BitVec 32 := Scf.iv v90 c1_i32_44 k0_t2
  let c512_i32_201 : BitVec 32 := 512#32
  let v345 : BitVec 32 := Scalar.muli arg11 c512_i32_201
  let v346 : BitVec 32 := v345
  let v382 : Index := Scalar.indexCast v346
  let c128_224 : Index := 128#32
  ![0, v382.toNat, 128]
def k0_off13 (i : grid0.Coords) (k0_t2 : Fin (k0_t2_loop i).trips) : Fin 3 → Nat :=
  let c0_241 : Index := 0#32
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let c1_i32_44 : BitVec 32 := 1#32
  let arg11 : BitVec 32 := Scf.iv v90 c1_i32_44 k0_t2
  let c512_i32_201 : BitVec 32 := 512#32
  let v345 : BitVec 32 := Scalar.muli arg11 c512_i32_201
  let v346 : BitVec 32 := v345
  let v412 : Index := Scalar.indexCast v346
  let c256_242 : Index := 256#32
  ![0, v412.toNat, 256]
def k0_off14 (i : grid0.Coords) (k0_t2 : Fin (k0_t2_loop i).trips) : Fin 4 → Nat :=
  let c0_254 : Index := 0#32
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let c1_i32_44 : BitVec 32 := 1#32
  let arg11 : BitVec 32 := Scf.iv v90 c1_i32_44 k0_t2
  let v437 : Index := Scalar.indexCast arg11
  let c0_255 : Index := 0#32
  let c0_256 : Index := 0#32
  ![0, v437.toNat, 0, 0]
def k0_off15 (i : grid0.Coords) (k0_t2 : Fin (k0_t2_loop i).trips) : Fin 4 → Nat :=
  let c0_262 : Index := 0#32
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let c1_i32_44 : BitVec 32 := 1#32
  let arg11 : BitVec 32 := Scf.iv v90 c1_i32_44 k0_t2
  let v452 : Index := Scalar.indexCast arg11
  let c80_263 : Index := 80#32
  let c0_264 : Index := 0#32
  ![0, v452.toNat, 80, 0]
def k0_off16 (i : grid0.Coords) (k0_t2 : Fin (k0_t2_loop i).trips) : Fin 4 → Nat :=
  let c0_276 : Index := 0#32
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let c1_i32_44 : BitVec 32 := 1#32
  let arg11 : BitVec 32 := Scf.iv v90 c1_i32_44 k0_t2
  let v475 : Index := Scalar.indexCast arg11
  let c160_277 : Index := 160#32
  let c0_278 : Index := 0#32
  ![0, v475.toNat, 160, 0]
def k0_off17 (i : grid0.Coords) (k0_t2 : Fin (k0_t2_loop i).trips) : Fin 4 → Nat :=
  let c0_290 : Index := 0#32
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let c1_i32_44 : BitVec 32 := 1#32
  let arg11 : BitVec 32 := Scf.iv v90 c1_i32_44 k0_t2
  let v498 : Index := Scalar.indexCast arg11
  let c240_291 : Index := 240#32
  let c0_292 : Index := 0#32
  ![0, v498.toNat, 240, 0]
def k0_off18 (i : grid0.Coords) (k0_t2 : Fin (k0_t2_loop i).trips) : Fin 4 → Nat :=
  let c0_304 : Index := 0#32
  let c0_i32_41 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_39 : BitVec 32 := 1#32
  let v84 : BitVec 32 := Scalar.subi v20 c1_i32_39
  let v86 : BitVec 32 := Scalar.subi v84 c0_i32_41
  let c1_i32_42 : BitVec 32 := 1#32
  let v88 : BitVec 32 := Scalar.divsi v86 c1_i32_42
  let v89 : BitVec 32 := Scalar.muli v88 c1_i32_42
  let v90 : BitVec 32 := Scalar.addi c0_i32_41 v89
  let c1_i32_44 : BitVec 32 := 1#32
  let arg11 : BitVec 32 := Scf.iv v90 c1_i32_44 k0_t2
  let v521 : Index := Scalar.indexCast arg11
  let c320_305 : Index := 320#32
  let c0_306 : Index := 0#32
  ![0, v521.toNat, 320, 0]
def k0_mult3 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_45 : BitVec 32 := 1#32
  let v93 : BitVec 32 := Scalar.subi v20 c1_i32_45
  let c512_i32_46 : BitVec 32 := 512#32
  let v94 : BitVec 32 := Scalar.muli v93 c512_i32_46
  v94
def k0_off19 (i : grid0.Coords) : Fin 3 → Nat :=
  let c0_47 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_45 : BitVec 32 := 1#32
  let v93 : BitVec 32 := Scalar.subi v20 c1_i32_45
  let c512_i32_46 : BitVec 32 := 512#32
  let v94 : BitVec 32 := Scalar.muli v93 c512_i32_46
  let v95 : BitVec 32 := v94
  let v96 : Index := Scalar.indexCast v95
  let c0_48 : Index := 0#32
  ![0, v96.toNat, 0]
def k0_off20 (i : grid0.Coords) : Fin 3 → Nat :=
  let c0_51 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_45 : BitVec 32 := 1#32
  let v93 : BitVec 32 := Scalar.subi v20 c1_i32_45
  let c512_i32_46 : BitVec 32 := 512#32
  let v94 : BitVec 32 := Scalar.muli v93 c512_i32_46
  let v95 : BitVec 32 := v94
  let v108 : Index := Scalar.indexCast v95
  let c0_52 : Index := 0#32
  ![0, v108.toNat, 0]
def k0_off21 (i : grid0.Coords) : Fin 3 → Nat :=
  let c0_71 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_45 : BitVec 32 := 1#32
  let v93 : BitVec 32 := Scalar.subi v20 c1_i32_45
  let c512_i32_46 : BitVec 32 := 512#32
  let v94 : BitVec 32 := Scalar.muli v93 c512_i32_46
  let v95 : BitVec 32 := v94
  let v142 : Index := Scalar.indexCast v95
  let c128_72 : Index := 128#32
  ![0, v142.toNat, 128]
def k0_off22 (i : grid0.Coords) : Fin 3 → Nat :=
  let c0_91 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_45 : BitVec 32 := 1#32
  let v93 : BitVec 32 := Scalar.subi v20 c1_i32_45
  let c512_i32_46 : BitVec 32 := 512#32
  let v94 : BitVec 32 := Scalar.muli v93 c512_i32_46
  let v95 : BitVec 32 := v94
  let v176 : Index := Scalar.indexCast v95
  let c256_92 : Index := 256#32
  ![0, v176.toNat, 256]
def k0_off23 (i : grid0.Coords) : Fin 4 → Nat :=
  let c0_105 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_45 : BitVec 32 := 1#32
  let v93 : BitVec 32 := Scalar.subi v20 c1_i32_45
  let v203 : Index := Scalar.indexCast v93
  let c0_106 : Index := 0#32
  let c0_107 : Index := 0#32
  ![0, v203.toNat, 0, 0]
def k0_off24 (i : grid0.Coords) : Fin 4 → Nat :=
  let c0_113 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_45 : BitVec 32 := 1#32
  let v93 : BitVec 32 := Scalar.subi v20 c1_i32_45
  let v218 : Index := Scalar.indexCast v93
  let c80 : Index := 80#32
  let c0_114 : Index := 0#32
  ![0, v218.toNat, 80, 0]
def k0_off25 (i : grid0.Coords) : Fin 4 → Nat :=
  let c0_126 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_45 : BitVec 32 := 1#32
  let v93 : BitVec 32 := Scalar.subi v20 c1_i32_45
  let v241 : Index := Scalar.indexCast v93
  let c160 : Index := 160#32
  let c0_127 : Index := 0#32
  ![0, v241.toNat, 160, 0]
def k0_off26 (i : grid0.Coords) : Fin 4 → Nat :=
  let c0_139 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_45 : BitVec 32 := 1#32
  let v93 : BitVec 32 := Scalar.subi v20 c1_i32_45
  let v264 : Index := Scalar.indexCast v93
  let c240 : Index := 240#32
  let c0_140 : Index := 0#32
  ![0, v264.toNat, 240, 0]
def k0_off27 (i : grid0.Coords) : Fin 4 → Nat :=
  let c0_152 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_45 : BitVec 32 := 1#32
  let v93 : BitVec 32 := Scalar.subi v20 c1_i32_45
  let v287 : Index := Scalar.indexCast v93
  let c320 : Index := 320#32
  let c0_153 : Index := 0#32
  ![0, v287.toNat, 320, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x400x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S4x8192x5x64 : Shape := ⟨4, ![4, 8192, 5, 64]⟩
abbrev S4x8192x5 : Shape := ⟨3, ![4, 8192, 5]⟩
abbrev S4x5x8192 : Shape := ⟨3, ![4, 5, 8192]⟩
abbrev S8192 : Shape := ⟨1, ![8192]⟩
abbrev S4x5x8192x8192 : Shape := ⟨4, ![4, 5, 8192, 8192]⟩
abbrev S_ : Shape := ⟨0, ![]⟩
abbrev S4x5x8192x1 : Shape := ⟨4, ![4, 5, 8192, 1]⟩
abbrev S4x5x1x8192 : Shape := ⟨4, ![4, 5, 1, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x5x64x8192 : Shape := ⟨4, ![4, 5, 64, 8192]⟩
abbrev S4x8192x320 : Shape := ⟨3, ![4, 8192, 320]⟩
abbrev S4x8192x384 : Shape := ⟨3, ![4, 8192, 384]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x5x64, .f32⟩
  | .hbm, ⟨1, _⟩ => ⟨S4x8192x5x64, .f32⟩
  | .hbm, ⟨2, _⟩ => ⟨S4x8192x5x64, .f32⟩
  | .hbm, ⟨3, _⟩ => ⟨S4x8192x5, .f32⟩
  | .hbm, ⟨4, _⟩ => ⟨S4x5x8192, .f32⟩
  | .hbm, ⟨5, _⟩ => ⟨S8192, .i32⟩
  | .hbm, ⟨6, _⟩ => ⟨S4x5x8192x8192, .f32⟩
  | .hbm, ⟨7, _⟩ => ⟨S_, .f32⟩
  | .hbm, ⟨8, _⟩ => ⟨S4x5x8192x8192, .f32⟩
  | .hbm, ⟨9, _⟩ => ⟨S4x5x8192x8192, .f32⟩
  | .hbm, ⟨10, _⟩ => ⟨S4x5x8192x1, .f32⟩
  | .hbm, ⟨11, _⟩ => ⟨S4x5x8192x8192, .f32⟩
  | .hbm, ⟨12, _⟩ => ⟨S4x5x8192x8192, .f32⟩
  | .hbm, ⟨13, _⟩ => ⟨S4x5x1x8192, .f32⟩
  | .hbm, ⟨14, _⟩ => ⟨S4x5x8192x8192, .f32⟩
  | .hbm, ⟨15, _⟩ => ⟨S4x5x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x1x8192x8192, .i1⟩
  | .hbm, ⟨22, _⟩ => ⟨S_, .f32⟩
  | .hbm, ⟨23, _⟩ => ⟨S_, .f32⟩
  | .hbm, ⟨24, _⟩ => ⟨S4x5x8192x8192, .i1⟩
  | .hbm, ⟨25, _⟩ => ⟨S4x5x8192x8192, .f32⟩
  | .hbm, ⟨26, _⟩ => ⟨S4x5x8192x8192, .f32⟩
  | .hbm, ⟨27, _⟩ => ⟨S_, .f32⟩
  | .hbm, ⟨28, _⟩ => ⟨S4x5x8192, .f32⟩
  | .hbm, ⟨29, _⟩ => ⟨S_, .f32⟩
  | .hbm, ⟨30, _⟩ => ⟨S4x5x8192, .f32⟩
  | .hbm, ⟨31, _⟩ => ⟨S4x5x8192, .f32⟩
  | .hbm, ⟨32, _⟩ => ⟨S4x5x8192x1, .f32⟩
  | .hbm, ⟨33, _⟩ => ⟨S4x5x8192x8192, .f32⟩
  | .hbm, ⟨34, _⟩ => ⟨S4x5x8192x8192, .f32⟩
  | .hbm, ⟨35, _⟩ => ⟨S4x5x8192x8192, .f32⟩
  | .hbm, ⟨36, _⟩ => ⟨S_, .f32⟩
  | .hbm, ⟨37, _⟩ => ⟨S4x5x8192, .f32⟩
  | .hbm, ⟨38, _⟩ => ⟨S4x5x8192x1, .f32⟩
  | .hbm, ⟨39, _⟩ => ⟨S4x5x8192x8192, .f32⟩
  | .hbm, ⟨40, _⟩ => ⟨S4x5x8192x8192, .f32⟩
  | .hbm, ⟨41, _⟩ => ⟨S4x5x64x8192, .f32⟩
  | .hbm, ⟨42, _⟩ => ⟨S4x8192x5x64, .f32⟩
  | .hbm, ⟨43, _⟩ => ⟨S4x8192x320, .f32⟩
  | .hbm, ⟨44, _⟩ => ⟨S_, .i32⟩
  | .hbm, ⟨45, _⟩ => ⟨S_, .f32⟩
  | .hbm, ⟨46, _⟩ => ⟨S4x8192x384, .f32⟩
  | .hbm, ⟨47, _⟩ => ⟨S4x8192x384, .bf16⟩
  | _, _ => ⟨S4x8192x5x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call1_v0 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024x5632 : Shape := ⟨2, ![1024, 5632]⟩
abbrev S2816x1024 : Shape := ⟨2, ![2816, 1024]⟩
abbrev S4x6144 : Shape := ⟨2, ![4, 6144]⟩
abbrev S1024 : Shape := ⟨1, ![1024]⟩
abbrev S4x1x6144 : Shape := ⟨3, ![4, 1, 6144]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1024x2816 : Shape := ⟨2, ![1024, 2816]⟩
abbrev S512x2816 : Shape := ⟨2, ![512, 2816]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x5632, .f32⟩
  | .hbm, ⟨3, _⟩ => ⟨S2816x1024, .f32⟩
  | .hbm, ⟨4, _⟩ => ⟨S4x6144, .f32⟩
  | .hbm, ⟨5, _⟩ => ⟨S1024, .f32⟩
  | .hbm, ⟨6, _⟩ => ⟨S4x8192x1024, .bf16⟩
  | .hbm, ⟨7, _⟩ => ⟨S1024x5632, .bf16⟩
  | .hbm, ⟨8, _⟩ => ⟨S2816x1024, .bf16⟩
  | .hbm, ⟨9, _⟩ => ⟨S4x1x6144, .f32⟩
  | .hbm, ⟨10, _⟩ => ⟨S1x1024, .f32⟩
  | .hbm, ⟨11, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x5632, .bf16⟩
  | .local _ .vmem, ⟨5, _⟩ => ⟨S2816x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x8192x1024 : Shape := ⟨3, ![4, 8192, 1024]⟩
abbrev S1024x5632 : Shape := ⟨2, ![1024, 5632]⟩
abbrev S2816x1024 : Shape := ⟨2, ![2816, 1024]⟩
abbrev S4x6144 : Shape := ⟨2, ![4, 6144]⟩
abbrev S1024 : Shape := ⟨1, ![1024]⟩
abbrev S4x1x6144 : Shape := ⟨3, ![4, 1, 6144]⟩
abbrev S4x1x1024 : Shape := ⟨3, ![4, 1, 1024]⟩
abbrev S4x8192x5632 : Shape := ⟨3, ![4, 8192, 5632]⟩
abbrev S4x8192x2816 : Shape := ⟨3, ![4, 8192, 2816]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x5632, .f32⟩
  | .hbm, ⟨3, _⟩ => ⟨S2816x1024, .f32⟩
  | .hbm, ⟨4, _⟩ => ⟨S4x6144, .f32⟩
  | .hbm, ⟨5, _⟩ => ⟨S1024, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x8192x5632, .f32⟩
  | .hbm, ⟨14, _⟩ => ⟨S4x8192x2816, .f32⟩
  | .hbm, ⟨15, _⟩ => ⟨S4x8192x2816, .f32⟩
  | .hbm, ⟨16, _⟩ => ⟨S4x8192x2816, .f32⟩
  | .hbm, ⟨17, _⟩ => ⟨S4x8192x2816, .f32⟩
  | .hbm, ⟨18, _⟩ => ⟨S_, .f32⟩
  | .hbm, ⟨19, _⟩ => ⟨S4x8192x2816, .f32⟩
  | .hbm, ⟨20, _⟩ => ⟨S4x8192x2816, .f32⟩
  | .hbm, ⟨21, _⟩ => ⟨S_, .f32⟩
  | .hbm, ⟨22, _⟩ => ⟨S4x8192x2816, .f32⟩
  | .hbm, ⟨23, _⟩ => ⟨S4x8192x2816, .f32⟩
  | .hbm, ⟨24, _⟩ => ⟨S4x8192x2816, .f32⟩
  | .hbm, ⟨25, _⟩ => ⟨S4x8192x2816, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S_, .f32⟩
  | .hbm, ⟨38, _⟩ => ⟨S4x8192x1, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S1x1x1024, .f32⟩
  | .hbm, ⟨44, _⟩ => ⟨S4x8192x1024, .f32⟩
  | .hbm, ⟨45, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x384 : Shape := ⟨3, ![4, 8192, 384]⟩
abbrev S1024x3072 : Shape := ⟨2, ![1024, 3072]⟩
abbrev S3072 : Shape := ⟨1, ![3072]⟩
abbrev S1024x1024 : Shape := ⟨2, ![1024, 1024]⟩
abbrev S4x6144 : Shape := ⟨2, ![4, 6144]⟩
abbrev S1024 : Shape := ⟨1, ![1024]⟩
abbrev S1x3072 : Shape := ⟨2, ![1, 3072]⟩
abbrev S384x1024 : Shape := ⟨2, ![384, 1024]⟩
abbrev S_ : Shape := ⟨0, ![]⟩
abbrev S320x1024 : Shape := ⟨2, ![320, 1024]⟩
abbrev S1x384x1024 : Shape := ⟨3, ![1, 384, 1024]⟩
abbrev S3x384x1024 : Shape := ⟨3, ![3, 384, 1024]⟩
abbrev S4x1x6144 : Shape := ⟨3, ![4, 1, 6144]⟩
abbrev S1x1024 : Shape := ⟨2, ![1, 1024]⟩
abbrev S1x512x1024 : Shape := ⟨3, ![1, 512, 1024]⟩
abbrev S1x512x384 : Shape := ⟨3, ![1, 512, 384]⟩
abbrev S1x1x1024 : Shape := ⟨3, ![1, 1, 1024]⟩
abbrev S512x1024 : Shape := ⟨2, ![512, 1024]⟩
abbrev S512x384 : Shape := ⟨2, ![512, 384]⟩
abbrev S512 : Shape := ⟨1, ![512]⟩
abbrev S512x1 : Shape := ⟨2, ![512, 1]⟩

abbrev nBuf : Space → Nat
  | .hbm => 39
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x384, .f32⟩
  | .hbm, ⟨3, _⟩ => ⟨S4x8192x384, .f32⟩
  | .hbm, ⟨4, _⟩ => ⟨S4x8192x384, .f32⟩
  | .hbm, ⟨5, _⟩ => ⟨S1024x3072, .f32⟩
  | .hbm, ⟨6, _⟩ => ⟨S3072, .f32⟩
  | .hbm, ⟨7, _⟩ => ⟨S1024x1024, .f32⟩
  | .hbm, ⟨8, _⟩ => ⟨S1024x1024, .f32⟩
  | .hbm, ⟨9, _⟩ => ⟨S4x6144, .f32⟩
  | .hbm, ⟨10, _⟩ => ⟨S1024, .f32⟩
  | .hbm, ⟨11, _⟩ => ⟨S4x8192x1024, .bf16⟩
  | .hbm, ⟨12, _⟩ => ⟨S4x8192x384, .bf16⟩
  | .hbm, ⟨13, _⟩ => ⟨S4x8192x384, .bf16⟩
  | .hbm, ⟨14, _⟩ => ⟨S4x8192x384, .bf16⟩
  | .hbm, ⟨15, _⟩ => ⟨S1024x3072, .bf16⟩
  | .hbm, ⟨16, _⟩ => ⟨S1x3072, .f32⟩
  | .hbm, ⟨17, _⟩ => ⟨S384x1024, .f32⟩
  | .hbm, ⟨18, _⟩ => ⟨S_, .i32⟩
  | .hbm, ⟨19, _⟩ => ⟨S_, .f32⟩
  | .hbm, ⟨20, _⟩ => ⟨S384x1024, .f32⟩
  | .hbm, ⟨21, _⟩ => ⟨S320x1024, .f32⟩
  | .hbm, ⟨22, _⟩ => ⟨S_, .i32⟩
  | .hbm, ⟨23, _⟩ => ⟨S_, .f32⟩
  | .hbm, ⟨24, _⟩ => ⟨S384x1024, .f32⟩
  | .hbm, ⟨25, _⟩ => ⟨S320x1024, .f32⟩
  | .hbm, ⟨26, _⟩ => ⟨S_, .i32⟩
  | .hbm, ⟨27, _⟩ => ⟨S_, .f32⟩
  | .hbm, ⟨28, _⟩ => ⟨S384x1024, .f32⟩
  | .hbm, ⟨29, _⟩ => ⟨S1x384x1024, .f32⟩
  | .hbm, ⟨30, _⟩ => ⟨S1x384x1024, .f32⟩
  | .hbm, ⟨31, _⟩ => ⟨S1x384x1024, .f32⟩
  | .hbm, ⟨32, _⟩ => ⟨S3x384x1024, .f32⟩
  | .hbm, ⟨33, _⟩ => ⟨S3x384x1024, .bf16⟩
  | .hbm, ⟨34, _⟩ => ⟨S1024x1024, .bf16⟩
  | .hbm, ⟨35, _⟩ => ⟨S4x1x6144, .f32⟩
  | .hbm, ⟨36, _⟩ => ⟨S1x1024, .f32⟩
  | .hbm, ⟨37, _⟩ => ⟨S4x8192x1024, .f32⟩
  | .hbm, ⟨38, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x384, .bf16⟩
  | .local _ .vmem, ⟨5, _⟩ => ⟨S1x512x384, .bf16⟩
  | .local _ .vmem, ⟨6, _⟩ => ⟨S1x512x384, .bf16⟩
  | .local _ .vmem, ⟨7, _⟩ => ⟨S1x512x384, .bf16⟩
  | .local _ .vmem, ⟨8, _⟩ => ⟨S1x512x384, .bf16⟩
  | .local _ .vmem, ⟨9, _⟩ => ⟨S1x512x384, .bf16⟩
  | .local _ .vmem, ⟨10, _⟩ => ⟨S1024x3072, .bf16⟩
  | .local _ .vmem, ⟨11, _⟩ => ⟨S1x3072, .f32⟩
  | .local _ .vmem, ⟨12, _⟩ => ⟨S3x384x1024, .bf16⟩
  | .local _ .vmem, ⟨13, _⟩ => ⟨S1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .bf16⟩
  | .local _ .vmem, ⟨24, _⟩ => ⟨S1x512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_call2_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S4x8192x1024 : Shape := ⟨3, ![4, 8192, 1024]⟩
abbrev S4x8192x384 : Shape := ⟨3, ![4, 8192, 384]⟩
abbrev S1024x3072 : Shape := ⟨2, ![1024, 3072]⟩
abbrev S3072 : Shape := ⟨1, ![3072]⟩
abbrev S1024x1024 : Shape := ⟨2, ![1024, 1024]⟩
abbrev S4x6144 : Shape := ⟨2, ![4, 6144]⟩
abbrev S1024 : Shape := ⟨1, ![1024]⟩
abbrev S4x1x6144 : Shape := ⟨3, ![4, 1, 6144]⟩
abbrev S4x1x1024 : Shape := ⟨3, ![4, 1, 1024]⟩
abbrev S4x8192x3072 : Shape := ⟨3, ![4, 8192, 3072]⟩
abbrev S1x1x3072 : Shape := ⟨3, ![1, 1, 3072]⟩
abbrev S4x8192x3x1024 : Shape := ⟨4, ![4, 8192, 3, 1024]⟩
abbrev S_ : Shape := ⟨0, ![]⟩
abbrev S4x8192x1x1024 : Shape := ⟨4, ![4, 8192, 1, 1024]⟩
abbrev S384x1024 : Shape := ⟨2, ![384, 1024]⟩
abbrev S4x8192x320 : Shape := ⟨3, ![4, 8192, 320]⟩
abbrev S320x1024 : Shape := ⟨2, ![320, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x384, .f32⟩
  | .hbm, ⟨3, _⟩ => ⟨S4x8192x384, .f32⟩
  | .hbm, ⟨4, _⟩ => ⟨S4x8192x384, .f32⟩
  | .hbm, ⟨5, _⟩ => ⟨S1024x3072, .f32⟩
  | .hbm, ⟨6, _⟩ => ⟨S3072, .f32⟩
  | .hbm, ⟨7, _⟩ => ⟨S1024x1024, .f32⟩
  | .hbm, ⟨8, _⟩ => ⟨S1024x1024, .f32⟩
  | .hbm, ⟨9, _⟩ => ⟨S4x6144, .f32⟩
  | .hbm, ⟨10, _⟩ => ⟨S1024, .f32⟩
  | .hbm, ⟨11, _⟩ => ⟨S4x1x6144, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x8192x3072, .f32⟩
  | .hbm, ⟨19, _⟩ => ⟨S1x1x3072, .f32⟩
  | .hbm, ⟨20, _⟩ => ⟨S4x8192x3072, .f32⟩
  | .hbm, ⟨21, _⟩ => ⟨S4x8192x3072, .f32⟩
  | .hbm, ⟨22, _⟩ => ⟨S4x8192x3x1024, .f32⟩
  | .hbm, ⟨23, _⟩ => ⟨S4x8192x3x1024, .f32⟩
  | .hbm, ⟨24, _⟩ => ⟨S4x8192x3x1024, .f32⟩
  | .hbm, ⟨25, _⟩ => ⟨S_, .f32⟩
  | .hbm, ⟨26, _⟩ => ⟨S4x8192x3x1024, .f32⟩
  | .hbm, ⟨27, _⟩ => ⟨S4x8192x3x1024, .f32⟩
  | .hbm, ⟨28, _⟩ => ⟨S_, .f32⟩
  | .hbm, ⟨29, _⟩ => ⟨S4x8192x3x1024, .f32⟩
  | .hbm, ⟨30, _⟩ => ⟨S4x8192x3x1024, .f32⟩
  | .hbm, ⟨31, _⟩ => ⟨S4x8192x1x1024, .f32⟩
  | .hbm, ⟨32, _⟩ => ⟨S4x8192x1024, .f32⟩
  | .hbm, ⟨33, _⟩ => ⟨S384x1024, .f32⟩
  | .hbm, ⟨34, _⟩ => ⟨S4x8192x1024, .f32⟩
  | .hbm, ⟨35, _⟩ => ⟨S4x8192x1024, .f32⟩
  | .hbm, ⟨36, _⟩ => ⟨S4x8192x1x1024, .f32⟩
  | .hbm, ⟨37, _⟩ => ⟨S4x8192x1024, .f32⟩
  | .hbm, ⟨38, _⟩ => ⟨S4x8192x320, .f32⟩
  | .hbm, ⟨39, _⟩ => ⟨S320x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1x1024, .f32⟩
  | .hbm, ⟨44, _⟩ => ⟨S4x8192x1024, .f32⟩
  | .hbm, ⟨45, _⟩ => ⟨S4x8192x320, .f32⟩
  | .hbm, ⟨46, _⟩ => ⟨S320x1024, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S_, .f32⟩
  | .hbm, ⟨62, _⟩ => ⟨S4x8192x1, .f32⟩
  | .hbm, ⟨63, _⟩ => ⟨S4x8192x1, .f32⟩
  | .hbm, ⟨64, _⟩ => ⟨S4x8192x1, .f32⟩
  | .hbm, ⟨65, _⟩ => ⟨S4x8192x1024, .f32⟩
  | .hbm, ⟨66, _⟩ => ⟨S4x8192x1024, .f32⟩
  | .hbm, ⟨67, _⟩ => ⟨S1x1x1024, .f32⟩
  | .hbm, ⟨68, _⟩ => ⟨S4x8192x1024, .f32⟩
  | .hbm, ⟨69, _⟩ => ⟨S4x8192x1024, .f32⟩
  | .hbm, ⟨70, _⟩ => ⟨S_, .f32⟩
  | .hbm, ⟨71, _⟩ => ⟨S4x1x1024, .f32⟩
  | .hbm, ⟨72, _⟩ => ⟨S4x1x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_cst_3 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_4 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel4.lean ====
abbrev S32768x1024 : Shape := ⟨2, ![32768, 1024]⟩
abbrev S1024x3661 : Shape := ⟨2, ![1024, 3661]⟩
abbrev S3661 : Shape := ⟨1, ![3661]⟩
abbrev S32768x8 : Shape := ⟨2, ![32768, 8]⟩
abbrev S_ : Shape := ⟨0, ![]⟩
abbrev S1x384 : Shape := ⟨2, ![1, 384]⟩
abbrev S1x1024 : Shape := ⟨2, ![1, 1024]⟩
abbrev S1x8 : Shape := ⟨2, ![1, 8]⟩
abbrev S1x504 : Shape := ⟨2, ![1, 504]⟩
abbrev S1x768 : Shape := ⟨2, ![1, 768]⟩
abbrev S1x4224 : Shape := ⟨2, ![1, 4224]⟩
abbrev S32768x48 : Shape := ⟨2, ![32768, 48]⟩
abbrev S32768x64 : Shape := ⟨2, ![32768, 64]⟩
abbrev S32768x128 : Shape := ⟨2, ![32768, 128]⟩
abbrev S1024x768 : Shape := ⟨2, ![1024, 768]⟩
abbrev S1024x576 : Shape := ⟨2, ![1024, 576]⟩
abbrev S1024x64 : Shape := ⟨2, ![1024, 64]⟩
abbrev S1024x8 : Shape := ⟨2, ![1024, 8]⟩
abbrev S1024x5 : Shape := ⟨2, ![1024, 5]⟩
abbrev S1024x115 : Shape := ⟨2, ![1024, 115]⟩
abbrev S1024x384 : Shape := ⟨2, ![1024, 384]⟩
abbrev S1024x320 : Shape := ⟨2, ![1024, 320]⟩
abbrev S1024x3776 : Shape := ⟨2, ![1024, 3776]⟩
abbrev S1024x448 : Shape := ⟨2, ![1024, 448]⟩
abbrev S1024x4224 : Shape := ⟨2, ![1024, 4224]⟩
abbrev S1x3661 : Shape := ⟨2, ![1, 3661]⟩
abbrev S1x576 : Shape := ⟨2, ![1, 576]⟩
abbrev S1x64 : Shape := ⟨2, ![1, 64]⟩
abbrev S1x5 : Shape := ⟨2, ![1, 5]⟩
abbrev S1x115 : Shape := ⟨2, ![1, 115]⟩
abbrev S1x320 : Shape := ⟨2, ![1, 320]⟩
abbrev S1x3776 : Shape := ⟨2, ![1, 3776]⟩
abbrev S1x448 : Shape := ⟨2, ![1, 448]⟩
abbrev S384x32768 : Shape := ⟨2, ![384, 32768]⟩
abbrev S32768x384 : Shape := ⟨2, ![32768, 384]⟩
abbrev S64x480x512 : Shape := ⟨3, ![64, 480, 512]⟩
abbrev S512x32768 : Shape := ⟨2, ![512, 32768]⟩
abbrev S8x32768 : Shape := ⟨2, ![8, 32768]⟩
abbrev S256x400x128 : Shape := ⟨3, ![256, 400, 128]⟩
abbrev S64x400x512 : Shape := ⟨3, ![64, 400, 512]⟩
abbrev S512x1024 : Shape := ⟨2, ![512, 1024]⟩
abbrev S512x128 : Shape := ⟨2, ![512, 128]⟩
abbrev S384x512 : Shape := ⟨2, ![384, 512]⟩
abbrev S512x384 : Shape := ⟨2, ![512, 384]⟩
abbrev S1x480x512 : Shape := ⟨3, ![1, 480, 512]⟩
abbrev S512x512 : Shape := ⟨2, ![512, 512]⟩
abbrev S512x64 : Shape := ⟨2, ![512, 64]⟩
abbrev S8x512 : Shape := ⟨2, ![8, 512]⟩
abbrev S4x400x128 : Shape := ⟨3, ![4, 400, 128]⟩
abbrev S1x400x512 : Shape := ⟨3, ![1, 400, 512]⟩
abbrev S1024x512 : Shape := ⟨2, ![1024, 512]⟩
abbrev S1x512 : Shape := ⟨2, ![1, 512]⟩
abbrev S1024x128 : Shape := ⟨2, ![1024, 128]⟩
abbrev S1x128 : Shape := ⟨2, ![1, 128]⟩
abbrev S128x512 : Shape := ⟨2, ![128, 512]⟩
abbrev S16x512 : Shape := ⟨2, ![16, 512]⟩
abbrev S64x512 : Shape := ⟨2, ![64, 512]⟩
abbrev S480x512 : Shape := ⟨2, ![480, 512]⟩
abbrev S16x128 : Shape := ⟨2, ![16, 128]⟩
abbrev S128x384 : Shape := ⟨2, ![128, 384]⟩
abbrev S384x128 : Shape := ⟨2, ![384, 128]⟩
abbrev S64x128 : Shape := ⟨2, ![64, 128]⟩
abbrev S400x128 : Shape := ⟨2, ![400, 128]⟩
abbrev S1x400x128 : Shape := ⟨3, ![1, 400, 128]⟩
abbrev S400x512 : Shape := ⟨2, ![400, 512]⟩

abbrev nBuf : Space → Nat
  | .hbm => 113
  | .vmem => 37
  | .smem => 0
  | _ => 0

abbrev bufTy : (tb : Table) → Fin (tcTables nBuf tb) → BufTy
  | .hbm, ⟨0, _⟩ => ⟨S32768x1024, .f32⟩
  | .hbm, ⟨1, _⟩ => ⟨S1024x3661, .f32⟩
  | .hbm, ⟨2, _⟩ => ⟨S3661, .f32⟩
  | .hbm, ⟨3, _⟩ => ⟨S32768x8, .f32⟩
  | .hbm, ⟨4, _⟩ => ⟨S32768x8, .f32⟩
  | .hbm, ⟨5, _⟩ => ⟨S_, .f32⟩
  | .hbm, ⟨6, _⟩ => ⟨S1x384, .f32⟩
  | .hbm, ⟨7, _⟩ => ⟨S_, .f32⟩
  | .hbm, ⟨8, _⟩ => ⟨S1x1024, .f32⟩
  | .hbm, ⟨9, _⟩ => ⟨S_, .f32⟩
  | .hbm, ⟨10, _⟩ => ⟨S1x8, .f32⟩
  | .hbm, ⟨11, _⟩ => ⟨S_, .f32⟩
  | .hbm, ⟨12, _⟩ => ⟨S1x504, .f32⟩
  | .hbm, ⟨13, _⟩ => ⟨S_, .f32⟩
  | .hbm, ⟨14, _⟩ => ⟨S1x384, .f32⟩
  | .hbm, ⟨15, _⟩ => ⟨S_, .f32⟩
  | .hbm, ⟨16, _⟩ => ⟨S1x768, .f32⟩
  | .hbm, ⟨17, _⟩ => ⟨S_, .f32⟩
  | .hbm, ⟨18, _⟩ => ⟨S1x384, .f32⟩
  | .hbm, ⟨19, _⟩ => ⟨S_, .f32⟩
  | .hbm, ⟨20, _⟩ => ⟨S1x768, .f32⟩
  | .hbm, ⟨21, _⟩ => ⟨S1x4224, .f32⟩
  | .hbm, ⟨22, _⟩ => ⟨S_, .f32⟩
  | .hbm, ⟨23, _⟩ => ⟨S32768x48, .f32⟩
  | .hbm, ⟨24, _⟩ => ⟨S_, .f32⟩
  | .hbm, ⟨25, _⟩ => ⟨S32768x8, .f32⟩
  | .hbm, ⟨26, _⟩ => ⟨S32768x64, .f32⟩
  | .hbm, ⟨27, _⟩ => ⟨S32768x128, .f32⟩
  | .hbm, ⟨28, _⟩ => ⟨S32768x8, .f32⟩
  | .hbm, ⟨29, _⟩ => ⟨S_, .f32⟩
  | .hbm, ⟨30, _⟩ => ⟨S32768x48, .f32⟩
  | .hbm, ⟨31, _⟩ => ⟨S32768x64, .f32⟩
  | .hbm, ⟨32, _⟩ => ⟨S32768x128, .f32⟩
  | .hbm, ⟨33, _⟩ => ⟨S_, .f32⟩
  | .hbm, ⟨34, _⟩ => ⟨S32768x48, .f32⟩
  | .hbm, ⟨35, _⟩ => ⟨S32768x64, .f32⟩
  | .hbm, ⟨36, _⟩ => ⟨S32768x128, .f32⟩
  | .hbm, ⟨37, _⟩ => ⟨S32768x1024, .bf16⟩
  | .hbm, ⟨38, _⟩ => ⟨S1024x768, .f32⟩
  | .hbm, ⟨39, _⟩ => ⟨S1024x576, .f32⟩
  | .hbm, ⟨40, _⟩ => ⟨S_, .f32⟩
  | .hbm, ⟨41, _⟩ => ⟨S1024x64, .f32⟩
  | .hbm, ⟨42, _⟩ => ⟨S1024x8, .f32⟩
  | .hbm, ⟨43, _⟩ => ⟨S1024x5, .f32⟩
  | .hbm, ⟨44, _⟩ => ⟨S_, .f32⟩
  | .hbm, ⟨45, _⟩ => ⟨S1024x115, .f32⟩
  | .hbm, ⟨46, _⟩ => ⟨S1024x384, .f32⟩
  | .hbm, ⟨47, _⟩ => ⟨S1024x320, .f32⟩
  | .hbm, ⟨48, _⟩ => ⟨S_, .f32⟩
  | .hbm, ⟨49, _⟩ => ⟨S1024x64, .f32⟩
  | .hbm, ⟨50, _⟩ => ⟨S1024x320, .f32⟩
  | .hbm, ⟨51, _⟩ => ⟨S_, .f32⟩
  | .hbm, ⟨52, _⟩ => ⟨S1024x64, .f32⟩
  | .hbm, ⟨53, _⟩ => ⟨S1024x320, .f32⟩
  | .hbm, ⟨54, _⟩ => ⟨S_, .f32⟩
  | .hbm, ⟨55, _⟩ => ⟨S1024x64, .f32⟩
  | .hbm, ⟨56, _⟩ => ⟨S1024x320, .f32⟩
  | .hbm, ⟨57, _⟩ => ⟨S_, .f32⟩
  | .hbm, ⟨58, _⟩ => ⟨S1024x64, .f32⟩
  | .hbm, ⟨59, _⟩ => ⟨S1024x320, .f32⟩
  | .hbm, ⟨60, _⟩ => ⟨S_, .f32⟩
  | .hbm, ⟨61, _⟩ => ⟨S1024x64, .f32⟩
  | .hbm, ⟨62, _⟩ => ⟨S1024x320, .f32⟩
  | .hbm, ⟨63, _⟩ => ⟨S_, .f32⟩
  | .hbm, ⟨64, _⟩ => ⟨S1024x64, .f32⟩
  | .hbm, ⟨65, _⟩ => ⟨S1024x3776, .f32⟩
  | .hbm, ⟨66, _⟩ => ⟨S1024x448, .f32⟩
  | .hbm, ⟨67, _⟩ => ⟨S1024x4224, .f32⟩
  | .hbm, ⟨68, _⟩ => ⟨S1024x4224, .bf16⟩
  | .hbm, ⟨69, _⟩ => ⟨S1x3661, .f32⟩
  | .hbm, ⟨70, _⟩ => ⟨S1x768, .f32⟩
  | .hbm, ⟨71, _⟩ => ⟨S1x576, .f32⟩
  | .hbm, ⟨72, _⟩ => ⟨S_, .f32⟩
  | .hbm, ⟨73, _⟩ => ⟨S1x64, .f32⟩
  | .hbm, ⟨74, _⟩ => ⟨S1x8, .f32⟩
  | .hbm, ⟨75, _⟩ => ⟨S1x5, .f32⟩
  | .hbm, ⟨76, _⟩ => ⟨S_, .f32⟩
  | .hbm, ⟨77, _⟩ => ⟨S1x115, .f32⟩
  | .hbm, ⟨78, _⟩ => ⟨S1x384, .f32⟩
  | .hbm, ⟨79, _⟩ => ⟨S1x320, .f32⟩
  | .hbm, ⟨80, _⟩ => ⟨S_, .f32⟩
  | .hbm, ⟨81, _⟩ => ⟨S1x64, .f32⟩
  | .hbm, ⟨82, _⟩ => ⟨S1x320, .f32⟩
  | .hbm, ⟨83, _⟩ => ⟨S_, .f32⟩
  | .hbm, ⟨84, _⟩ => ⟨S1x64, .f32⟩
  | .hbm, ⟨85, _⟩ => ⟨S1x320, .f32⟩
  | .hbm, ⟨86, _⟩ => ⟨S_, .f32⟩
  | .hbm, ⟨87, _⟩ => ⟨S1x64, .f32⟩
  | .hbm, ⟨88, _⟩ => ⟨S1x320, .f32⟩
  | .hbm, ⟨89, _⟩ => ⟨S_, .f32⟩
  | .hbm, ⟨90, _⟩ => ⟨S1x64, .f32⟩
  | .hbm, ⟨91, _⟩ => ⟨S1x320, .f32⟩
  | .hbm, ⟨92, _⟩ => ⟨S_, .f32⟩
  | .hbm, ⟨93, _⟩ => ⟨S1x64, .f32⟩
  | .hbm, ⟨94, _⟩ => ⟨S1x320, .f32⟩
  | .hbm, ⟨95, _⟩ => ⟨S_, .f32⟩
  | .hbm, ⟨96, _⟩ => ⟨S1x64, .f32⟩
  | .hbm, ⟨97, _⟩ => ⟨S1x3776, .f32⟩
  | .hbm, ⟨98, _⟩ => ⟨S1x448, .f32⟩
  | .hbm, ⟨99, _⟩ => ⟨S1x4224, .f32⟩
  | .hbm, ⟨100, _⟩ => ⟨S384x32768, .bf16⟩
  | .hbm, ⟨101, _⟩ => ⟨S32768x384, .bf16⟩
  | .hbm, ⟨102, _⟩ => ⟨S64x480x512, .bf16⟩
  | .hbm, ⟨103, _⟩ => ⟨S512x32768, .bf16⟩
  | .hbm, ⟨104, _⟩ => ⟨S32768x64, .bf16⟩
  | .hbm, ⟨105, _⟩ => ⟨S8x32768, .f32⟩
  | .hbm, ⟨106, _⟩ => ⟨S32768x128, .f32⟩
  | .hbm, ⟨107, _⟩ => ⟨S384x32768, .bf16⟩
  | .hbm, ⟨108, _⟩ => ⟨S32768x384, .bf16⟩
  | .hbm, ⟨109, _⟩ => ⟨S256x400x128, .bf16⟩
  | .hbm, ⟨110, _⟩ => ⟨S384x32768, .bf16⟩
  | .hbm, ⟨111, _⟩ => ⟨S32768x384, .bf16⟩
  | .hbm, ⟨112, _⟩ => ⟨S64x400x512, .bf16⟩
  | .local _ .vmem, ⟨0, _⟩ => ⟨S512x1024, .bf16⟩
  | .local _ .vmem, ⟨1, _⟩ => ⟨S512x1024, .bf16⟩
  | .local _ .vmem, ⟨2, _⟩ => ⟨S1024x4224, .bf16⟩
  | .local _ .vmem, ⟨3, _⟩ => ⟨S1x4224, .f32⟩
  | .local _ .vmem, ⟨4, _⟩ => ⟨S1x4224, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S384x512, .bf16⟩
  | .local _ .vmem, ⟨12, _⟩ => ⟨S384x512, .bf16⟩
  | .local _ .vmem, ⟨13, _⟩ => ⟨S512x384, .bf16⟩
  | .local _ .vmem, ⟨14, _⟩ => ⟨S512x384, .bf16⟩
  | .local _ .vmem, ⟨15, _⟩ => ⟨S1x480x512, .bf16⟩
  | .local _ .vmem, ⟨16, _⟩ => ⟨S1x480x512, .bf16⟩
  | .local _ .vmem, ⟨17, _⟩ => ⟨S512x512, .bf16⟩
  | .local _ .vmem, ⟨18, _⟩ => ⟨S512x512, .bf16⟩
  | .local _ .vmem, ⟨19, _⟩ => ⟨S512x64, .bf16⟩
  | .local _ .vmem, ⟨20, _⟩ => ⟨S512x64, .bf16⟩
  | .local _ .vmem, ⟨21, _⟩ => ⟨S8x512, .f32⟩
  | .local _ .vmem, ⟨22, _⟩ => ⟨S8x512, .f32⟩
  | .local _ .vmem, ⟨23, _⟩ => ⟨S512x128, .f32⟩
  | .local _ .vmem, ⟨24, _⟩ => ⟨S512x128, .f32⟩
  | .local _ .vmem, ⟨25, _⟩ => ⟨S384x512, .bf16⟩
  | .local _ .vmem, ⟨26, _⟩ => ⟨S384x512, .bf16⟩
  | .local _ .vmem, ⟨27, _⟩ => ⟨S512x384, .bf16⟩
  | .local _ .vmem, ⟨28, _⟩ => ⟨S512x384, .bf16⟩
  | .local _ .vmem, ⟨29, _⟩ => ⟨S4x400x128, .bf16⟩
  | .local _ .vmem, ⟨30, _⟩ => ⟨S4x400x128, .bf16⟩
  | .local _ .vmem, ⟨31, _⟩ => ⟨S384x512, .bf16⟩
  | .local _ .vmem, ⟨32, _⟩ => ⟨S384x512, .bf16⟩
  | .local _ .vmem, ⟨33, _⟩ => ⟨S512x384, .bf16⟩
  | .local _ .vmem, ⟨34, _⟩ => ⟨S512x384, .bf16⟩
  | .local _ .vmem, ⟨35, _⟩ => ⟨S1x400x512, .bf16⟩
  | .local _ .vmem, ⟨36, _⟩ => ⟨S1x400x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩
abbrev main_cst_4 : Ref sig .tc := ⟨.hbm, 15, rfl⟩
abbrev main_v5 : Ref sig .tc := ⟨.hbm, 16, rfl⟩
abbrev main_cst_5 : Ref sig .tc := ⟨.hbm, 17, rfl⟩
abbrev main_v6 : Ref sig .tc := ⟨.hbm, 18, rfl⟩
abbrev main_cst_6 : Ref sig .tc := ⟨.hbm, 19, rfl⟩
abbrev main_v7 : Ref sig .tc := ⟨.hbm, 20, rfl⟩
abbrev main_v8 : Ref sig .tc := ⟨.hbm, 21, rfl⟩
abbrev main_cst_7 : Ref sig .tc := ⟨.hbm, 22, rfl⟩
abbrev main_v9 : Ref sig .tc := ⟨.hbm, 23, rfl⟩
abbrev main_cst_8 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_9 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_10 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_11 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_12 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_13 : Ref sig .tc := ⟨.hbm, 48, rfl⟩
abbrev main_v29 : Ref sig .tc := ⟨.hbm, 49, rfl⟩
abbrev main_v30 : Ref sig .tc := ⟨.hbm, 50, rfl⟩
abbrev main_cst_14 : Ref sig .tc := ⟨.hbm, 51, rfl⟩
abbrev main_v31 : Ref sig .tc := ⟨.hbm, 52, rfl⟩
abbrev main_v32 : Ref sig .tc := ⟨.hbm, 53, rfl⟩
abbrev main_cst_15 : Ref sig .tc := ⟨.hbm, 54, rfl⟩
abbrev main_v33 : Ref sig .tc := ⟨.hbm, 55, rfl⟩
abbrev main_v34 : Ref sig .tc := ⟨.hbm, 56, rfl⟩
abbrev main_cst_16 : Ref sig .tc := ⟨.hbm, 57, rfl⟩
abbrev main_v35 : Ref sig .tc := ⟨.hbm, 58, rfl⟩
abbrev main_v36 : Ref sig .tc := ⟨.hbm, 59, rfl⟩
abbrev main_cst_17 : Ref sig .tc := ⟨.hbm, 60, rfl⟩
abbrev main_v37 : Ref sig .tc := ⟨.hbm, 61, rfl⟩
abbrev main_v38 : Ref sig .tc := ⟨.hbm, 62, rfl⟩
abbrev main_cst_18 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_19 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_20 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_21 : Ref sig .tc := ⟨.hbm, 80, rfl⟩
abbrev main_v53 : Ref sig .tc := ⟨.hbm, 81, rfl⟩
abbrev main_v54 : Ref sig .tc := ⟨.hbm, 82, rfl⟩
abbrev main_cst_22 : Ref sig .tc := ⟨.hbm, 83, rfl⟩
abbrev main_v55 : Ref sig .tc := ⟨.hbm, 84, rfl⟩
abbrev main_v56 : Ref sig .tc := ⟨.hbm, 85, rfl⟩
abbrev main_cst_23 : Ref sig .tc := ⟨.hbm, 86, rfl⟩
abbrev main_v57 : Ref sig .tc := ⟨.hbm, 87, rfl⟩
abbrev main_v58 : Ref sig .tc := ⟨.hbm, 88, rfl⟩
abbrev main_cst_24 : Ref sig .tc := ⟨.hbm, 89, rfl⟩
abbrev main_v59 : Ref sig .tc := ⟨.hbm, 90, rfl⟩
abbrev main_v60 : Ref sig .tc := ⟨.hbm, 91, rfl⟩
abbrev main_cst_25 : Ref sig .tc := ⟨.hbm, 92, rfl⟩
abbrev main_v61 : Ref sig .tc := ⟨.hbm, 93, rfl⟩
abbrev main_v62 : Ref sig .tc := ⟨.hbm, 94, rfl⟩
abbrev main_cst_26 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67_0 : Ref sig .tc := ⟨.hbm, 100, rfl⟩
abbrev main_v67_1 : Ref sig .tc := ⟨.hbm, 101, rfl⟩
abbrev main_v67_2 : Ref sig .tc := ⟨.hbm, 102, rfl⟩
abbrev main_v67_3 : Ref sig .tc := ⟨.hbm, 103, rfl⟩
abbrev main_v67_4 : Ref sig .tc := ⟨.hbm, 104, rfl⟩
abbrev main_v67_5 : Ref sig .tc := ⟨.hbm, 105, rfl⟩
abbrev main_v67_6 : Ref sig .tc := ⟨.hbm, 106, rfl⟩
abbrev main_v67_7 : Ref sig .tc := ⟨.hbm, 107, rfl⟩
abbrev main_v67_8 : Ref sig .tc := ⟨.hbm, 108, rfl⟩
abbrev main_v67_9 : Ref sig .tc := ⟨.hbm, 109, rfl⟩
abbrev main_v67_10 : Ref sig .tc := ⟨.hbm, 110, rfl⟩
abbrev main_v67_11 : Ref sig .tc := ⟨.hbm, 111, rfl⟩
abbrev main_v67_12 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x480x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x400x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S384x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x384 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x400x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S32768x1024 : Shape := ⟨2, ![32768, 1024]⟩
abbrev S1024x3661 : Shape := ⟨2, ![1024, 3661]⟩
abbrev S3661 : Shape := ⟨1, ![3661]⟩
abbrev S32768x8 : Shape := ⟨2, ![32768, 8]⟩
abbrev S32768x3661 : Shape := ⟨2, ![32768, 3661]⟩
abbrev S1x3661 : Shape := ⟨2, ![1, 3661]⟩
abbrev S32768x384 : Shape := ⟨2, ![32768, 384]⟩
abbrev S32768x512 : Shape := ⟨2, ![32768, 512]⟩
abbrev S32768x64 : Shape := ⟨2, ![32768, 64]⟩
abbrev S32768x960 : Shape := ⟨2, ![32768, 960]⟩
abbrev S32768x5 : Shape := ⟨2, ![32768, 5]⟩
abbrev S_ : Shape := ⟨0, ![]⟩
abbrev S32768x1344 : Shape := ⟨2, ![32768, 1344]⟩
abbrev S32768x21x64 : Shape := ⟨3, ![32768, 21, 64]⟩
abbrev S32768x1x8 : Shape := ⟨3, ![32768, 1, 8]⟩
abbrev S32768x21x8 : Shape := ⟨3, ![32768, 21, 8]⟩
abbrev S32768x21x48 : Shape := ⟨3, ![32768, 21, 48]⟩
abbrev S32768x320 : Shape := ⟨2, ![32768, 320]⟩
abbrev S32768x13 : Shape := ⟨2, ![32768, 13]⟩
abbrev S32768x128 : Shape := ⟨2, ![32768, 128]⟩
abbrev S384x32768 : Shape := ⟨2, ![384, 32768]⟩
abbrev S64x512x6x64 : Shape := ⟨4, ![64, 512, 6, 64]⟩
abbrev S64x6x64x512 : Shape := ⟨4, ![64, 6, 64, 512]⟩
abbrev S64x6x80x512 : Shape := ⟨4, ![64, 6, 80, 512]⟩
abbrev S64x480x512 : Shape := ⟨3, ![64, 480, 512]⟩
abbrev S512x32768 : Shape := ⟨2, ![512, 32768]⟩
abbrev S8x32768 : Shape := ⟨2, ![8, 32768]⟩
abbrev S256x128x5x64 : Shape := ⟨4, ![256, 128, 5, 64]⟩
abbrev S256x5x64x128 : Shape := ⟨4, ![256, 5, 64, 128]⟩
abbrev S256x5x80x128 : Shape := ⟨4, ![256, 5, 80, 128]⟩
abbrev S256x400x128 : Shape := ⟨3, ![256, 400, 128]⟩
abbrev S64x512x5x64 : Shape := ⟨4, ![64, 512, 5, 64]⟩
abbrev S64x5x64x512 : Shape := ⟨4, ![64, 5, 64, 512]⟩
abbrev S64x5x80x512 : Shape := ⟨4, ![64, 5, 80, 512]⟩
abbrev S64x400x512 : Shape := ⟨3, ![64, 400, 512]⟩

abbrev nBuf : Space → Nat
  | .hbm => 109
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3661, .f32⟩
  | .hbm, ⟨2, _⟩ => ⟨S3661, .f32⟩
  | .hbm, ⟨3, _⟩ => ⟨S32768x8, .f32⟩
  | .hbm, ⟨4, _⟩ => ⟨S32768x8, .f32⟩
  | .hbm, ⟨5, _⟩ => ⟨S32768x3661, .f32⟩
  | .hbm, ⟨6, _⟩ => ⟨S1x3661, .f32⟩
  | .hbm, ⟨7, _⟩ => ⟨S32768x3661, .f32⟩
  | .hbm, ⟨8, _⟩ => ⟨S32768x3661, .f32⟩
  | .hbm, ⟨9, _⟩ => ⟨S32768x384, .f32⟩
  | .hbm, ⟨10, _⟩ => ⟨S32768x384, .f32⟩
  | .hbm, ⟨11, _⟩ => ⟨S32768x384, .f32⟩
  | .hbm, ⟨12, _⟩ => ⟨S32768x512, .f32⟩
  | .hbm, ⟨13, _⟩ => ⟨S32768x64, .f32⟩
  | .hbm, ⟨14, _⟩ => ⟨S32768x8, .f32⟩
  | .hbm, ⟨15, _⟩ => ⟨S32768x960, .f32⟩
  | .hbm, ⟨16, _⟩ => ⟨S32768x960, .f32⟩
  | .hbm, ⟨17, _⟩ => ⟨S32768x5, .f32⟩
  | .hbm, ⟨18, _⟩ => ⟨S_, .f32⟩
  | .hbm, ⟨19, _⟩ => ⟨S32768x384, .f32⟩
  | .hbm, ⟨20, _⟩ => ⟨S32768x384, .f32⟩
  | .hbm, ⟨21, _⟩ => ⟨S32768x1344, .f32⟩
  | .hbm, ⟨22, _⟩ => ⟨S32768x21x64, .f32⟩
  | .hbm, ⟨23, _⟩ => ⟨S32768x1x8, .f32⟩
  | .hbm, ⟨24, _⟩ => ⟨S32768x1x8, .f32⟩
  | .hbm, ⟨25, _⟩ => ⟨S32768x21x8, .f32⟩
  | .hbm, ⟨26, _⟩ => ⟨S32768x21x8, .f32⟩
  | .hbm, ⟨27, _⟩ => ⟨S32768x21x48, .f32⟩
  | .hbm, ⟨28, _⟩ => ⟨S32768x21x8, .f32⟩
  | .hbm, ⟨29, _⟩ => ⟨S32768x21x8, .f32⟩
  | .hbm, ⟨30, _⟩ => ⟨S32768x21x8, .f32⟩
  | .hbm, ⟨31, _⟩ => ⟨S32768x21x8, .f32⟩
  | .hbm, ⟨32, _⟩ => ⟨S32768x21x8, .f32⟩
  | .hbm, ⟨33, _⟩ => ⟨S32768x21x8, .f32⟩
  | .hbm, ⟨34, _⟩ => ⟨S32768x21x8, .f32⟩
  | .hbm, ⟨35, _⟩ => ⟨S32768x21x8, .f32⟩
  | .hbm, ⟨36, _⟩ => ⟨S32768x21x8, .f32⟩
  | .hbm, ⟨37, _⟩ => ⟨S32768x21x8, .f32⟩
  | .hbm, ⟨38, _⟩ => ⟨S32768x21x64, .f32⟩
  | .hbm, ⟨39, _⟩ => ⟨S32768x1344, .f32⟩
  | .hbm, ⟨40, _⟩ => ⟨S32768x384, .f32⟩
  | .hbm, ⟨41, _⟩ => ⟨S32768x384, .f32⟩
  | .hbm, ⟨42, _⟩ => ⟨S32768x512, .f32⟩
  | .hbm, ⟨43, _⟩ => ⟨S32768x64, .f32⟩
  | .hbm, ⟨44, _⟩ => ⟨S32768x320, .f32⟩
  | .hbm, ⟨45, _⟩ => ⟨S32768x320, .f32⟩
  | .hbm, ⟨46, _⟩ => ⟨S32768x320, .f32⟩
  | .hbm, ⟨47, _⟩ => ⟨S32768x320, .f32⟩
  | .hbm, ⟨48, _⟩ => ⟨S32768x320, .f32⟩
  | .hbm, ⟨49, _⟩ => ⟨S32768x320, .f32⟩
  | .hbm, ⟨50, _⟩ => ⟨S_, .f32⟩
  | .hbm, ⟨51, _⟩ => ⟨S32768x8, .f32⟩
  | .hbm, ⟨52, _⟩ => ⟨S32768x8, .f32⟩
  | .hbm, ⟨53, _⟩ => ⟨S32768x13, .f32⟩
  | .hbm, ⟨54, _⟩ => ⟨S_, .f32⟩
  | .hbm, ⟨55, _⟩ => ⟨S_, .f32⟩
  | .hbm, ⟨56, _⟩ => ⟨S32768x128, .f32⟩
  | .hbm, ⟨57, _⟩ => ⟨S384x32768, .f32⟩
  | .hbm, ⟨58, _⟩ => ⟨S384x32768, .bf16⟩
  | .hbm, ⟨59, _⟩ => ⟨S32768x384, .bf16⟩
  | .hbm, ⟨60, _⟩ => ⟨S64x512x6x64, .f32⟩
  | .hbm, ⟨61, _⟩ => ⟨S64x6x64x512, .f32⟩
  | .hbm, ⟨62, _⟩ => ⟨S_, .f32⟩
  | .hbm, ⟨63, _⟩ => ⟨S_, .f32⟩
  | .hbm, ⟨64, _⟩ => ⟨S64x6x80x512, .f32⟩
  | .hbm, ⟨65, _⟩ => ⟨S64x480x512, .f32⟩
  | .hbm, ⟨66, _⟩ => ⟨S64x480x512, .bf16⟩
  | .hbm, ⟨67, _⟩ => ⟨S512x32768, .f32⟩
  | .hbm, ⟨68, _⟩ => ⟨S512x32768, .bf16⟩
  | .hbm, ⟨69, _⟩ => ⟨S32768x64, .bf16⟩
  | .hbm, ⟨70, _⟩ => ⟨S8x32768, .f32⟩
  | .hbm, ⟨71, _⟩ => ⟨S_, .f32⟩
  | .hbm, ⟨72, _⟩ => ⟨S32768x320, .f32⟩
  | .hbm, ⟨73, _⟩ => ⟨S32768x320, .f32⟩
  | .hbm, ⟨74, _⟩ => ⟨S_, .f32⟩
  | .hbm, ⟨75, _⟩ => ⟨S_, .f32⟩
  | .hbm, ⟨76, _⟩ => ⟨S32768x384, .f32⟩
  | .hbm, ⟨77, _⟩ => ⟨S384x32768, .f32⟩
  | .hbm, ⟨78, _⟩ => ⟨S384x32768, .bf16⟩
  | .hbm, ⟨79, _⟩ => ⟨S_, .f32⟩
  | .hbm, ⟨80, _⟩ => ⟨S_, .f32⟩
  | .hbm, ⟨81, _⟩ => ⟨S32768x384, .f32⟩
  | .hbm, ⟨82, _⟩ => ⟨S32768x384, .bf16⟩
  | .hbm, ⟨83, _⟩ => ⟨S256x128x5x64, .f32⟩
  | .hbm, ⟨84, _⟩ => ⟨S256x5x64x128, .f32⟩
  | .hbm, ⟨85, _⟩ => ⟨S_, .f32⟩
  | .hbm, ⟨86, _⟩ => ⟨S_, .f32⟩
  | .hbm, ⟨87, _⟩ => ⟨S256x5x80x128, .f32⟩
  | .hbm, ⟨88, _⟩ => ⟨S256x400x128, .f32⟩
  | .hbm, ⟨89, _⟩ => ⟨S256x400x128, .bf16⟩
  | .hbm, ⟨90, _⟩ => ⟨S_, .f32⟩
  | .hbm, ⟨91, _⟩ => ⟨S32768x320, .f32⟩
  | .hbm, ⟨92, _⟩ => ⟨S32768x320, .f32⟩
  | .hbm, ⟨93, _⟩ => ⟨S_, .f32⟩
  | .hbm, ⟨94, _⟩ => ⟨S_, .f32⟩
  | .hbm, ⟨95, _⟩ => ⟨S32768x384, .f32⟩
  | .hbm, ⟨96, _⟩ => ⟨S384x32768, .f32⟩
  | .hbm, ⟨97, _⟩ => ⟨S384x32768, .bf16⟩
  | .hbm, ⟨98, _⟩ => ⟨S_, .f32⟩
  | .hbm, ⟨99, _⟩ => ⟨S_, .f32⟩
  | .hbm, ⟨100, _⟩ => ⟨S32768x384, .f32⟩
  | .hbm, ⟨101, _⟩ => ⟨S32768x384, .bf16⟩
  | .hbm, ⟨102, _⟩ => ⟨S64x512x5x64, .f32⟩
  | .hbm, ⟨103, _⟩ => ⟨S64x5x64x512, .f32⟩
  | .hbm, ⟨104, _⟩ => ⟨S_, .f32⟩
  | .hbm, ⟨105, _⟩ => ⟨S_, .f32⟩
  | .hbm, ⟨106, _⟩ => ⟨S64x5x80x512, .f32⟩
  | .hbm, ⟨107, _⟩ => ⟨S64x400x512, .f32⟩
  | .hbm, ⟨108, _⟩ => ⟨S64x400x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_0 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_1 : Ref sig .tc := ⟨.hbm, 54, rfl⟩
abbrev main_call0_v0 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_2 : Ref sig .tc := ⟨.hbm, 62, rfl⟩
abbrev main_call1_v0 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_3 : Ref sig .tc := ⟨.hbm, 71, rfl⟩
abbrev main_v60 : Ref sig .tc := ⟨.hbm, 72, rfl⟩
abbrev main_v61 : Ref sig .tc := ⟨.hbm, 73, rfl⟩
abbrev main_cst_4 : Ref sig .tc := ⟨.hbm, 74, rfl⟩
abbrev main_call2_v0 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_call3_v0 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_call4_v0 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_7 : Ref sig .tc := ⟨.hbm, 90, rfl⟩
abbrev main_v72 : Ref sig .tc := ⟨.hbm, 91, rfl⟩
abbrev main_v73 : Ref sig .tc := ⟨.hbm, 92, rfl⟩
abbrev main_cst_8 : Ref sig .tc := ⟨.hbm, 93, rfl⟩
abbrev main_call5_v0 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_9 : Ref sig .tc := ⟨.hbm, 98, rfl⟩
abbrev main_call6_v0 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_10 : Ref sig .tc := ⟨.hbm, 104, rfl⟩
abbrev main_call7_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Proof.Trip.lean ====
/- The two counted loops of the forgetting attention's kernel, each by an invariant in closed form: the running maxima
   and accumulators before trip `k` are a recursion over values (`state`), and the buffer of scores is owned at any
   contents, since every trip writes the slots it reads. The second loop (the remainder of the first) makes no trip. -/
module

public import proofs.«01_k».proof.Proof.Gen.KernelIdeal.Loops
public import Idealize.ShloMosaic.Lib.Pipeline.ReadBack

@[expose] public section

set_option maxRecDepth 16384

noncomputable section

namespace Cert.KernelIdeal.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The five heads' running maxima. -/
abbrev Rows (F : FTy → Type) : Type :=
  FVec F S1x512 .f32 × FVec F S1x512 .f32 × FVec F S1x512 .f32 × FVec F S1x512 .f32 × FVec F S1x512 .f32

/-- The five heads' accumulators. -/
abbrev Accs (F : FTy → Type) : Type :=
  Vec F S1x80x512 .f32 × Vec F S1x80x512 .f32 × Vec F S1x80x512 .f32 × Vec F S1x80x512 .f32 × Vec F S1x80x512 .f32

/-- What one trip reads: the keys' forget logarithms, the three pairs of heads' keys, the five heads' values and
    masked queries, and the queries' scaled forget logarithms. -/
structure Reads (F : FTy → Type) where
  f : Vec F S1x512x128 .f32
  k0 : Vec F S1x512x128 .bf16
  k1 : Vec F S1x512x128 .bf16
  k2 : Vec F S1x512x128 .bf16
  v0 : Vec F S1x1x80x512 .bf16
  v1 : Vec F S1x1x80x512 .bf16
  v2 : Vec F S1x1x80x512 .bf16
  v3 : Vec F S1x1x80x512 .bf16
  v4 : Vec F S1x1x80x512 .bf16
  q0 : Vec F S1x128x512 .bf16
  q1 : Vec F S1x128x512 .bf16
  q2 : Vec F S1x128x512 .bf16
  q3 : Vec F S1x128x512 .bf16
  q4 : Vec F S1x128x512 .bf16
  fq : FVec F S8x512 .f32

/-- The five heads' scores. -/
abbrev Scores (F : FTy → Type) : Type :=
  FVec F S1x512x512 .f32 × FVec F S1x512x512 .f32 × FVec F S1x512x512 .f32 × FVec F S1x512x512 .f32 × FVec F S1x512x512 .f32

/-- The scores of a trip. -/
def scores (r : Reads F) : Scores F :=
  (k0_pay3 r.fq r.f r.k0 r.q0, k0_pay5 (k0_pay4 r.fq r.f r.k0 r.q1), k0_pay6 r.fq (k0_pay2 r.f) r.k1 r.q2,
    k0_pay7 r.fq (k0_pay2 r.f) r.k1 r.q3, k0_pay9 r.fq (k0_pay2 r.f) (k0_pay8 r.k2) r.q4)

/-- The running maxima after a trip of scores `s`. -/
def rows (s : Scores F) (m : Rows F) : Rows F :=
  (k0_pay11 m.1 s.1, k0_pay15 m.2.1 s.2.1, k0_pay21 m.2.2.1 s.2.2.1, k0_pay26 m.2.2.2.1 s.2.2.2.1,
    k0_pay31 m.2.2.2.2 s.2.2.2.2)

/-- The accumulators after a trip of scores `s` that finds the maxima `m` and the accumulators `a`. -/
def accs (r : Reads F) (s : Scores F) (m : Rows F) (a : Accs F) : Accs F :=
  (k0_pay19 (k0_pay12 m.1 s.1) (k0_pay13 m.1 s.1 r.v0) a.1,
    k0_pay24 (k0_pay16 m.2.1 s.2.1) (k0_pay17 m.2.1 s.2.1) (k0_pay18 r.v1) a.2.1,
    k0_pay29 (k0_pay22 m.2.2.1 s.2.2.1) (k0_pay23 m.2.2.1 s.2.2.1 r.v2) a.2.2.1,
    k0_pay77 (k0_pay27 m.2.2.2.1 s.2.2.2.1) (k0_pay28 m.2.2.2.1 s.2.2.2.1 r.v3) a.2.2.2.1,
    k0_pay78 (k0_pay32 m.2.2.2.2 s.2.2.2.2) (k0_pay33 m.2.2.2.2 s.2.2.2.2 r.v4) a.2.2.2.2)

/-- Trip `k`'s reads, from the contents of the buffers that it reads. -/
def readsAt (i : grid0.Coords) (arg3 : Memref sig .tc .vmem S1x8192x384 .bf16) (arg4 : Memref sig .tc .vmem S1x16x400x512 .bf16)
    (arg5 : Memref sig .tc .vmem S1x8192x128 .f32) (arg8 : Memref sig .tc .vmem S5x128x512 .bf16) (v76 : Vec F S1x1x8x512 .f32)
    (X3 : BufTy.Contents (Elt F) arg3.view.ty) (X4 : BufTy.Contents (Elt F) arg4.view.ty)
    (X5 : BufTy.Contents (Elt F) arg5.view.ty) (X8 : BufTy.Contents (Elt F) arg8.view.ty) (k : Fin (k0_t1_loop i).trips) : Reads F where
  f := View.readAt (Elt F) arg5.view (Rect.unit (s := S1x8192x128) (k0_off1 i k) S1x512x128.size (k0_off1_inb i k)).toLoadRect X5
  k0 := View.readAt (Elt F) arg3.view (Rect.unit (s := S1x8192x384) (k0_off2 i k) S1x512x128.size (k0_off2_inb i k)).toLoadRect X3
  k1 := View.readAt (Elt F) arg3.view (Rect.unit (s := S1x8192x384) (k0_off3 i k) S1x512x128.size (k0_off3_inb i k)).toLoadRect X3
  k2 := View.readAt (Elt F) arg3.view (Rect.unit (s := S1x8192x384) (k0_off4 i k) S1x512x128.size (k0_off4_inb i k)).toLoadRect X3
  v0 := View.readAt (Elt F) arg4.view (Rect.unit (s := S1x16x400x512) (k0_off5 i k) S1x1x80x512.size (k0_off5_inb i k)).toLoadRect X4
  v1 := View.readAt (Elt F) arg4.view (Rect.unit (s := S1x16x400x512) (k0_off6 i k) S1x1x80x512.size (k0_off6_inb i k)).toLoadRect X4
  v2 := View.readAt (Elt F) arg4.view (Rect.unit (s := S1x16x400x512) (k0_off7 i k) S1x1x80x512.size (k0_off7_inb i k)).toLoadRect X4
  v3 := View.readAt (Elt F) arg4.view (Rect.unit (s := S1x16x400x512) (k0_off8 i k) S1x1x80x512.size (k0_off8_inb i k)).toLoadRect X4
  v4 := View.readAt (Elt F) arg4.view (Rect.unit (s := S1x16x400x512) (k0_off9 i k) S1x1x80x512.size (k0_off9_inb i k)).toLoadRect X4
  q0 := View.readAt (Elt F) arg8.view (Rect.unit (s := S5x128x512) ![0, 0, 0] S1x128x512.size inb_S5x128x512_S1x128x512_0_0_0).toLoadRect X8
  q1 := View.readAt (Elt F) arg8.view (Rect.unit (s := S5x128x512) ![1, 0, 0] S1x128x512.size inb_S5x128x512_S1x128x512_1_0_0).toLoadRect X8
  q2 := View.readAt (Elt F) arg8.view (Rect.unit (s := S5x128x512) ![2, 0, 0] S1x128x512.size inb_S5x128x512_S1x128x512_2_0_0).toLoadRect X8
  q3 := View.readAt (Elt F) arg8.view (Rect.unit (s := S5x128x512) ![3, 0, 0] S1x128x512.size inb_S5x128x512_S1x128x512_3_0_0).toLoadRect X8
  q4 := View.readAt (Elt F) arg8.view (Rect.unit (s := S5x128x512) ![4, 0, 0] S1x128x512.size inb_S5x128x512_S1x128x512_4_0_0).toLoadRect X8
  fq := k0_pay74 v76

/-- The five accumulators that a buffer holds. -/
def slots (arg9 : Memref sig .tc .vmem S5x80x512 .f32) (X9 : BufTy.Contents (Elt F) arg9.view.ty) : Accs F :=
  (View.readAt (Elt F) arg9.view (Rect.unit (s := S5x80x512) ![0, 0, 0] S1x80x512.size inb_S5x80x512_S1x80x512_0_0_0).toLoadRect X9,
    View.readAt (Elt F) arg9.view (Rect.unit (s := S5x80x512) ![1, 0, 0] S1x80x512.size inb_S5x80x512_S1x80x512_1_0_0).toLoadRect X9,
    View.readAt (Elt F) arg9.view (Rect.unit (s := S5x80x512) ![2, 0, 0] S1x80x512.size inb_S5x80x512_S1x80x512_2_0_0).toLoadRect X9,
    View.readAt (Elt F) arg9.view (Rect.unit (s := S5x80x512) ![3, 0, 0] S1x80x512.size inb_S5x80x512_S1x80x512_3_0_0).toLoadRect X9,
    View.readAt (Elt F) arg9.view (Rect.unit (s := S5x80x512) ![4, 0, 0] S1x80x512.size inb_S5x80x512_S1x80x512_4_0_0).toLoadRect X9)

/-- The five accumulators as the pieces of one buffer, the last head's first. -/
def pieces (a : Accs F) : List (View.Piece (Elt F) S5x80x512 .f32) :=
  [⟨Rect.unit (s := S5x80x512) ![4, 0, 0] S1x80x512.size inb_S5x80x512_S1x80x512_4_0_0, a.2.2.2.2⟩,
    ⟨Rect.unit (s := S5x80x512) ![3, 0, 0] S1x80x512.size inb_S5x80x512_S1x80x512_3_0_0, a.2.2.2.1⟩,
    ⟨Rect.unit (s := S5x80x512) ![2, 0, 0] S1x80x512.size inb_S5x80x512_S1x80x512_2_0_0, a.2.2.1⟩,
    ⟨Rect.unit (s := S5x80x512) ![1, 0, 0] S1x80x512.size inb_S5x80x512_S1x80x512_1_0_0, a.2.1⟩,
    ⟨Rect.unit (s := S5x80x512) ![0, 0, 0] S1x80x512.size inb_S5x80x512_S1x80x512_0_0_0, a.1⟩]

/-- The running maxima and accumulators before trip `k`, from those at the loop's entry. -/
def state (n : ℕ) (rd : Fin n → Reads F) (init : Rows F) (a : Accs F) : ℕ → Rows F × Accs F
  | 0 => (init, a)
  | k + 1 => if h : k < n then
      (rows (scores (rd ⟨k, h⟩)) (state n rd init a k).1, accs (rd ⟨k, h⟩) (scores (rd ⟨k, h⟩)) (state n rd init a k).1 (state n rd init a k).2)
    else state n rd init a k

theorem state_succ (n : ℕ) (rd : Fin n → Reads F) (init : Rows F) (a : Accs F) (k : Fin n) :
    state n rd init a (k.val + 1)
      = (rows (scores (rd k)) (state n rd init a k).1, accs (rd k) (scores (rd k)) (state n rd init a k).1 (state n rd init a k).2) := by
  rw [state.eq_2]; exact dif_pos k.isLt

/-- The accumulators' buffer before trip `k`: as the loop finds it, then the five accumulators. -/
def held (arg9 : Memref sig .tc .vmem S5x80x512 .f32) (G9 : BufTy.Contents (Elt F) arg9.view.ty) (st : ℕ → Rows F × Accs F) :
    ℕ → BufTy.Contents (Elt F) arg9.view.ty
  | 0 => G9
  | k + 1 => arg9.view.writes (Elt F) arg9.view.junk (pieces (st (k + 1)).2)

/-- Read back, the five accumulators written over a buffer are themselves. -/
theorem slots_pieces (arg9 : Memref sig .tc .vmem S5x80x512 .f32) (a : Accs F) :
    slots arg9 (arg9.view.writes (Elt F) arg9.view.junk (pieces a)) = a := by
  simp only [slots, pieces, ← View.readCov.eq_1]
  refine Prod.ext ?_ (Prod.ext ?_ (Prod.ext ?_ (Prod.ext ?_ ?_))) <;> dsimp only
  · rw [View.readCov_skip _ _ _ _ _ (by decide), View.readCov_skip _ _ _ _ _ (by decide), View.readCov_skip _ _ _ _ _ (by decide), View.readCov_skip _ _ _ _ _ (by decide), View.readCov_cons_toLoadRect]
  · rw [View.readCov_skip _ _ _ _ _ (by decide), View.readCov_skip _ _ _ _ _ (by decide), View.readCov_skip _ _ _ _ _ (by decide), View.readCov_cons_toLoadRect]
  · rw [View.readCov_skip _ _ _ _ _ (by decide), View.readCov_skip _ _ _ _ _ (by decide), View.readCov_cons_toLoadRect]
  · rw [View.readCov_skip _ _ _ _ _ (by decide), View.readCov_cons_toLoadRect]
  · rw [View.readCov_cons_toLoadRect]

/-- The five pieces fill the buffer. -/
theorem pieces_cover (a : Accs F) :
    LoadRect.covChk ((pieces a).map Sigma.fst) (LoadRect.whole S5x80x512)
      (.split 0 1 (.leaf 4) (.split 0 1 (.leaf 3) (.split 0 1 (.leaf 2) (.split 0 1 (.leaf 1) (.leaf 0))))) = true := by
  simp only [pieces, List.map_cons, List.map_nil]
  decide +kernel

/-- The five heads' scores as the pieces of one buffer, the last head's first. -/
def scorePieces (s : Scores F) : List (View.Piece (Elt F) S6x512x512 .f32) :=
  [⟨Rect.unit (s := S6x512x512) ![4, 0, 0] S1x512x512.size inb_S6x512x512_S1x512x512_4_0_0, s.2.2.2.2⟩,
    ⟨Rect.unit (s := S6x512x512) ![3, 0, 0] S1x512x512.size inb_S6x512x512_S1x512x512_3_0_0, s.2.2.2.1⟩,
    ⟨Rect.unit (s := S6x512x512) ![2, 0, 0] S1x512x512.size inb_S6x512x512_S1x512x512_2_0_0, s.2.2.1⟩,
    ⟨Rect.unit (s := S6x512x512) ![1, 0, 0] S1x512x512.size inb_S6x512x512_S1x512x512_1_0_0, s.2.1⟩,
    ⟨Rect.unit (s := S6x512x512) ![0, 0, 0] S1x512x512.size inb_S6x512x512_S1x512x512_0_0_0, s.1⟩]

/-- Read back, the scores written over a buffer are themselves. -/
theorem scores_read (arg10 : Memref sig .tc .vmem S6x512x512 .f32) (s : Scores F) :
    ((arg10.view.readCov (scorePieces s) (Rect.unit (s := S6x512x512) ![0, 0, 0] S1x512x512.size inb_S6x512x512_S1x512x512_0_0_0).toLoadRect,
    arg10.view.readCov (scorePieces s) (Rect.unit (s := S6x512x512) ![1, 0, 0] S1x512x512.size inb_S6x512x512_S1x512x512_1_0_0).toLoadRect,
    arg10.view.readCov (scorePieces s) (Rect.unit (s := S6x512x512) ![2, 0, 0] S1x512x512.size inb_S6x512x512_S1x512x512_2_0_0).toLoadRect,
    arg10.view.readCov (scorePieces s) (Rect.unit (s := S6x512x512) ![3, 0, 0] S1x512x512.size inb_S6x512x512_S1x512x512_3_0_0).toLoadRect,
    arg10.view.readCov (scorePieces s) (Rect.unit (s := S6x512x512) ![4, 0, 0] S1x512x512.size inb_S6x512x512_S1x512x512_4_0_0).toLoadRect) : Scores F) = s := by
  simp only [scorePieces]
  refine Prod.ext ?_ (Prod.ext ?_ (Prod.ext ?_ (Prod.ext ?_ ?_))) <;> dsimp only
  · rw [View.readCov_skip _ _ _ _ _ (by decide), View.readCov_skip _ _ _ _ _ (by decide), View.readCov_skip _ _ _ _ _ (by decide), View.readCov_skip _ _ _ _ _ (by decide), View.readCov_cons_toLoadRect]
  · rw [View.readCov_skip _ _ _ _ _ (by decide), View.readCov_skip _ _ _ _ _ (by decide), View.readCov_skip _ _ _ _ _ (by decide), View.readCov_cons_toLoadRect]
  · rw [View.readCov_skip _ _ _ _ _ (by decide), View.readCov_skip _ _ _ _ _ (by decide), View.readCov_cons_toLoadRect]
  · rw [View.readCov_skip _ _ _ _ _ (by decide), View.readCov_cons_toLoadRect]
  · rw [View.readCov_cons_toLoadRect]

/-- The buffer before any trip holds the state's accumulators. -/
theorem slots_held (arg9 : Memref sig .tc .vmem S5x80x512 .f32) (G9 : BufTy.Contents (Elt F) arg9.view.ty)
    (n : ℕ) (rd : Fin n → Reads F) (init : Rows F) (k : ℕ) :
    slots arg9 (held arg9 G9 (state n rd init (slots arg9 G9)) k) = (state n rd init (slots arg9 G9) k).2 := by
  cases k with
  | zero => rfl
  | succ k => exact slots_pieces arg9 _

local notation "𝕄" => MT nD τ sig Unit (Elt F) ℕ (UR sig nD τ) ℕ

set_option maxHeartbeats 1000000 in
/-- One trip: its yields and what it leaves in the accumulators' buffer, the scores' buffer at any contents before and
    after. -/
theorem trip (𝒱 : Variants) (c : Dev nD) (bd : Option 𝒱.V) (E : Set ℕ) (i : grid0.Coords) (arg2 : Memref sig .tc .vmem S384x512 .bf16) (harg2 : arg2.IsWhole) (arg3 : Memref sig .tc .vmem S1x8192x384 .bf16) (harg3 : arg3.IsWhole) (arg4 : Memref sig .tc .vmem S1x16x400x512 .bf16) (harg4 : arg4.IsWhole) (arg5 : Memref sig .tc .vmem S1x8192x128 .f32) (harg5 : arg5.IsWhole) (arg6 : Memref sig .tc .vmem S1x1x8x512 .f32) (harg6 : arg6.IsWhole) (arg7 : Memref sig .tc .vmem S1x512x384 .bf16) (harg7 : arg7.IsWhole) (arg8 : Memref sig .tc .vmem S5x128x512 .bf16) (harg8 : arg8.IsWhole) (arg9 : Memref sig .tc .vmem S5x80x512 .f32) (harg9 : arg9.IsWhole) (arg10 : Memref sig .tc .vmem S6x512x512 .f32) (harg10 : arg10.IsWhole)
    (v20 : BitVec 32) (v24 : IVec S1x512 32) (v72 : FVec F S128x512 .bf16) (v76 : Vec F S1x1x8x512 .f32)
    (X3 : BufTy.Contents (Elt F) arg3.view.ty) (X4 : BufTy.Contents (Elt F) arg4.view.ty)
    (X5 : BufTy.Contents (Elt F) arg5.view.ty) (X8 : BufTy.Contents (Elt F) arg8.view.ty)
    (f9 : BufTy.Contents (Elt F) arg9.view.ty) (f10 : BufTy.Contents (Elt F) arg10.view.ty)
    (k : Fin (k0_t1_loop i).trips) (m : Rows F) :
    iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg8.view.loc (c : Thread nD τ) ↦[arg8.view.set]{fullShare} X8)
      ∗ (arg9.view.loc (c : Thread nD τ) ↦[arg9.view.set]{fullShare} f9) ∗ (arg10.view.loc (c : Thread nD τ) ↦[arg10.view.set]{fullShare} f10))
    ⊢ (wp Idealize.ShloMosaic.frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 v20 v24 v72 v76 k m)
        (fun yld => iprop((arg3.view.loc (c : Thread nD τ) ↦[arg3.view.set]{fullShare} X3) ∗ (arg4.view.loc (c : Thread nD τ) ↦[arg4.view.set]{fullShare} X4)
          ∗ (arg5.view.loc (c : Thread nD τ) ↦[arg5.view.set]{fullShare} X5) ∗ (arg8.view.loc (c : Thread nD τ) ↦[arg8.view.set]{fullShare} X8)
          ∗ (arg9.view.loc (c : Thread nD τ) ↦[arg9.view.set]{fullShare} arg9.view.writes (Elt F) arg9.view.junk
              (pieces (accs (readsAt i arg3 arg4 arg5 arg8 v76 X3 X4 X5 X8 k) (scores (readsAt i arg3 arg4 arg5 arg8 v76 X3 X4 X5 X8 k)) m (slots arg9 f9))))
          ∗ (∃ g, arg10.view.loc (c : Thread nD τ) ↦[arg10.view.set]{fullShare} g)
          ∗ ⌜yld = rows (scores (readsAt i arg3 arg4 arg5 arg8 v76 X3 X4 X5 X8 k)) m⌝)) : sProp 𝕄) := by
  unfold k0_t1_body
  iintro ⟨H3, H4, H5, H8, H9, H10⟩
  sl_exec
  sl_step
  isplitl [H3]; · iexact H3
  isplitl [H4]; · iexact H4
  isplitl [H5]; · iexact H5
  isplitl [H8]; · iexact H8
  isplitl [H9]
  · rw [← Memref.writes_eq_junk_of_covChk harg9 f9 _ _ (pieces_cover _),
      ← scores_read arg10 (scores (readsAt i arg3 arg4 arg5 arg8 v76 X3 X4 X5 X8 k))]
    iexact H9
  isplitl [H10]
  · iexists _; iexact H10
  ipureintro
  rw [← scores_read arg10 (scores (readsAt i arg3 arg4 arg5 arg8 v76 X3 X4 X5 X8 k))]
  rfl

end Cert.KernelIdeal.Trip

end
-- ==== Proof.TripLoop.lean ====
/- The two counted loops of the forgetting attention's kernel, each by an invariant in closed form: the running maxima
   and accumulators before trip `k` are a recursion over values (`state`), and the buffer of scores is owned at any
   contents, since every trip writes the slots it reads. The second loop (the remainder of the first) makes no trip. -/
module

public import proofs.«01_k».proof.Proof.Trip
public import Idealize.ShloMosaic.Lib.Pipeline.ReadBack

@[expose] public section

set_option maxRecDepth 16384
set_option maxHeartbeats 4000000

noncomputable section

namespace Cert.KernelIdeal.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Before trip `k` the query block's unmasked loop holds the closed form `state`: the reads untouched, the accumulators
    of the trips so far in their buffer, the scores' buffer at anything. -/
abbrev inv (c : Dev nD) (i : grid0.Coords) (arg3 : Memref sig .tc .vmem S1x8192x384 .bf16) (arg4 : Memref sig .tc .vmem S1x16x400x512 .bf16)
    (arg5 : Memref sig .tc .vmem S1x8192x128 .f32) (arg8 : Memref sig .tc .vmem S5x128x512 .bf16)
    (arg9 : Memref sig .tc .vmem S5x80x512 .f32) (arg10 : Memref sig .tc .vmem S6x512x512 .f32) (v76 : Vec F S1x1x8x512 .f32)
    (X3 : BufTy.Contents (Elt F) arg3.view.ty) (X4 : BufTy.Contents (Elt F) arg4.view.ty)
    (X5 : BufTy.Contents (Elt F) arg5.view.ty) (X8 : BufTy.Contents (Elt F) arg8.view.ty)
    (G9 : BufTy.Contents (Elt F) arg9.view.ty) (init : Rows F) (k : ℕ) (acc : Rows F) : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg8.view.loc (c : Thread nD τ) ↦[arg8.view.set]{fullShare} X8)
    ∗ (∃ f, (arg9.view.loc (c : Thread nD τ) ↦[arg9.view.set]{fullShare} f)
        ∗ ⌜f = held arg9 G9 (state (k0_t1_loop i).trips (readsAt i arg3 arg4 arg5 arg8 v76 X3 X4 X5 X8) init (slots arg9 G9)) k⌝)
    ∗ (∃ g, arg10.view.loc (c : Thread nD τ) ↦[arg10.view.set]{fullShare} g)
    ∗ ⌜acc = (state (k0_t1_loop i).trips (readsAt i arg3 arg4 arg5 arg8 v76 X3 X4 X5 X8) init (slots arg9 G9) k).1⌝)

set_option warn.classDefReducibility false in
/-- The loop over the unmasked key blocks by its closed form. -/
@[sl_loop] def loop1 (𝒱 : Variants) (c : Dev nD) (bd : Option 𝒱.V) (E : Set ℕ) (i : grid0.Coords) (arg2 : Memref sig .tc .vmem S384x512 .bf16) (harg2 : arg2.IsWhole) (arg3 : Memref sig .tc .vmem S1x8192x384 .bf16) (harg3 : arg3.IsWhole) (arg4 : Memref sig .tc .vmem S1x16x400x512 .bf16) (harg4 : arg4.IsWhole) (arg5 : Memref sig .tc .vmem S1x8192x128 .f32) (harg5 : arg5.IsWhole) (arg6 : Memref sig .tc .vmem S1x1x8x512 .f32) (harg6 : arg6.IsWhole) (arg7 : Memref sig .tc .vmem S1x512x384 .bf16) (harg7 : arg7.IsWhole) (arg8 : Memref sig .tc .vmem S5x128x512 .bf16) (harg8 : arg8.IsWhole) (arg9 : Memref sig .tc .vmem S5x80x512 .f32) (harg9 : arg9.IsWhole) (arg10 : Memref sig .tc .vmem S6x512x512 .f32) (harg10 : arg10.IsWhole) (v20 : BitVec 32) (v24 : IVec S1x512 32) (v72 : FVec F S128x512 .bf16) (v76 : Vec F S1x1x8x512 .f32) (init : Rows F)
    (X3 : BufTy.Contents (Elt F) arg3.view.ty) (X4 : BufTy.Contents (Elt F) arg4.view.ty)
    (X5 : BufTy.Contents (Elt F) arg5.view.ty) (X8 : BufTy.Contents (Elt F) arg8.view.ty)
    (G9 : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 v20 v24 v72 v76 init where
  inv := inv (F := F) c i arg3 arg4 arg5 arg8 arg9 arg10 v76 X3 X4 X5 X8 G9 init
  step k acc := by
    iintro ⟨H3, H4, H5, H8, ⟨%f9, H9, %h9⟩, ⟨%f10, H10⟩, %hacc⟩
    subst hacc
    subst h9
    iapply (wp_wand_r Idealize.ShloMosaic.frame (wpE (defs₀ (F := F)) 𝒱 (c : Thread nD τ) bd) E)
    isplitl [H3 H4 H5 H8 H9 H10]
    · iapply (trip 𝒱 c bd E i arg2 harg2 arg3 harg3 arg4 harg4 arg5 harg5 arg6 harg6 arg7 harg7 arg8 harg8 arg9 harg9 arg10 harg10 v20 v24 v72 v76 X3 X4 X5 X8 _ f10 k _)
      isplitl [H3]; · iexact H3
      isplitl [H4]; · iexact H4
      isplitl [H5]; · iexact H5
      isplitl [H8]; · iexact H8
      isplitl [H9]; · iexact H9
      iexact H10
    · iintro %yld ⟨H3, H4, H5, H8, H9, H10, %hy⟩
      isplitl [H3]; · iexact H3
      isplitl [H4]; · iexact H4
      isplitl [H5]; · iexact H5
      isplitl [H8]; · iexact H8
      isplitl [H9]
      · iexists _; isplitl [H9]; · iexact H9
        ipureintro
        rw [slots_held]
        simp only [held, state_succ]
      isplitl [H10]
      · iexact H10
      ipureintro
      rw [hy, state_succ]

set_option warn.classDefReducibility false in
/-- The loop over the remaining whole blocks makes no trip. -/
@[sl_loop] def loop2 (𝒱 : Variants) (c : Dev nD) (bd : Option 𝒱.V) (E : Set ℕ) (i : grid0.Coords) (arg2 : Memref sig .tc .vmem S384x512 .bf16) (harg2 : arg2.IsWhole) (arg3 : Memref sig .tc .vmem S1x8192x384 .bf16) (harg3 : arg3.IsWhole) (arg4 : Memref sig .tc .vmem S1x16x400x512 .bf16) (harg4 : arg4.IsWhole) (arg5 : Memref sig .tc .vmem S1x8192x128 .f32) (harg5 : arg5.IsWhole) (arg6 : Memref sig .tc .vmem S1x1x8x512 .f32) (harg6 : arg6.IsWhole) (arg7 : Memref sig .tc .vmem S1x512x384 .bf16) (harg7 : arg7.IsWhole) (arg8 : Memref sig .tc .vmem S5x128x512 .bf16) (harg8 : arg8.IsWhole) (arg9 : Memref sig .tc .vmem S5x80x512 .f32) (harg9 : arg9.IsWhole) (arg10 : Memref sig .tc .vmem S6x512x512 .f32) (harg10 : arg10.IsWhole) (v20 : BitVec 32) (v24 : IVec S1x512 32) (v72 : FVec F S128x512 .bf16) (v76 : Vec F S1x1x8x512 .f32) (v90 : BitVec 32) (init : Rows F) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 v20 v24 v72 v76 v90 init where
  inv _ acc := iprop(⌜acc = init⌝)
  step k _ := absurd k.isLt (Nat.not_lt.mpr (Nat.le_trans (k0_t2_abs i).2.1 (Nat.zero_le _)))

end Cert.KernelIdeal.Trip

end
-- ==== Proof.Body.lean ====
/- The forgetting attention's kernel body at one grid point, and the launch: the body's run over whole memrefs with what
   it leaves in the output's block as the value the run finds, the pipeline's proof data from that value, and the run of the
   program from any memory. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import proofs.«01_k».proof.Proof.TripLoop
public import Idealize.ShloMosaic.Lib.Pipeline.FrameBody
public import Idealize.ShloMosaic.Lib.VecWindow
public import Idealize.ShloMosaic.Lib.Tactic
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body over whole memrefs: the inputs' blocks kept, the output's block left at the value the run finds, the scratch
    buffers owned at anything before and after. -/
noncomputable def bodyRun (c : Dev nD) (i : grid0.Coords) (arg2 : Memref sig .tc .vmem S384x512 .bf16) (harg2 : arg2.IsWhole) (arg3 : Memref sig .tc .vmem S1x8192x384 .bf16) (harg3 : arg3.IsWhole) (arg4 : Memref sig .tc .vmem S1x16x400x512 .bf16) (harg4 : arg4.IsWhole) (arg5 : Memref sig .tc .vmem S1x8192x128 .f32) (harg5 : arg5.IsWhole) (arg6 : Memref sig .tc .vmem S1x1x8x512 .f32) (harg6 : arg6.IsWhole) (arg7 : Memref sig .tc .vmem S1x512x384 .bf16) (harg7 : arg7.IsWhole) (arg8 : Memref sig .tc .vmem S5x128x512 .bf16) (harg8 : arg8.IsWhole) (arg9 : Memref sig .tc .vmem S5x80x512 .f32) (harg9 : arg9.IsWhole) (arg10 : Memref sig .tc .vmem S6x512x512 .f32) (harg10 : arg10.IsWhole)
    (x0 : Vec F S384x512 .bf16) (x1 : Vec F S1x8192x384 .bf16) (x2 : Vec F S1x16x400x512 .bf16) (x3 : Vec F S1x8192x128 .f32) (x4 : Vec F S1x1x8x512 .f32) :
    { v : Vec F S1x512x384 .bf16 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare v ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_forget_attention i arg2 harg2 arg3 harg3 arg4 harg4 arg5 harg5 arg6 harg6 arg7 harg7 arg8 harg8 arg9 harg9 arg10 harg10) K } := by
  refine ⟨?_, fun E K => ?run⟩
  case run =>
    simp only [cc0_forget_attention_eq_skeleton]; unfold cc0_forget_attention_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; exact View.read_writes_full _ _ _ _ _
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

variable (m : (ℓ : Loc nD τ sig) → Buf (Elt F) ℓ) (ρ : Dev nD → PrngReg)

/-- Window 0's staging memref at point `t`. -/
abbrev mem0 (t : Fin cfg0.N) : Memref sig .tc .vmem S384x512 .bf16 := win0_0.stage (cfg0.slots t 0)
theorem whole0 (t : Fin cfg0.N) : (mem0 t).IsWhole := hstage0_0 ((cfg0.slots t 0).cast nbuf0_0)
/-- Window 1's staging memref at point `t`. -/
abbrev mem1 (t : Fin cfg0.N) : Memref sig .tc .vmem S1x8192x384 .bf16 := win0_1.stage (cfg0.slots t 1)
theorem whole1 (t : Fin cfg0.N) : (mem1 t).IsWhole := hstage0_1 ((cfg0.slots t 1).cast nbuf0_1)
/-- Window 2's staging memref at point `t`. -/
abbrev mem2 (t : Fin cfg0.N) : Memref sig .tc .vmem S1x16x400x512 .bf16 := win0_2.stage (cfg0.slots t 2)
theorem whole2 (t : Fin cfg0.N) : (mem2 t).IsWhole := hstage0_2 ((cfg0.slots t 2).cast nbuf0_2)
/-- Window 3's staging memref at point `t`. -/
abbrev mem3 (t : Fin cfg0.N) : Memref sig .tc .vmem S1x8192x128 .f32 := win0_3.stage (cfg0.slots t 3)
theorem whole3 (t : Fin cfg0.N) : (mem3 t).IsWhole := hstage0_3 ((cfg0.slots t 3).cast nbuf0_3)
/-- Window 4's staging memref at point `t`. -/
abbrev mem4 (t : Fin cfg0.N) : Memref sig .tc .vmem S1x1x8x512 .f32 := win0_4.stage (cfg0.slots t 4)
theorem whole4 (t : Fin cfg0.N) : (mem4 t).IsWhole := hstage0_4 ((cfg0.slots t 4).cast nbuf0_4)
/-- Window 5's staging memref at point `t`. -/
abbrev mem5 (t : Fin cfg0.N) : Memref sig .tc .vmem S1x512x384 .bf16 := win0_5.stage (cfg0.slots t 5)
theorem whole5 (t : Fin cfg0.N) : (mem5 t).IsWhole := hstage0_5 ((cfg0.slots t 5).cast nbuf0_5)

/-- The scratch buffers, whole. -/
abbrev scr0 : Memref sig .tc .vmem S5x128x512 .bf16 := Memref.whole cc0_scratch0
abbrev scr1 : Memref sig .tc .vmem S5x80x512 .f32 := Memref.whole cc0_scratch1
abbrev scr2 : Memref sig .tc .vmem S6x512x512 .f32 := Memref.whole cc0_scratch2

/-- The pipeline's invariant with the scratch buffers owned at anything. -/
theorem inv_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- What the body leaves in the output's block at point `t`. -/
def blockAt (c : Dev nD) (t : Fin cfg0.N) : Vec F S1x512x384 .bf16 :=
  (bodyRun c (grid0.coords t) (mem0 t) (whole0 t) (mem1 t) (whole1 t) (mem2 t) (whole2 t) (mem3 t) (whole3 t) (mem4 t) (whole4 t) (mem5 t) (whole5 t) scr0 (Memref.isWhole_whole _) scr1 (Memref.isWhole_whole _) scr2 (Memref.isWhole_whole _)
    (iblk m c 0 t) (iblk m c 1 t) (iblk m c 2 t) (iblk m c 3 t) (iblk m c 4 t)).1

/-- The pipeline's proof data: the arrays as the region finds them, each input's buffer at its block after the body, the
    output's at `blockAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockAt m c t
  Φ _ := Pipeline.ΦA spec0 c
  q _ := fullShare
  owed _ := 0

theorem arr_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = blockAt m c t := by dsimp only [dats]

theorem before_0 (c : Dev nD) (t : Fin cfg0.N) (d) : (dats m 0 c).before 0 t d = iblk m c 0 t :=
  before0_0_of m (dats m 0 c) (arr_eq m c 0) (after_0 m c) t d
theorem before_1 (c : Dev nD) (t : Fin cfg0.N) (d) : (dats m 0 c).before 1 t d = iblk m c 1 t :=
  before0_1_of m (dats m 0 c) (arr_eq m c 1) (after_1 m c) t d
theorem before_2 (c : Dev nD) (t : Fin cfg0.N) (d) : (dats m 0 c).before 2 t d = iblk m c 2 t :=
  before0_2_of m (dats m 0 c) (arr_eq m c 2) (after_2 m c) t d
theorem before_3 (c : Dev nD) (t : Fin cfg0.N) (d) : (dats m 0 c).before 3 t d = iblk m c 3 t :=
  before0_3_of m (dats m 0 c) (arr_eq m c 3) (after_3 m c) t d
theorem before_4 (c : Dev nD) (t : Fin cfg0.N) (d) : (dats m 0 c).before 4 t d = iblk m c 4 t :=
  before0_4_of m (dats m 0 c) (arr_eq m c 4) (after_4 m c) t d

set_option maxHeartbeats 800000 in
/-- The body at any point, from what the pipeline hands it to what it takes back. -/
theorem body_triple (c : Dev nD) (t : Fin cfg0.N) :
    iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d)))
    ⊢ wp frame (wpE (defs₀ (F := F)) Variants.none c none) Set.univ (bodyAt0 t) (fun _ => iprop((dats m 0 c).Φ t.succ ∗ (dats m 0 c).owesAt () t.succ
      ∗ owns (c : Thread nD τ) (mem0 t) fullShare ((dats m 0 c).after 0 t)
      ∗ owns (c : Thread nD τ) (mem1 t) fullShare ((dats m 0 c).after 1 t)
      ∗ owns (c : Thread nD τ) (mem2 t) fullShare ((dats m 0 c).after 2 t)
      ∗ owns (c : Thread nD τ) (mem3 t) fullShare ((dats m 0 c).after 3 t)
      ∗ owns (c : Thread nD τ) (mem4 t) fullShare ((dats m 0 c).after 4 t)
      ∗ owns (c : Thread nD τ) (mem5 t) fullShare ((dats m 0 c).after 5 t))) := by
  unfold bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, inv_eq]
  unfold blockAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_triple m c t) rfl .rfl fun _ => .rfl

set_option backward.isDefEq.respectTransparency.types false in
/-- The program's run from any memory: the pipeline's arrays at what its proof data gives, everything else as the region
    found it, every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arr_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The program runs, its arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arr_eq m) (run_main m ρ)) ((θ_run defs _ _).mono (fun _ h => h.2) (run_quiescent m ρ))

end Cert.KernelIdeal.Body

end
-- ==== Proof.Block.lean ====
/- What the forgetting attention's body leaves in the output's block, as a function of the five blocks it reads and of no
   buffer: the scaled queries, the reads of each block of keys, the last block's masked step, and the five quotients. -/
module

public import proofs.«01_k».proof.Proof.Body

@[expose] public section

set_option maxRecDepth 16384

noncomputable section

namespace Cert.KernelIdeal.Block

open Cert.KernelIdeal Cert.KernelIdeal.Gen Cert.KernelIdeal.Trip
open Idealize.ShloMosaic Idealize.ShloMosaic.TcCoe Idealize.ShloMosaic.Tactic

variable {F : FTy → Type} [FloatOps F] [Named F]

/-- The five heads' scaled queries. -/
abbrev Queries (F : FTy → Type) : Type :=
  FVec F S1x128x512 .bf16 × FVec F S1x128x512 .bf16 × FVec F S1x128x512 .bf16 × FVec F S1x128x512 .bf16 × FVec F S1x128x512 .bf16

/-- Each head's 64 rows of the transposed queries, scaled, beside 64 rows of zeros. -/
def queries (x0 : Vec F S384x512 .bf16) : Queries F :=
  (k0_pay68 (View.ld x0 (Rect.unit (s := S384x512) ![0, 0] S64x512.size inb_S384x512_S64x512_0_0)),
    k0_pay69 k0_pay67 (View.ld x0 (Rect.unit (s := S384x512) ![64, 0] S64x512.size inb_S384x512_S64x512_64_0)),
    k0_pay70 k0_pay67 (View.ld x0 (Rect.unit (s := S384x512) ![128, 0] S64x512.size inb_S384x512_S64x512_128_0)),
    k0_pay71 k0_pay67 (View.ld x0 (Rect.unit (s := S384x512) ![192, 0] S64x512.size inb_S384x512_S64x512_192_0)),
    k0_pay73 (k0_pay72 k0_pay67 (View.ld x0 (Rect.unit (s := S384x512) ![256, 0] S64x512.size inb_S384x512_S64x512_256_0))))

/-- What trip `k` reads: the keys' block `k`. -/
def reads (i : grid0.Coords) (x0 : Vec F S384x512 .bf16) (x1 : Vec F S1x8192x384 .bf16) (x2 : Vec F S1x16x400x512 .bf16)
    (x3 : Vec F S1x8192x128 .f32) (x4 : Vec F S1x1x8x512 .f32) (k : Fin (k0_t1_loop i).trips) : Reads F where
  f := View.ld x3 (Rect.unit (s := S1x8192x128) (k0_off1 i k) S1x512x128.size (k0_off1_inb i k))
  k0 := View.ld x1 (Rect.unit (s := S1x8192x384) (k0_off2 i k) S1x512x128.size (k0_off2_inb i k))
  k1 := View.ld x1 (Rect.unit (s := S1x8192x384) (k0_off3 i k) S1x512x128.size (k0_off3_inb i k))
  k2 := View.ld x1 (Rect.unit (s := S1x8192x384) (k0_off4 i k) S1x512x128.size (k0_off4_inb i k))
  v0 := View.ld x2 (Rect.unit (s := S1x16x400x512) (k0_off5 i k) S1x1x80x512.size (k0_off5_inb i k))
  v1 := View.ld x2 (Rect.unit (s := S1x16x400x512) (k0_off6 i k) S1x1x80x512.size (k0_off6_inb i k))
  v2 := View.ld x2 (Rect.unit (s := S1x16x400x512) (k0_off7 i k) S1x1x80x512.size (k0_off7_inb i k))
  v3 := View.ld x2 (Rect.unit (s := S1x16x400x512) (k0_off8 i k) S1x1x80x512.size (k0_off8_inb i k))
  v4 := View.ld x2 (Rect.unit (s := S1x16x400x512) (k0_off9 i k) S1x1x80x512.size (k0_off9_inb i k))
  q0 := (queries x0).1
  q1 := (queries x0).2.1
  q2 := (queries x0).2.2.1
  q3 := (queries x0).2.2.2.1
  q4 := (queries x0).2.2.2.2
  fq := k0_pay74 (View.ld x4 (Rect.unit (s := S1x1x8x512) ![0, 0, 0, 0] S1x1x8x512.size inb_S1x1x8x512_S1x1x8x512_0_0_0_0))

/-- What the last step reads: the queries' own block of keys. -/
def lastReads (i : grid0.Coords) (x0 : Vec F S384x512 .bf16) (x1 : Vec F S1x8192x384 .bf16) (x2 : Vec F S1x16x400x512 .bf16)
    (x3 : Vec F S1x8192x128 .f32) (x4 : Vec F S1x1x8x512 .f32) : Reads F where
  f := View.ld x3 (Rect.unit (s := S1x8192x128) (k0_off19 i) S1x512x128.size (k0_off19_inb i))
  k0 := View.ld x1 (Rect.unit (s := S1x8192x384) (k0_off20 i) S1x512x128.size (k0_off20_inb i))
  k1 := View.ld x1 (Rect.unit (s := S1x8192x384) (k0_off21 i) S1x512x128.size (k0_off21_inb i))
  k2 := View.ld x1 (Rect.unit (s := S1x8192x384) (k0_off22 i) S1x512x128.size (k0_off22_inb i))
  v0 := View.ld x2 (Rect.unit (s := S1x16x400x512) (k0_off23 i) S1x1x80x512.size (k0_off23_inb i))
  v1 := View.ld x2 (Rect.unit (s := S1x16x400x512) (k0_off24 i) S1x1x80x512.size (k0_off24_inb i))
  v2 := View.ld x2 (Rect.unit (s := S1x16x400x512) (k0_off25 i) S1x1x80x512.size (k0_off25_inb i))
  v3 := View.ld x2 (Rect.unit (s := S1x16x400x512) (k0_off26 i) S1x1x80x512.size (k0_off26_inb i))
  v4 := View.ld x2 (Rect.unit (s := S1x16x400x512) (k0_off27 i) S1x1x80x512.size (k0_off27_inb i))
  q0 := (queries x0).1
  q1 := (queries x0).2.1
  q2 := (queries x0).2.2.1
  q3 := (queries x0).2.2.2.1
  q4 := (queries x0).2.2.2.2
  fq := k0_pay74 (View.ld x4 (Rect.unit (s := S1x1x8x512) ![0, 0, 0, 0] S1x1x8x512.size inb_S1x1x8x512_S1x1x8x512_0_0_0_0))

/-- The number of the keys' blocks that the queries' block sees, as the body computes it. -/
def blocks (i : grid0.Coords) : BitVec 32 := Body.bodyRun.sl.v20 i

/-- The last step's scores: later keys masked. -/
def lastScores (i : grid0.Coords) (r : Reads F) : Scores F :=
  (k0_pay83 r.fq (k0_pay81 r.f) (k0_pay82 (blocks i) (k0_pay66 i)) r.k0 r.q0,
    k0_pay84 r.fq (k0_pay81 r.f) (k0_pay82 (blocks i) (k0_pay66 i)) r.k0 r.q1,
    k0_pay85 r.fq (k0_pay81 r.f) (k0_pay82 (blocks i) (k0_pay66 i)) r.k1 r.q2,
    k0_pay86 r.fq (k0_pay81 r.f) (k0_pay82 (blocks i) (k0_pay66 i)) r.k1 r.q3,
    k0_pay88 r.fq (k0_pay81 r.f) (k0_pay82 (blocks i) (k0_pay66 i)) (k0_pay87 r.k2) r.q4)

/-- The accumulators after the last step. -/
def lastAccs (r : Reads F) (s : Scores F) (m : Rows F) (a : Accs F) : Accs F :=
  (k0_pay97 (k0_pay91 m.1 s.1) (k0_pay92 m.1 s.1 r.v0) a.1,
    k0_pay102 (k0_pay95 m.2.1 s.2.1) (k0_pay96 m.2.1 s.2.1) r.v1 a.2.1,
    k0_pay107 (k0_pay100 m.2.2.1 s.2.2.1) (k0_pay101 m.2.2.1 s.2.2.1 r.v2) a.2.2.1,
    k0_pay112 (k0_pay105 m.2.2.2.1 s.2.2.2.1) (k0_pay106 m.2.2.2.1 s.2.2.2.1 r.v3) a.2.2.2.1,
    k0_pay113 (k0_pay110 m.2.2.2.2 s.2.2.2.2) (k0_pay111 m.2.2.2.2 s.2.2.2.2 r.v4) a.2.2.2.2)

theorem inb_top : ∀ a, (![0, 0, 0] : Fin 3 → ℕ) a + S1x64x512.size a ≤ S1x80x512.size a := by decide

theorem inb_den : ∀ a, (![0, 64, 0] : Fin 3 → ℕ) a + S1x1x512.size a ≤ S1x80x512.size a := by decide

/-- An accumulator's 64 rows of weighted values. -/
def top (a : Vec F S1x80x512 .f32) : Vec F S1x64x512 .f32 :=
  View.ld a (Rect.unit (s := S1x80x512) ![0, 0, 0] S1x64x512.size inb_top)

/-- An accumulator's row of summed weights. -/
def den (a : Vec F S1x80x512 .f32) : Vec F S1x1x512 .f32 :=
  View.ld a (Rect.unit (s := S1x80x512) ![0, 64, 0] S1x1x512.size inb_den)

/-- The output's block from the final accumulators. -/
def quotients (a : Accs F) : Vec F S1x512x384 .bf16 :=
  k0_pay1 (k0_pay114 (top a.1) (den a.1)) (k0_pay115 (top a.2.1) (den a.2.1)) (k0_pay116 (top a.2.2.1)) (den a.2.2.1)
    (top a.2.2.2.1) (den a.2.2.2.1) (top a.2.2.2.2) (den a.2.2.2.2)

/-- The accumulators at the loop's entry: zeros. -/
def zeros : Accs F :=
  (View.ld k0_pay75 (Rect.unit (s := S5x80x512) ![0, 0, 0] S1x80x512.size inb_S5x80x512_S1x80x512_0_0_0),
    View.ld k0_pay75 (Rect.unit (s := S5x80x512) ![1, 0, 0] S1x80x512.size inb_S5x80x512_S1x80x512_1_0_0),
    View.ld k0_pay75 (Rect.unit (s := S5x80x512) ![2, 0, 0] S1x80x512.size inb_S5x80x512_S1x80x512_2_0_0),
    View.ld k0_pay75 (Rect.unit (s := S5x80x512) ![3, 0, 0] S1x80x512.size inb_S5x80x512_S1x80x512_3_0_0),
    View.ld k0_pay75 (Rect.unit (s := S5x80x512) ![4, 0, 0] S1x80x512.size inb_S5x80x512_S1x80x512_4_0_0))

/-- The running maxima and accumulators before block `k` of the keys. -/
def before (i : grid0.Coords) (x0 : Vec F S384x512 .bf16) (x1 : Vec F S1x8192x384 .bf16) (x2 : Vec F S1x16x400x512 .bf16)
    (x3 : Vec F S1x8192x128 .f32) (x4 : Vec F S1x1x8x512 .f32) (k : ℕ) : Rows F × Accs F :=
  state (k0_t1_loop i).trips (reads i x0 x1 x2 x3 x4) (k0_pay76, k0_pay76, k0_pay76, k0_pay76, k0_pay76) zeros k

/-- The final accumulators. -/
def final (i : grid0.Coords) (x0 : Vec F S384x512 .bf16) (x1 : Vec F S1x8192x384 .bf16) (x2 : Vec F S1x16x400x512 .bf16)
    (x3 : Vec F S1x8192x128 .f32) (x4 : Vec F S1x1x8x512 .f32) : Accs F :=
  lastAccs (lastReads i x0 x1 x2 x3 x4) (lastScores i (lastReads i x0 x1 x2 x3 x4))
    (before i x0 x1 x2 x3 x4 (k0_t1_loop i).trips).1 (before i x0 x1 x2 x3 x4 (k0_t1_loop i).trips).2

/-- What the body leaves in the output's block. -/
def block (i : grid0.Coords) (x0 : Vec F S384x512 .bf16) (x1 : Vec F S1x8192x384 .bf16) (x2 : Vec F S1x16x400x512 .bf16)
    (x3 : Vec F S1x8192x128 .f32) (x4 : Vec F S1x1x8x512 .f32) : Vec F S1x512x384 .bf16 :=
  quotients (final i x0 x1 x2 x3 x4)

/-- The five heads' queries as the pieces of one buffer, the last head's first. -/
def queryPieces (q : Queries F) : List (View.Piece (Elt F) S5x128x512 .bf16) :=
    [⟨Rect.unit (s := S5x128x512) ![4, 0, 0] S1x128x512.size inb_S5x128x512_S1x128x512_4_0_0, q.2.2.2.2⟩,
     ⟨Rect.unit (s := S5x128x512) ![3, 0, 0] S1x128x512.size inb_S5x128x512_S1x128x512_3_0_0, q.2.2.2.1⟩,
     ⟨Rect.unit (s := S5x128x512) ![2, 0, 0] S1x128x512.size inb_S5x128x512_S1x128x512_2_0_0, q.2.2.1⟩,
     ⟨Rect.unit (s := S5x128x512) ![1, 0, 0] S1x128x512.size inb_S5x128x512_S1x128x512_1_0_0, q.2.1⟩,
     ⟨Rect.unit (s := S5x128x512) ![0, 0, 0] S1x128x512.size inb_S5x128x512_S1x128x512_0_0_0, q.1⟩]

/-- Read back, the queries written over a buffer are themselves. -/
theorem queries_read (arg8 : Memref sig .tc .vmem S5x128x512 .bf16) (q : Queries F) :
    arg8.view.readCov (queryPieces q) (Rect.unit (s := S5x128x512) ![0, 0, 0] S1x128x512.size inb_S5x128x512_S1x128x512_0_0_0).toLoadRect = q.1
      ∧ arg8.view.readCov (queryPieces q) (Rect.unit (s := S5x128x512) ![1, 0, 0] S1x128x512.size inb_S5x128x512_S1x128x512_1_0_0).toLoadRect = q.2.1
      ∧ arg8.view.readCov (queryPieces q) (Rect.unit (s := S5x128x512) ![2, 0, 0] S1x128x512.size inb_S5x128x512_S1x128x512_2_0_0).toLoadRect = q.2.2.1
      ∧ arg8.view.readCov (queryPieces q) (Rect.unit (s := S5x128x512) ![3, 0, 0] S1x128x512.size inb_S5x128x512_S1x128x512_3_0_0).toLoadRect = q.2.2.2.1
      ∧ arg8.view.readCov (queryPieces q) (Rect.unit (s := S5x128x512) ![4, 0, 0] S1x128x512.size inb_S5x128x512_S1x128x512_4_0_0).toLoadRect = q.2.2.2.2 := by
  simp only [queryPieces]
  refine ⟨?_, ?_, ?_, ?_, ?_⟩
  · rw [View.readCov_skip _ _ _ _ _ (by decide), View.readCov_skip _ _ _ _ _ (by decide), View.readCov_skip _ _ _ _ _ (by decide), View.readCov_skip _ _ _ _ _ (by decide), View.readCov_cons_toLoadRect]
  · rw [View.readCov_skip _ _ _ _ _ (by decide), View.readCov_skip _ _ _ _ _ (by decide), View.readCov_skip _ _ _ _ _ (by decide), View.readCov_cons_toLoadRect]
  · rw [View.readCov_skip _ _ _ _ _ (by decide), View.readCov_skip _ _ _ _ _ (by decide), View.readCov_cons_toLoadRect]
  · rw [View.readCov_skip _ _ _ _ _ (by decide), View.readCov_cons_toLoadRect]
  · rw [View.readCov_cons_toLoadRect]

/-- A load inside the newest piece is a load of its payload. -/
theorem readCov_inside (arg9 : Memref sig .tc .vmem S5x80x512 .f32) (L : List (View.Piece (Elt F) S5x80x512 .f32)) (h r : ℕ) (s : Fin 3 → ℕ)
    (inb : ∀ a, (![h, 0, 0] : Fin 3 → ℕ) a + S1x80x512.size a ≤ S5x80x512.size a)
    (inb' : ∀ a, (![h, r, 0] : Fin 3 → ℕ) a + s a ≤ S5x80x512.size a)
    (inb'' : ∀ a, (![0, r, 0] : Fin 3 → ℕ) a + s a ≤ S1x80x512.size a) (w : Vec F S1x80x512 .f32) :
    arg9.view.readCov (⟨Rect.unit (s := S5x80x512) ![h, 0, 0] S1x80x512.size inb, w⟩ :: L) (Rect.unit (s := S5x80x512) ![h, r, 0] s inb').toLoadRect
      = View.ld w (Rect.unit (s := S1x80x512) ![0, r, 0] s inb'') := by
  rw [View.readCov_eq_canon']
  funext j
  refine Eq.trans (congrArg _ ?_) (View.canon_cons_emb (Rect.unit (s := S5x80x512) ![h, 0, 0] S1x80x512.size inb) w L
    ((Rect.unit (s := S1x80x512) ![0, r, 0] s inb'').emb j))
  funext a
  apply Fin.ext
  fin_cases a
  · show h + 1 * (j 0).val = h + 1 * (0 + 1 * (j 0).val); omega
  · show r + 1 * (j 1).val = 0 + 1 * (r + 1 * (j 1).val); omega
  · show 0 + 1 * (j 2).val = 0 + 1 * (0 + 1 * (j 2).val); omega

/-- A head's slot, read at some of its rows, is a load of the head's accumulator. -/
theorem slot_read (arg9 : Memref sig .tc .vmem S5x80x512 .f32) (a : Accs F) (r : ℕ) (s : Fin 3 → ℕ) (hs : s 0 = 1)
    (inb'' : ∀ b, (![0, r, 0] : Fin 3 → ℕ) b + s b ≤ S1x80x512.size b) :
    (∀ inb', arg9.view.readCov (pieces a) (Rect.unit (s := S5x80x512) ![0, r, 0] s inb').toLoadRect = View.ld a.1 (Rect.unit (s := S1x80x512) ![0, r, 0] s inb''))
    ∧ (∀ inb', arg9.view.readCov (pieces a) (Rect.unit (s := S5x80x512) ![1, r, 0] s inb').toLoadRect = View.ld a.2.1 (Rect.unit (s := S1x80x512) ![0, r, 0] s inb''))
    ∧ (∀ inb', arg9.view.readCov (pieces a) (Rect.unit (s := S5x80x512) ![2, r, 0] s inb').toLoadRect = View.ld a.2.2.1 (Rect.unit (s := S1x80x512) ![0, r, 0] s inb''))
    ∧ (∀ inb', arg9.view.readCov (pieces a) (Rect.unit (s := S5x80x512) ![3, r, 0] s inb').toLoadRect = View.ld a.2.2.2.1 (Rect.unit (s := S1x80x512) ![0, r, 0] s inb''))
    ∧ (∀ inb', arg9.view.readCov (pieces a) (Rect.unit (s := S5x80x512) ![4, r, 0] s inb').toLoadRect = View.ld a.2.2.2.2 (Rect.unit (s := S1x80x512) ![0, r, 0] s inb'')) := by
  have skip (h h' : ℕ) (hne : h' < h) (w : Vec F S1x80x512 .f32) (L : List (View.Piece (Elt F) S5x80x512 .f32))
      (inb : ∀ b, (![h, 0, 0] : Fin 3 → ℕ) b + S1x80x512.size b ≤ S5x80x512.size b)
      (inb' : ∀ b, (![h', r, 0] : Fin 3 → ℕ) b + s b ≤ S5x80x512.size b) :
      arg9.view.readCov (⟨Rect.unit (s := S5x80x512) ![h, 0, 0] S1x80x512.size inb, w⟩ :: L) (Rect.unit (s := S5x80x512) ![h', r, 0] s inb').toLoadRect
        = arg9.view.readCov L (Rect.unit (s := S5x80x512) ![h', r, 0] s inb').toLoadRect := by
    refine View.readCov_cons_of_disjoint _ _ _ _ (Rect.unit_disjoint (inb := inb) 0 ?_)
    right
    show h' + s 0 ≤ h
    omega
  refine ⟨fun inb' => ?_, fun inb' => ?_, fun inb' => ?_, fun inb' => ?_, fun inb' => ?_⟩ <;> rw [pieces]
  · rw [skip _ _ (by decide), skip _ _ (by decide), skip _ _ (by decide), skip _ _ (by decide)]; exact readCov_inside _ _ _ _ _ _ _ _ _
  · rw [skip _ _ (by decide), skip _ _ (by decide), skip _ _ (by decide)]; exact readCov_inside _ _ _ _ _ _ _ _ _
  · rw [skip _ _ (by decide), skip _ _ (by decide)]; exact readCov_inside _ _ _ _ _ _ _ _ _
  · rw [skip _ _ (by decide)]; exact readCov_inside _ _ _ _ _ _ _ _ _
  · exact readCov_inside _ _ _ _ _ _ _ _ _

/-- The quotients from the buffer that holds the final accumulators. -/
theorem quotients_read (arg9 : Memref sig .tc .vmem S5x80x512 .f32) (a : Accs F) :
    quotients a = k0_pay1 (k0_pay114 (arg9.view.readCov (pieces a) (Rect.unit (s := S5x80x512) ![0, 0, 0] S1x64x512.size inb_S5x80x512_S1x64x512_0_0_0).toLoadRect) (arg9.view.readCov (pieces a) (Rect.unit (s := S5x80x512) ![0, 64, 0] S1x1x512.size inb_S5x80x512_S1x1x512_0_64_0).toLoadRect))
      (k0_pay115 (arg9.view.readCov (pieces a) (Rect.unit (s := S5x80x512) ![1, 0, 0] S1x64x512.size inb_S5x80x512_S1x64x512_1_0_0).toLoadRect) (arg9.view.readCov (pieces a) (Rect.unit (s := S5x80x512) ![1, 64, 0] S1x1x512.size inb_S5x80x512_S1x1x512_1_64_0).toLoadRect))
      (k0_pay116 (arg9.view.readCov (pieces a) (Rect.unit (s := S5x80x512) ![2, 0, 0] S1x64x512.size inb_S5x80x512_S1x64x512_2_0_0).toLoadRect)) (arg9.view.readCov (pieces a) (Rect.unit (s := S5x80x512) ![2, 64, 0] S1x1x512.size inb_S5x80x512_S1x1x512_2_64_0).toLoadRect)
      (arg9.view.readCov (pieces a) (Rect.unit (s := S5x80x512) ![3, 0, 0] S1x64x512.size inb_S5x80x512_S1x64x512_3_0_0).toLoadRect) (arg9.view.readCov (pieces a) (Rect.unit (s := S5x80x512) ![3, 64, 0] S1x1x512.size inb_S5x80x512_S1x1x512_3_64_0).toLoadRect)
      (arg9.view.readCov (pieces a) (Rect.unit (s := S5x80x512) ![4, 0, 0] S1x64x512.size inb_S5x80x512_S1x64x512_4_0_0).toLoadRect) (arg9.view.readCov (pieces a) (Rect.unit (s := S5x80x512) ![4, 64, 0] S1x1x512.size inb_S5x80x512_S1x1x512_4_64_0).toLoadRect) := by
  obtain ⟨t0, t1, t2, t3, t4⟩ := slot_read arg9 a 0 S1x64x512.size rfl inb_top
  obtain ⟨d0, d1, d2, d3, d4⟩ := slot_read arg9 a 64 S1x1x512.size rfl inb_den
  rw [t0, t1, t2, t3, t4, d0, d1, d2, d3, d4]
  rfl

/-- The zeros written at the loop's entry, read slot by slot. -/
theorem zeros_read (arg9 : Memref sig .tc .vmem S5x80x512 .f32) :
    slots arg9 (View.write (Elt F) (arg9.view.slice (⟨Rect.unit (s := S5x80x512) ![0, 0, 0] S5x80x512.size inb_S5x80x512_S5x80x512_0_0_0, k0_pay75⟩ : View.Piece (Elt F) S5x80x512 .f32).fst) (arg9.view.writes (Elt F) arg9.view.junk []) (⟨Rect.unit (s := S5x80x512) ![0, 0, 0] S5x80x512.size inb_S5x80x512_S5x80x512_0_0_0, k0_pay75⟩ : View.Piece (Elt F) S5x80x512 .f32).snd Finset.univ) = zeros := by
  have h : slots arg9 (arg9.view.writes (Elt F) arg9.view.junk [⟨Rect.unit (s := S5x80x512) ![0, 0, 0] S5x80x512.size inb_S5x80x512_S5x80x512_0_0_0, k0_pay75⟩]) = zeros := by
    simp only [slots, zeros, View.readAt_eq_ld]
    rw [View.read_writes_full]
  exact h

/-- The reads of a trip, from buffers that hold the blocks. -/
theorem reads_read (i : grid0.Coords) (arg3 : Memref sig .tc .vmem S1x8192x384 .bf16) (harg3 : arg3.IsWhole) (arg4 : Memref sig .tc .vmem S1x16x400x512 .bf16) (harg4 : arg4.IsWhole)
    (arg5 : Memref sig .tc .vmem S1x8192x128 .f32) (harg5 : arg5.IsWhole) (arg6 : Memref sig .tc .vmem S1x1x8x512 .f32) (harg6 : arg6.IsWhole) (arg8 : Memref sig .tc .vmem S5x128x512 .bf16)
    (x0 : Vec F S384x512 .bf16) (x1 : Vec F S1x8192x384 .bf16) (x2 : Vec F S1x16x400x512 .bf16) (x3 : Vec F S1x8192x128 .f32) (x4 : Vec F S1x1x8x512 .f32) :
    readsAt i arg3 arg4 arg5 arg8 (View.readAt (Elt F) arg6.view (Rect.unit (s := S1x1x8x512) ![0, 0, 0, 0] S1x1x8x512.size inb_S1x1x8x512_S1x1x8x512_0_0_0_0).toLoadRect (harg6.unread x4))
        (harg3.unread x1) (harg4.unread x2) (harg5.unread x3) (arg8.view.writes (Elt F) arg8.view.junk (queryPieces (queries x0)))
      = reads i x0 x1 x2 x3 x4 := by
  funext k
  obtain ⟨q0, q1, q2, q3, q4⟩ := queries_read arg8 (queries x0)
  rw [View.readCov.eq_1] at q0 q1 q2 q3 q4
  rw [readsAt, q0, q1, q2, q3, q4]
  simp only [reads, View.readAt_eq_ld, harg3.read_unread, harg4.read_unread, harg5.read_unread, harg6.read_unread]

/-- The queries' buffer after the five stores. -/
theorem queries_stored (c : Dev nD) (arg2 : Memref sig .tc .vmem S384x512 .bf16) (harg2 : arg2.IsWhole) (x0 : Vec F S384x512 .bf16) :
    Body.bodyRun.sl.HS0_5 c arg2 harg2 x0 = queryPieces (queries x0) := by
  simp only [Body.bodyRun.sl.HS0_5, Body.bodyRun.sl.r, View.readAt_eq_ld, harg2.read_unread]
  rfl

variable (c : Dev nD) (i : grid0.Coords) (arg2 : Memref sig .tc .vmem S384x512 .bf16) (harg2 : arg2.IsWhole) (arg3 : Memref sig .tc .vmem S1x8192x384 .bf16) (harg3 : arg3.IsWhole) (arg4 : Memref sig .tc .vmem S1x16x400x512 .bf16) (harg4 : arg4.IsWhole) (arg5 : Memref sig .tc .vmem S1x8192x128 .f32) (harg5 : arg5.IsWhole) (arg6 : Memref sig .tc .vmem S1x1x8x512 .f32) (harg6 : arg6.IsWhole) (arg7 : Memref sig .tc .vmem S1x512x384 .bf16) (harg7 : arg7.IsWhole) (arg8 : Memref sig .tc .vmem S5x128x512 .bf16) (harg8 : arg8.IsWhole) (arg9 : Memref sig .tc .vmem S5x80x512 .f32) (harg9 : arg9.IsWhole) (arg10 : Memref sig .tc .vmem S6x512x512 .f32) (harg10 : arg10.IsWhole)
    (x0 : Vec F S384x512 .bf16) (x1 : Vec F S1x8192x384 .bf16) (x2 : Vec F S1x16x400x512 .bf16) (x3 : Vec F S1x8192x128 .f32) (x4 : Vec F S1x1x8x512 .f32)

/-- The state the loop leaves, from buffers that hold the blocks. -/
theorem state_found : (state (k0_t1_loop i).trips (readsAt i arg3 arg4 arg5 arg8 (View.readAt (Elt F) arg6.view (Rect.unit (s := S1x1x8x512) ![0, 0, 0, 0] S1x1x8x512.size inb_S1x1x8x512_S1x1x8x512_0_0_0_0).toLoadRect (harg6.unread x4)) (harg3.unread x1) (harg4.unread x2) (harg5.unread x3) (arg8.view.writes (Elt F) arg8.view.junk (Body.bodyRun.sl.HS0_5 c arg2 harg2 x0))) (k0_pay76, k0_pay76, k0_pay76, k0_pay76, k0_pay76) (slots arg9 (View.write (Elt F) (arg9.view.slice (⟨Rect.unit (s := S5x80x512) ![0, 0, 0] S5x80x512.size inb_S5x80x512_S5x80x512_0_0_0, k0_pay75⟩ : View.Piece (Elt F) S5x80x512 .f32).fst) (arg9.view.writes (Elt F) arg9.view.junk []) (⟨Rect.unit (s := S5x80x512) ![0, 0, 0] S5x80x512.size inb_S5x80x512_S5x80x512_0_0_0, k0_pay75⟩ : View.Piece (Elt F) S5x80x512 .f32).snd Finset.univ)) (Scf.trips (k0_t1_loop i).lb (k0_t1_loop i).ub (k0_t1_loop i).st)) = before i x0 x1 x2 x3 x4 (k0_t1_loop i).trips := by
  rw [queries_stored, reads_read, zeros_read, before]

/-- The maxima the loop yields. -/
theorem rows_found :
    Body.bodyRun.sl.r_2 c i arg2 harg2 arg3 harg3 arg4 harg4 arg5 harg5 arg6 harg6 arg8 arg9 x0 x1 x2 x3 x4 = (before i x0 x1 x2 x3 x4 (k0_t1_loop i).trips).1.1
    ∧ Body.bodyRun.sl.r_3 c i arg2 harg2 arg3 harg3 arg4 harg4 arg5 harg5 arg6 harg6 arg8 arg9 x0 x1 x2 x3 x4 = (before i x0 x1 x2 x3 x4 (k0_t1_loop i).trips).1.2.1
    ∧ Body.bodyRun.sl.r_4 c i arg2 harg2 arg3 harg3 arg4 harg4 arg5 harg5 arg6 harg6 arg8 arg9 x0 x1 x2 x3 x4 = (before i x0 x1 x2 x3 x4 (k0_t1_loop i).trips).1.2.2.1
    ∧ Body.bodyRun.sl.r_5 c i arg2 harg2 arg3 harg3 arg4 harg4 arg5 harg5 arg6 harg6 arg8 arg9 x0 x1 x2 x3 x4 = (before i x0 x1 x2 x3 x4 (k0_t1_loop i).trips).1.2.2.2.1
    ∧ Body.bodyRun.sl.r_6 c i arg2 harg2 arg3 harg3 arg4 harg4 arg5 harg5 arg6 harg6 arg8 arg9 x0 x1 x2 x3 x4 = (before i x0 x1 x2 x3 x4 (k0_t1_loop i).trips).1.2.2.2.2 := by
  rw [Body.bodyRun.sl.r_2, Body.bodyRun.sl.r_3, Body.bodyRun.sl.r_4, Body.bodyRun.sl.r_5, Body.bodyRun.sl.r_6, state_found]
  generalize before i x0 x1 x2 x3 x4 (k0_t1_loop i).trips = b
  exact ⟨rfl, rfl, rfl, rfl, rfl⟩

/-- The accumulators the loop leaves. -/
theorem accs_found :
    Body.bodyRun.sl.v223 c i arg2 harg2 arg3 harg3 arg4 harg4 arg5 harg5 arg6 harg6 arg8 arg9 x0 x1 x2 x3 x4 = (before i x0 x1 x2 x3 x4 (k0_t1_loop i).trips).2.1
    ∧ Body.bodyRun.sl.v246 c i arg2 harg2 arg3 harg3 arg4 harg4 arg5 harg5 arg6 harg6 arg8 arg9 x0 x1 x2 x3 x4 = (before i x0 x1 x2 x3 x4 (k0_t1_loop i).trips).2.2.1
    ∧ Body.bodyRun.sl.v269 c i arg2 harg2 arg3 harg3 arg4 harg4 arg5 harg5 arg6 harg6 arg8 arg9 x0 x1 x2 x3 x4 = (before i x0 x1 x2 x3 x4 (k0_t1_loop i).trips).2.2.2.1
    ∧ Body.bodyRun.sl.v292 c i arg2 harg2 arg3 harg3 arg4 harg4 arg5 harg5 arg6 harg6 arg8 arg9 x0 x1 x2 x3 x4 = (before i x0 x1 x2 x3 x4 (k0_t1_loop i).trips).2.2.2.2.1
    ∧ Body.bodyRun.sl.v300 c i arg2 harg2 arg3 harg3 arg4 harg4 arg5 harg5 arg6 harg6 arg8 arg9 x0 x1 x2 x3 x4 = (before i x0 x1 x2 x3 x4 (k0_t1_loop i).trips).2.2.2.2.2 := by
  have h := slots_held arg9 (View.write (Elt F) (arg9.view.slice (⟨Rect.unit (s := S5x80x512) ![0, 0, 0] S5x80x512.size inb_S5x80x512_S5x80x512_0_0_0, k0_pay75⟩ : View.Piece (Elt F) S5x80x512 .f32).fst) (arg9.view.writes (Elt F) arg9.view.junk []) (⟨Rect.unit (s := S5x80x512) ![0, 0, 0] S5x80x512.size inb_S5x80x512_S5x80x512_0_0_0, k0_pay75⟩ : View.Piece (Elt F) S5x80x512 .f32).snd Finset.univ) (k0_t1_loop i).trips
    (readsAt i arg3 arg4 arg5 arg8 (View.readAt (Elt F) arg6.view (Rect.unit (s := S1x1x8x512) ![0, 0, 0, 0] S1x1x8x512.size inb_S1x1x8x512_S1x1x8x512_0_0_0_0).toLoadRect (harg6.unread x4)) (harg3.unread x1) (harg4.unread x2) (harg5.unread x3) (arg8.view.writes (Elt F) arg8.view.junk (Body.bodyRun.sl.HS0_5 c arg2 harg2 x0)))
    (k0_pay76, k0_pay76, k0_pay76, k0_pay76, k0_pay76) (Scf.trips (k0_t1_loop i).lb (k0_t1_loop i).ub (k0_t1_loop i).st)
  rw [state_found] at h
  rw [← h, slots, Body.bodyRun.sl.v223, Body.bodyRun.sl.v246, Body.bodyRun.sl.v269, Body.bodyRun.sl.v292, Body.bodyRun.sl.v300]
  generalize held (F := F) arg9 _ _ _ = H
  exact ⟨rfl, rfl, rfl, rfl, rfl⟩

/-- The last step's scores, as stored. -/
theorem scores_stored :
    Body.bodyRun.sl.HS2_5 c i arg2 harg2 arg3 harg3 arg5 harg5 arg6 harg6 arg8 x0 x1 x3 x4 = scorePieces (lastScores i (lastReads i x0 x1 x2 x3 x4)) := by
  obtain ⟨q0, q1, q2, q3, q4⟩ := queries_read arg8 (queries x0)
  rw [← queries_stored c arg2 harg2] at q0 q1 q2 q3 q4
  rw [Body.bodyRun.sl.HS2_5, Body.bodyRun.sl.v111, Body.bodyRun.sl.v128, Body.bodyRun.sl.v145, Body.bodyRun.sl.v162, Body.bodyRun.sl.v179, q0, q1, q2, q3, q4]
  simp only [scorePieces, lastScores, lastReads, Body.bodyRun.sl.r_1, Body.bodyRun.sl.r_7, Body.bodyRun.sl.r_8, Body.bodyRun.sl.r_9, Body.bodyRun.sl.r_10,
    blocks, View.readAt_eq_ld, harg3.read_unread, harg5.read_unread, harg6.read_unread]

/-- The last step's scores, as loaded. -/
theorem scores_found :
    Body.bodyRun.sl.v193 c i arg2 harg2 arg3 harg3 arg5 harg5 arg6 harg6 arg8 arg10 x0 x1 x3 x4 = (lastScores i (lastReads i x0 x1 x2 x3 x4)).1
    ∧ Body.bodyRun.sl.v208 c i arg2 harg2 arg3 harg3 arg5 harg5 arg6 harg6 arg8 arg10 x0 x1 x3 x4 = (lastScores i (lastReads i x0 x1 x2 x3 x4)).2.1
    ∧ Body.bodyRun.sl.v231 c i arg2 harg2 arg3 harg3 arg5 harg5 arg6 harg6 arg8 arg10 x0 x1 x3 x4 = (lastScores i (lastReads i x0 x1 x2 x3 x4)).2.2.1
    ∧ Body.bodyRun.sl.v254 c i arg2 harg2 arg3 harg3 arg5 harg5 arg6 harg6 arg8 arg10 x0 x1 x3 x4 = (lastScores i (lastReads i x0 x1 x2 x3 x4)).2.2.2.1
    ∧ Body.bodyRun.sl.v277 c i arg2 harg2 arg3 harg3 arg5 harg5 arg6 harg6 arg8 arg10 x0 x1 x3 x4 = (lastScores i (lastReads i x0 x1 x2 x3 x4)).2.2.2.2 := by
  have h := scores_read arg10 (lastScores i (lastReads i x0 x1 x2 x3 x4))
  rw [Body.bodyRun.sl.v193, Body.bodyRun.sl.v208, Body.bodyRun.sl.v231, Body.bodyRun.sl.v254, Body.bodyRun.sl.v277, scores_stored c i arg2 harg2 arg3 harg3 arg5 harg5 arg6 harg6 arg8 x0 x1 x2 x3 x4]
  exact ⟨congrArg (·.1) h, congrArg (·.2.1) h, congrArg (·.2.2.1) h, congrArg (·.2.2.2.1) h, congrArg (·.2.2.2.2) h⟩

/-- The final accumulators, as stored. -/
theorem final_stored :
    Body.bodyRun.sl.HS1_5 c i arg2 harg2 arg3 harg3 arg4 harg4 arg5 harg5 arg6 harg6 arg8 arg9 arg10 x0 x1 x2 x3 x4 = pieces (final i x0 x1 x2 x3 x4) := by
  obtain ⟨m0, m1, m2, m3, m4⟩ := rows_found c i arg2 harg2 arg3 harg3 arg4 harg4 arg5 harg5 arg6 harg6 arg8 arg9 x0 x1 x2 x3 x4
  obtain ⟨a0, a1, a2, a3, a4⟩ := accs_found c i arg2 harg2 arg3 harg3 arg4 harg4 arg5 harg5 arg6 harg6 arg8 arg9 x0 x1 x2 x3 x4
  obtain ⟨s0, s1, s2, s3, s4⟩ := scores_found c i arg2 harg2 arg3 harg3 arg5 harg5 arg6 harg6 arg8 arg10 x0 x1 x2 x3 x4
  rw [Body.bodyRun.sl.HS1_5, a0, a1, a2, a3, a4]
  rw [Body.bodyRun.sl.r_11, Body.bodyRun.sl.r_12, Body.bodyRun.sl.r_13, Body.bodyRun.sl.r_14, Body.bodyRun.sl.r_15, Body.bodyRun.sl.r_16, Body.bodyRun.sl.r_17, Body.bodyRun.sl.r_18, Body.bodyRun.sl.r_19, Body.bodyRun.sl.r_20,
    m0, m1, m2, m3, m4, s0, s1, s2, s3, s4]
  simp only [final, pieces, lastAccs, lastReads, View.readAt_eq_ld, harg4.read_unread]

/-- What the body's run leaves in the output's block is `block`. -/
theorem bodyRun_eq :
    (Body.bodyRun c i arg2 harg2 arg3 harg3 arg4 harg4 arg5 harg5 arg6 harg6 arg7 harg7 arg8 harg8 arg9 harg9 arg10 harg10 x0 x1 x2 x3 x4).1
      = block i x0 x1 x2 x3 x4 := by
  rw [block, quotients_read arg9, ← final_stored c i arg2 harg2 arg3 harg3 arg4 harg4 arg5 harg5 arg6 harg6 arg8 arg9 arg10 x0 x1 x2 x3 x4]
  rfl

end Cert.KernelIdeal.Block

end
-- ==== Proof.Mask.lean ====
/- Comparing two positions written as 32-bit words. -/
module

public import Idealize.ShloMosaic.PureOps.Ideal
public import Idealize.ShloMosaic.Lib.Pointwise

@[expose] public section

namespace Cert.Mask

open Idealize.ShloMosaic

theorem toInt_ofNat {n : ℕ} (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- Two positions compare as words as they do as numbers. -/
theorem sle_ofNat {a b : ℕ} (ha : a < 2 ^ 31) (hb : b < 2 ^ 31) :
    IntOp.cmpi .sle (BitVec.ofNat 32 a) (BitVec.ofNat 32 b) = if a ≤ b then 1#1 else 0#1 := by
  show BitVec.ofBool ((BitVec.ofNat 32 a).sle (BitVec.ofNat 32 b)) = _
  rw [BitVec.sle_eq_decide, toInt_ofNat ha, toInt_ofNat hb]
  by_cases h : a ≤ b
  · rw [if_pos h, decide_eq_true (by exact_mod_cast h)]; rfl
  · rw [if_neg h, decide_eq_false (by exact_mod_cast h)]; rfl

end Cert.Mask
-- ==== Proof.Step.lean ====
/- The forgetting attention's steps read at an index: the scaled queries, the scores, the running maxima, the
   accumulators and the quotients, over the extended reals. -/
module

public import proofs.«01_k».proof.Proof.Block
public import proofs.«01_k».proof.Proof.Mask
public import Idealize.ShloMosaic.Lib.Pointwise
public import Idealize.ShloMosaic.Lib.Tactic.CleanTypes

@[expose] public section

set_option maxRecDepth 16384

noncomputable section

namespace Cert.KernelIdeal.Step

open Cert.KernelIdeal Cert.KernelIdeal.Gen Cert.KernelIdeal.Trip Cert.KernelIdeal.Block
open Idealize.ShloMosaic Idealize.ShloMosaic.TcCoe Idealize.SL.Sem

/-- log₂ e. -/
abbrev log2e : EReal := (((Real.log 2)⁻¹ : ℝ) : EReal)

/-- log₂ e times 64 to the power −½. -/
abbrev qscale : EReal := (((1 / 8) * (Real.log 2)⁻¹ : ℝ) : EReal)

theorem named_log2e : Named.named (F := Ideal) κ "log2e" (φ := .f32) 0x3FB8AA3B#32 = log2e := rfl

theorem named_qscale : Named.named (F := Ideal) κ "qscale" (φ := .f32) 0x3E38AA3B#32 = qscale := rfl

/-- One head's component of five. -/
def pick {α : Type} (s : α × α × α × α × α) (h : Fin 5) : α := ![s.1, s.2.1, s.2.2.1, s.2.2.2.1, s.2.2.2.2] h

/-- A head's slot of the keys that a step reads: two heads share 128 columns. -/
def keyOf (r : Reads Ideal) (h : Fin 5) : Vec Ideal S1x512x128 .bf16 := ![r.k0, r.k0, r.k1, r.k1, r.k2] h

/-- A head's scaled queries. -/
def queryOf (r : Reads Ideal) (h : Fin 5) : Vec Ideal S1x128x512 .bf16 := ![r.q0, r.q1, r.q2, r.q3, r.q4] h

/-- A head's values and ones. -/
def valueOf (r : Reads Ideal) (h : Fin 5) : Vec Ideal S1x1x80x512 .bf16 := ![r.v0, r.v1, r.v2, r.v3, r.v4] h

theorem ofBits_bot : Ideal.ofBits .f32 0xFF800000#32 = ⊥ := by
  show Ideal.ieee 8 23 0xFF800000#32 = ⊥
  unfold Ideal.ieee
  exact (if_pos (by decide)).trans ((if_pos (by decide)).trans (if_pos (by decide)))

/-- The new maxima of one head. -/
abbrev newMax (m : FVec Ideal S1x512 .f32) (s : FVec Ideal S1x512x512 .f32) : FVec Ideal S1x512 .f32 := k0_pay11 m s

/-- The new accumulator of one head. -/
abbrev newAcc (m : FVec Ideal S1x512 .f32) (s : FVec Ideal S1x512x512 .f32) (v : Vec Ideal S1x1x80x512 .bf16) (a : Vec Ideal S1x80x512 .f32) :
    Vec Ideal S1x80x512 .f32 := k0_pay19 (k0_pay12 m s) (k0_pay13 m s v) a

theorem rows_eq (s : Scores Ideal) (m : Rows Ideal) (h : Fin 5) : pick (rows s m) h = newMax (pick m h) (pick s h) := by
  fin_cases h <;> rfl

theorem accs_eq (r : Reads Ideal) (s : Scores Ideal) (m : Rows Ideal) (a : Accs Ideal) (h : Fin 5) :
    pick (accs r s m a) h = newAcc (pick m h) (pick s h) (valueOf r h) (pick a h) := by
  fin_cases h <;> rfl

theorem lastAccs_eq (r : Reads Ideal) (s : Scores Ideal) (m : Rows Ideal) (a : Accs Ideal) :
    lastAccs r s m a = accs r s m a := rfl

theorem newMax_apply (m : FVec Ideal S1x512 .f32) (s : FVec Ideal S1x512x512 .f32) (q : Fin 512) :
    newMax m s (ix2 0 q) = max (m (ix2 0 q)) (Finset.univ.fold max ⊥ (fun x : Fin 512 => s (ix3 0 x q))) := by
  rw [← ofBits_bot]
  pointwise [k0_pay11, k0_pay10]

theorem newAcc_apply (m : FVec Ideal S1x512 .f32) (s : FVec Ideal S1x512x512 .f32) (v : Vec Ideal S1x1x80x512 .bf16) (a : Vec Ideal S1x80x512 .f32)
    (r : Fin 80) (q : Fin 512) :
    newAcc m s v a (ix3 0 r q) = a (ix3 0 r q) * Ideal.exp2 (m (ix2 0 q) - newMax m s (ix2 0 q))
      + ∑ x : Fin 512, v (ix4 0 0 r x) * Ideal.exp2 (s (ix3 0 x q) - newMax m s (ix2 0 q)) := by
  pointwise [k0_pay19, k0_pay12, k0_pay13, k0_pay10]
  rfl

/-- One head's score of a key against a query, times log₂ e. -/
def score (h : Fin 5) (fq : FVec Ideal S8x512 .f32) (f : Vec Ideal S1x512x128 .f32) (k : Vec Ideal S1x512x128 .bf16) (q : Vec Ideal S1x128x512 .bf16)
    (x y : Fin 512) : EReal :=
  (∑ d : Fin 128, k (ix3 0 x d) * q (ix3 0 d y)) + (fq (ix2 ⟨h.val, by omega⟩ y) - f (ix3 0 x ⟨8 + h.val, by omega⟩) * log2e)

theorem pay3_apply (fq : FVec Ideal S8x512 .f32) (f : Vec Ideal S1x512x128 .f32) (k : Vec Ideal S1x512x128 .bf16) (q : Vec Ideal S1x128x512 .bf16)
    (x y : Fin 512) : k0_pay3 fq f k q (ix3 0 x y) = score 0 fq f k q x y := by
  pointwise [k0_pay3, k0_pay2]
  rfl

theorem pay5_apply (fq : FVec Ideal S8x512 .f32) (f : Vec Ideal S1x512x128 .f32) (k : Vec Ideal S1x512x128 .bf16) (q : Vec Ideal S1x128x512 .bf16)
    (x y : Fin 512) : k0_pay5 (k0_pay4 fq f k q) (ix3 0 x y) = score 1 fq f k q x y := by
  pointwise [k0_pay5, k0_pay4, k0_pay2]
  rfl

theorem pay6_apply (fq : FVec Ideal S8x512 .f32) (f : Vec Ideal S1x512x128 .f32) (k : Vec Ideal S1x512x128 .bf16) (q : Vec Ideal S1x128x512 .bf16)
    (x y : Fin 512) : k0_pay6 fq (k0_pay2 f) k q (ix3 0 x y) = score 2 fq f k q x y := by
  pointwise [k0_pay6, k0_pay2]
  rfl

theorem pay7_apply (fq : FVec Ideal S8x512 .f32) (f : Vec Ideal S1x512x128 .f32) (k : Vec Ideal S1x512x128 .bf16) (q : Vec Ideal S1x128x512 .bf16)
    (x y : Fin 512) : k0_pay7 fq (k0_pay2 f) k q (ix3 0 x y) = score 3 fq f k q x y := by
  pointwise [k0_pay7, k0_pay2]
  rfl

theorem pay9_apply (fq : FVec Ideal S8x512 .f32) (f : Vec Ideal S1x512x128 .f32) (k : Vec Ideal S1x512x128 .bf16) (q : Vec Ideal S1x128x512 .bf16)
    (x y : Fin 512) : k0_pay9 fq (k0_pay2 f) (k0_pay8 k) q (ix3 0 x y) = score 4 fq f k q x y := by
  pointwise [k0_pay9, k0_pay8, k0_pay2]
  rfl

/-- The scores of a trip, a head at a time. -/
theorem scores_apply (r : Reads Ideal) (h : Fin 5) (x y : Fin 512) :
    pick (scores r) h (ix3 0 x y) = score h r.fq r.f (keyOf r h) (queryOf r h) x y := by
  match h with
  | 0 => exact pay3_apply ..
  | 1 => exact pay5_apply ..
  | 2 => exact pay6_apply ..
  | 3 => exact pay7_apply ..
  | 4 => exact pay9_apply ..

theorem pay83_apply (fq : FVec Ideal S8x512 .f32) (f : Vec Ideal S1x512x128 .f32) (w : IVec S512x512 1) (k : Vec Ideal S1x512x128 .bf16) (q : Vec Ideal S1x128x512 .bf16)
    (x y : Fin 512) : k0_pay83 fq (k0_pay81 f) w k q (ix3 0 x y) = Scalar.select (w (ix2 x y)) (score 0 fq f k q x y) ⊥ := by
  rw [← ofBits_bot]
  pointwise [k0_pay83, k0_pay81]
  rfl

theorem pay84_apply (fq : FVec Ideal S8x512 .f32) (f : Vec Ideal S1x512x128 .f32) (w : IVec S512x512 1) (k : Vec Ideal S1x512x128 .bf16) (q : Vec Ideal S1x128x512 .bf16)
    (x y : Fin 512) : k0_pay84 fq (k0_pay81 f) w k q (ix3 0 x y) = Scalar.select (w (ix2 x y)) (score 1 fq f k q x y) ⊥ := by
  rw [← ofBits_bot]
  pointwise [k0_pay84, k0_pay81]
  rfl

theorem pay85_apply (fq : FVec Ideal S8x512 .f32) (f : Vec Ideal S1x512x128 .f32) (w : IVec S512x512 1) (k : Vec Ideal S1x512x128 .bf16) (q : Vec Ideal S1x128x512 .bf16)
    (x y : Fin 512) : k0_pay85 fq (k0_pay81 f) w k q (ix3 0 x y) = Scalar.select (w (ix2 x y)) (score 2 fq f k q x y) ⊥ := by
  rw [← ofBits_bot]
  pointwise [k0_pay85, k0_pay81]
  rfl

theorem pay86_apply (fq : FVec Ideal S8x512 .f32) (f : Vec Ideal S1x512x128 .f32) (w : IVec S512x512 1) (k : Vec Ideal S1x512x128 .bf16) (q : Vec Ideal S1x128x512 .bf16)
    (x y : Fin 512) : k0_pay86 fq (k0_pay81 f) w k q (ix3 0 x y) = Scalar.select (w (ix2 x y)) (score 3 fq f k q x y) ⊥ := by
  rw [← ofBits_bot]
  pointwise [k0_pay86, k0_pay81]
  rfl

theorem pay88_apply (fq : FVec Ideal S8x512 .f32) (f : Vec Ideal S1x512x128 .f32) (w : IVec S512x512 1) (k : Vec Ideal S1x512x128 .bf16) (q : Vec Ideal S1x128x512 .bf16)
    (x y : Fin 512) : k0_pay88 fq (k0_pay81 f) w (k0_pay87 k) q (ix3 0 x y) = Scalar.select (w (ix2 x y)) (score 4 fq f k q x y) ⊥ := by
  rw [← ofBits_bot]
  pointwise [k0_pay88, k0_pay87, k0_pay81]
  rfl

/-- The block of queries of a grid point. -/
def own (i : grid0.Coords) : Fin 16 := i 1

/-- The number of blocks of keys seen, for each block of queries. -/
theorem blocks_eq (i : grid0.Coords) : blocks i = BitVec.ofNat 32 ((own i).val + 1) := by
  show Body.bodyRun.sl.v20 i = BitVec.ofNat 32 ((i 1).val + 1)
  simp only [Body.bodyRun.sl.v20, Body.bodyRun.sl.v19, Body.bodyRun.sl.v18, Body.bodyRun.sl.v17, Body.bodyRun.sl.v16, Body.bodyRun.sl.v15, Body.bodyRun.sl.v14, Body.bodyRun.sl.v8, Body.bodyRun.sl.v7, Body.bodyRun.sl.v6, Body.bodyRun.sl.v5, Body.bodyRun.sl.v4, Body.bodyRun.sl.v3, Body.bodyRun.sl.v2, Body.bodyRun.sl.v1, Body.bodyRun.sl.v0]
  generalize i 1 = n
  revert n
  decide +kernel

/-- The mask keeps a key of the queries' own block when it is not after the query. -/
theorem mask_apply (i : grid0.Coords) (x y : Fin 512) :
    k0_pay82 (blocks i) (k0_pay66 i) (ix2 x y) = if x.val ≤ y.val then 1#1 else 0#1 := by
  rw [blocks_eq]
  pointwise [k0_pay82, k0_pay66]
  have e (n : Fin 16) : Scalar.muli (Scalar.subi (BitVec.ofNat 32 (n.val + 1)) 1#32) 512#32 = BitVec.ofNat 32 (n.val * 512)
      ∧ Scalar.muli (BitVec.ofNat 32 n.val) 512#32 = BitVec.ofNat 32 (n.val * 512) := by revert n; decide +kernel
  rw [(e (own i)).1]
  refine (congrArg (fun z => IntOp.cmpi .sle (IntOp.addi (BitVec.ofNat 32 ((own i).val * 512)) (BitVec.ofNat 32 x.val)) (IntOp.addi z (BitVec.ofNat 32 y.val))) (e (own i)).2).trans ?_
  show IntOp.cmpi .sle (BitVec.ofNat 32 ((own i).val * 512) + BitVec.ofNat 32 x.val) (BitVec.ofNat 32 ((own i).val * 512) + BitVec.ofNat 32 y.val) = _
  rw [← BitVec.ofNat_add, ← BitVec.ofNat_add, Mask.sle_ofNat (by omega) (by omega)]
  exact if_congr (by omega) rfl rfl

/-- The last step's scores, a head at a time. -/
theorem lastScores_apply (i : grid0.Coords) (r : Reads Ideal) (h : Fin 5) (x y : Fin 512) :
    pick (lastScores i r) h (ix3 0 x y) = if x.val ≤ y.val then score h r.fq r.f (keyOf r h) (queryOf r h) x y else ⊥ := by
  have key (h : Fin 5) (e : pick (lastScores i r) h (ix3 0 x y)
      = Scalar.select (k0_pay82 (blocks i) (k0_pay66 i) (ix2 x y)) (score h r.fq r.f (keyOf r h) (queryOf r h) x y) ⊥) :
      pick (lastScores i r) h (ix3 0 x y) = if x.val ≤ y.val then score h r.fq r.f (keyOf r h) (queryOf r h) x y else ⊥ := by
    rw [e, mask_apply]
    split <;> rfl
  apply key
  match h with
  | 0 => exact pay83_apply ..
  | 1 => exact pay84_apply ..
  | 2 => exact pay85_apply ..
  | 3 => exact pay86_apply ..
  | 4 => exact pay88_apply ..

theorem queries0_apply (x0 : Vec Ideal S384x512 .bf16) (d : Fin 128) (y : Fin 512) :
   (queries x0).1 (ix3 0 d y) = if h : d.val < 64 then x0 (ix2 ⟨d, by omega⟩ y) * qscale else 0 := by
  pointwise [queries, k0_pay68, k0_pay67]
  rfl

theorem queries1_apply (x0 : Vec Ideal S384x512 .bf16) (d : Fin 128) (y : Fin 512) :
   (queries x0).2.1 (ix3 0 d y) = if h : d.val < 64 then 0 else x0 (ix2 ⟨64 + (d - 64), by omega⟩ y) * qscale := by
  pointwise [queries, k0_pay69, k0_pay67]
  rfl

theorem queries2_apply (x0 : Vec Ideal S384x512 .bf16) (d : Fin 128) (y : Fin 512) :
   (queries x0).2.2.1 (ix3 0 d y) = if h : d.val < 64 then x0 (ix2 ⟨128 + d, by omega⟩ y) * qscale else 0 := by
  pointwise [queries, k0_pay70, k0_pay67]
  rfl

theorem queries3_apply (x0 : Vec Ideal S384x512 .bf16) (d : Fin 128) (y : Fin 512) :
   (queries x0).2.2.2.1 (ix3 0 d y) = if h : d.val < 64 then 0 else x0 (ix2 ⟨192 + (d - 64), by omega⟩ y) * qscale := by
  pointwise [queries, k0_pay71, k0_pay67]
  rfl

theorem queries4_apply (x0 : Vec Ideal S384x512 .bf16) (d : Fin 128) (y : Fin 512) :
   (queries x0).2.2.2.2 (ix3 0 d y) = if h : d.val < 64 then x0 (ix2 ⟨256 + d, by omega⟩ y) * qscale else 0 := by
  pointwise [queries, k0_pay73, k0_pay72, k0_pay67]
  rfl

theorem top_apply (a : Vec Ideal S1x80x512 .f32) (r : Fin 64) (y : Fin 512) :
   top a (ix3 0 r y) = a (ix3 0 ⟨r, by omega⟩ y) := by
  pointwise [top]

theorem den_apply (a : Vec Ideal S1x80x512 .f32) (y : Fin 512) :
   den a (ix3 0 0 y) = a (ix3 0 64 y) := by
  pointwise [den]

/-- The output's block: a head's 64 columns at a time, then zeros. -/
theorem quotients_apply (a : Accs Ideal) (y : Fin 512) (c : Fin 384) :
   quotients a (ix3 0 y c) = if h : c.val < 320 then
     Ideal.div (pick a ⟨c / 64, by omega⟩ (ix3 0 ⟨c % 64, by omega⟩ y)) (pick a ⟨c / 64, by omega⟩ (ix3 0 64 y)) else 0 := by
  pointwise [quotients, k0_pay1, k0_pay114, k0_pay115, k0_pay116]
  simp only [top_apply, den_apply]
  have hp (h : Fin 5) (d : ℕ) (hd : d < 64) (e : c.val = h.val * 64 + d) :
      (if h : c.val < 320 then
        Ideal.div (pick a ⟨c / 64, by omega⟩ (ix3 0 ⟨c % 64, by omega⟩ y)) (pick a ⟨c / 64, by omega⟩ (ix3 0 64 y)) else 0)
      = Ideal.div (pick a h (ix3 0 ⟨d, by omega⟩ y)) (pick a h (ix3 0 64 y)) := by
    have h1 (p) : (⟨c.val / 64, p⟩ : Fin 5) = h := Fin.ext (by show c.val / 64 = h.val; omega)
    have h2 (p) : (⟨c.val % 64, p⟩ : Fin 80) = ⟨d, by omega⟩ := Fin.ext (by show c.val % 64 = d; omega)
    rw [dif_pos (by omega)]
    simp only [h1, h2]
  split
  · rw [hp 0 c.val (by omega) (by show _ = 0 * 64 + _; omega)]; rfl
  split
  · rw [hp 1 (c.val - 64) (by omega) (by show _ = 1 * 64 + _; omega)]; rfl
  split
  · rw [hp 2 (c.val - 64 - 64) (by omega) (by show _ = 2 * 64 + _; omega)]; rfl
  split
  · rw [hp 3 (c.val - 64 - 64 - 64) (by omega) (by show _ = 3 * 64 + _; omega)]; rfl
  split
  · rw [hp 4 (c.val - 64 - 64 - 64 - 64) (by omega) (by show _ = 4 * 64 + _; omega)]; rfl
  · rw [dif_neg (by omega)]

theorem zeros_apply (h : Fin 5) (r : Fin 80) (y : Fin 512) : pick (zeros (F := Ideal)) h (ix3 0 r y) = (0 : EReal) := by
  match h with
  | 0 => show zeros.1 _ = _; pointwise [zeros, k0_pay75]
  | 1 => show zeros.2.1 _ = _; pointwise [zeros, k0_pay75]
  | 2 => show zeros.2.2.1 _ = _; pointwise [zeros, k0_pay75]
  | 3 => show zeros.2.2.2.1 _ = _; pointwise [zeros, k0_pay75]
  | 4 => show zeros.2.2.2.2 _ = _; pointwise [zeros, k0_pay75]

theorem first_apply (y : Fin 512) : (k0_pay76 : FVec Ideal S1x512 .f32) (ix2 0 y) ≠ ⊤ ∧ (k0_pay76 : FVec Ideal S1x512 .f32) (ix2 0 y) ≠ ⊥ := by
  have e : ∃ r : ℝ, Ideal.ofBits .f32 0xF149F2CA#32 = (r : EReal) := by
    show ∃ r : ℝ, Ideal.ieee 8 23 0xF149F2CA#32 = (r : EReal)
    unfold Ideal.ieee
    exact ⟨_, (if_neg (by decide)).trans (if_neg (by decide))⟩
  pointwise [k0_pay76]
  obtain ⟨r, e⟩ := e
  rw [e]
  exact ⟨EReal.coe_ne_top r, EReal.coe_ne_bot r⟩

theorem queryLogs_apply (x4 : Vec Ideal S1x1x8x512 .f32) (h : Fin 8) (y : Fin 512) :
    k0_pay74 (View.ld x4 (Rect.unit (s := S1x1x8x512) ![0, 0, 0, 0] S1x1x8x512.size inb_S1x1x8x512_S1x1x8x512_0_0_0_0)) (ix2 h y)
      = x4 (ix4 0 0 h y) * log2e := by
  pointwise [k0_pay74]
  rfl

end Cert.KernelIdeal.Step

end
-- ==== Proof.HostArrays.lean ====
/- The arrays the kernel's windows are cut from, as the host's padding, reshaping and transposing leaves them,
   read at an index. -/
module

public import proofs.«01_k».proof.Proof.Gen.KernelIdeal.Frame
public import Idealize.ShloMosaic.Lib.Pointwise
public import Idealize.ShloMosaic.Lib.StableHlo.RunRead
public import Idealize.ShloMosaic.Lib.Claim
public import Idealize.ShloMosaic.Lib.Pipeline.ValueKit

@[expose] public section

set_option maxRecDepth 16384

noncomputable section

namespace Cert.KernelIdeal.HostArrays

open Cert.KernelIdeal Cert.KernelIdeal.Gen
open Idealize.ShloMosaic Idealize.ShloMosaic.TcCoe Idealize.SL.Sem

variable (m : (ℓ : Loc nD τ sig) → Buf (Elt Ideal) ℓ)

/-- The number a padded array is filled up with. -/
abbrev fill : FVec Ideal S_ .f32 := sitofp .f32 (constantI S_ 32 0#32)

/-- The queries: one row a head and feature, one column a token. -/
def queryArray (q : FVec Ideal S4x8192x5x64 .f32) : FVec Ideal S384x32768 .bf16 :=
  truncf .bf16 (transpose S384x32768 [1, 0] (pad S32768x384 ![0, 0] ![0, 64] ![0, 0]
    (shapeCast S32768x320 q shapeCasts_S4x8192x5x64_S32768x320) fill pads_S32768x320_S32768x384_000_0640 h_S_) transposes_S32768x384_S384x32768_1_0) bitsLt_bf16_f32

/-- The keys: one row a token, one column a head and feature. -/
def keyArray (k : FVec Ideal S4x8192x5x64 .f32) : FVec Ideal S4x8192x384 .bf16 :=
  truncf .bf16 (pad S4x8192x384 ![0, 0, 0] ![0, 0, 64] ![0, 0, 0]
    (shapeCast S4x8192x320 k shapeCasts_S4x8192x5x64_S4x8192x320) fill pads_S4x8192x320_S4x8192x384_000_000_0640 h_S_) bitsLt_bf16_f32

/-- The values by block of keys, sixteen rows of ones after the 64 features of each head. -/
def valueArray (v : FVec Ideal S4x8192x5x64 .f32) : FVec Ideal S64x400x512 .bf16 :=
  truncf .bf16 (shapeCast S64x400x512 (concatenate S64x5x80x512 2
    [⟨S64x5x64x512, transpose S64x5x64x512 [0, 2, 3, 1] (shapeCast S64x512x5x64 v shapeCasts_S4x8192x5x64_S64x512x5x64) transposes_S64x512x5x64_S64x5x64x512_0_2_3_1⟩,
     ⟨S64x5x16x512, broadcastInDim S64x5x16x512 ![] bcast_S_S64x5x16x512 (constant S_ .f32 0x3F800000#32)⟩]
    concatenates_S64x5x64x512_S64x5x16x512_S64x5x80x512_d2) shapeCasts_S64x5x80x512_S64x400x512) bitsLt_bf16_f32

/-- The same, the blocks of one batch element together. -/
def valueBlocks (v : FVec Ideal S4x8192x5x64 .f32) : FVec Ideal S4x16x400x512 .bf16 :=
  shapeCast S4x16x400x512 (valueArray v) shapeCasts_S64x400x512_S4x16x400x512

/-- The cumulative forget logs of the keys: columns 8 to 12. -/
def keyLogs (f : FVec Ideal S4x8192x5 .f32) : FVec Ideal S4x8192x128 .f32 :=
  pad S4x8192x128 ![0, 0, 8] ![0, 0, 115] ![0, 0, 0] f fill pads_S4x8192x5_S4x8192x128_000_000_81150 h_S_

/-- The cumulative forget logs of the queries: one row a head, by block of queries. -/
def queryLogs (f : FVec Ideal S4x8192x5 .f32) : FVec Ideal S4x16x8x512 .f32 :=
  pad S4x16x8x512 ![0, 0, 0, 0] ![0, 0, 3, 0] ![0, 0, 0, 0]
    (transpose S4x16x5x512 [0, 1, 3, 2] (shapeCast S4x16x512x5 f shapeCasts_S4x8192x5_S4x16x512x5) transposes_S4x16x512x5_S4x16x5x512_0_1_3_2)
    fill pads_S4x16x5x512_S4x16x8x512_000_000_030_000 h_S_

theorem V_query (c : Dev nD) : V m c main_v3 = queryArray (m (c.tc.loc main_arg0)) := by
  unfold V
  simp only [hostOps0, hostOps0_1, hostOps0_2, hostOps0_3, hostOps0_4, hostOps0_5, hostOps0_6, hostOps0_7, hostOps0_8, List.flatten_cons, List.flatten_nil, List.append_nil,
    List.cons_append, List.nil_append]
  after_reads_simp
  rfl

theorem V_key (c : Dev nD) : V m c main_v6 = keyArray (m (c.tc.loc main_arg1)) := by
  unfold V
  simp only [hostOps0, hostOps0_1, hostOps0_2, hostOps0_3, hostOps0_4, hostOps0_5, hostOps0_6, hostOps0_7, hostOps0_8, List.flatten_cons, List.flatten_nil, List.append_nil,
    List.cons_append, List.nil_append]
  after_reads_simp
  rfl

theorem V_value (c : Dev nD) : V m c main_v17 = valueBlocks (m (c.tc.loc main_arg2)) := by
  unfold V
  simp only [hostOps0, hostOps0_1, hostOps0_2, hostOps0_3, hostOps0_4, hostOps0_5, hostOps0_6, hostOps0_7, hostOps0_8, List.flatten_cons, List.flatten_nil, List.append_nil,
    List.cons_append, List.nil_append]
  after_reads_simp
  rfl

theorem V_keyLogs (c : Dev nD) : V m c main_v13 = keyLogs (m (c.tc.loc main_arg3)) := by
  unfold V
  simp only [hostOps0, hostOps0_1, hostOps0_2, hostOps0_3, hostOps0_4, hostOps0_5, hostOps0_6, hostOps0_7, hostOps0_8, List.flatten_cons, List.flatten_nil, List.append_nil,
    List.cons_append, List.nil_append]
  after_reads_simp
  rfl

theorem V_queryLogs (c : Dev nD) : V m c main_v16 = queryLogs (m (c.tc.loc main_arg3)) := by
  unfold V
  simp only [hostOps0, hostOps0_1, hostOps0_2, hostOps0_3, hostOps0_4, hostOps0_5, hostOps0_6, hostOps0_7, hostOps0_8, List.flatten_cons, List.flatten_nil, List.append_nil,
    List.cons_append, List.nil_append]
  after_reads_simp
  rfl

theorem queryArray_apply (q : FVec Ideal S4x8192x5x64 .f32) (r : Fin 384) (n : Fin 32768) (h : r.val < 320) :
    queryArray q (ix2 r n) = q (ix4 ⟨n / 8192, by omega⟩ ⟨n % 8192, by omega⟩ ⟨r / 64, by omega⟩ ⟨r % 64, by omega⟩) := by
  pointwise [queryArray]
  rw [dif_pos h]

theorem keyArray_apply (k : FVec Ideal S4x8192x5x64 .f32) (b : Fin 4) (j : Fin 8192) (r : Fin 384) (h : r.val < 320) :
    keyArray k (ix3 b j r) = k (ix4 b j ⟨r / 64, by omega⟩ ⟨r % 64, by omega⟩) := by
  pointwise [keyArray]
  rw [dif_pos h]

theorem valueArray_apply (v : FVec Ideal S4x8192x5x64 .f32) (b : Fin 64) (r : Fin 400) (j : Fin 512) :
    valueArray v (ix3 b r j) = if h : r.val % 80 < 64 then
      v (ix4 ⟨b / 16, by omega⟩ ⟨b % 16 * 512 + j, by omega⟩ ⟨r / 80, by omega⟩ ⟨r % 80, h⟩) else 1 := by
  pointwise [valueArray]

theorem valueBlocks_apply (v : FVec Ideal S4x8192x5x64 .f32) (b : Fin 4) (k : Fin 16) (r : Fin 400) (j : Fin 512) :
    valueBlocks v (ix4 b k r j) = valueArray v (ix3 ⟨b * 16 + k, by omega⟩ r j) := by
  pointwise [valueBlocks]

theorem keyLogs_apply (f : FVec Ideal S4x8192x5 .f32) (b : Fin 4) (j : Fin 8192) (h : Fin 5) :
    keyLogs f (ix3 b j ⟨8 + h, by omega⟩) = f (ix3 b j h) := by
  pointwise [keyLogs]

theorem queryLogs_apply (f : FVec Ideal S4x8192x5 .f32) (b : Fin 4) (k : Fin 16) (h : Fin 5) (j : Fin 512) :
    queryLogs f (ix4 b k ⟨h, by omega⟩ j) = f (ix3 b ⟨k * 512 + j, by omega⟩ h) := by
  pointwise [queryLogs]

/-! ## The windows' blocks at a grid point -/

theorem ix4_congr {n0 n1 n2 n3 : ℕ} {α : Type} (f : (⟨4, ![n0, n1, n2, n3]⟩ : Shape).Idx → α) {a a' : Fin n0} {b b' : Fin n1} {c c' : Fin n2} {d d' : Fin n3}
    (ha : a = a') (hb : b = b') (hc : c = c') (hd : d = d') : f (ix4 a b c d) = f (ix4 a' b' c' d') := by
  subst ha hb hc hd; rfl

/-- The batch element of a grid point. -/
def bat (t : Fin cfg0.N) : Fin 4 := grid0.coords t 0

/-- The block of queries of a grid point. -/
def blk (t : Fin cfg0.N) : Fin 16 := grid0.coords t 1

/-- The position of a query in its sequence. -/
def row (t : Fin cfg0.N) (y : Fin 512) : Fin 8192 := ⟨blk t * 512 + y, by omega⟩

/-- The position of a key in its sequence. -/
def col (k : Fin 16) (x : Fin 512) : Fin 8192 := ⟨k * 512 + x, by omega⟩

theorem index0 : ∀ t : Fin cfg0.N, win0_0.index t = ![0, (bat t).val * 16 + (blk t).val] := by decide +kernel
theorem index1 : ∀ t : Fin cfg0.N, win0_1.index t = ![(bat t).val, 0, 0] := by decide +kernel
theorem index2 : ∀ t : Fin cfg0.N, win0_2.index t = ![(bat t).val, 0, 0, 0] := by decide +kernel
theorem index3 : ∀ t : Fin cfg0.N, win0_3.index t = ![(bat t).val, 0, 0] := by decide +kernel
theorem index4 : ∀ t : Fin cfg0.N, win0_4.index t = ![(bat t).val, (blk t).val, 0, 0] := by decide +kernel
theorem index5 : ∀ t : Fin cfg0.N, win0_5.index t = ![(bat t).val, (blk t).val, 0] := by decide +kernel

variable (c : Dev nD) (t : Fin cfg0.N)

theorem read0 (A : FVec Ideal S384x32768 .bf16) (r : Fin 384) (y : Fin 512) :
    ((cfg0.win 0).blk t).view.read (Elt Ideal) A (ix2 r y) = A (ix2 r ⟨(bat t * 16 + blk t) * 512 + y, by omega⟩) := by
  blk_ext [index0]

theorem read1 (A : FVec Ideal S4x8192x384 .bf16) (j : Fin 8192) (r : Fin 384) :
    ((cfg0.win 1).blk t).view.read (Elt Ideal) A (ix3 0 j r) = A (ix3 (bat t) j r) := by
  blk_ext [index1]

theorem read2 (A : FVec Ideal S4x16x400x512 .bf16) (k : Fin 16) (r : Fin 400) (x : Fin 512) :
    ((cfg0.win 2).blk t).view.read (Elt Ideal) A (ix4 0 k r x) = A (ix4 (bat t) k r x) := by
  blk_ext [index2]

theorem read3 (A : FVec Ideal S4x8192x128 .f32) (j : Fin 8192) (r : Fin 128) :
    ((cfg0.win 3).blk t).view.read (Elt Ideal) A (ix3 0 j r) = A (ix3 (bat t) j r) := by
  blk_ext [index3]

theorem read4 (A : FVec Ideal S4x16x8x512 .f32) (h : Fin 8) (y : Fin 512) :
    ((cfg0.win 4).blk t).view.read (Elt Ideal) A (ix4 0 0 h y) = A (ix4 (bat t) (blk t) h y) := by
  blk_ext [index4]

theorem iblk0 (h : Fin 5) (d : Fin 64) (y : Fin 512) :
    (iblk m c 0 t : FVec Ideal S384x512 .bf16) (ix2 ⟨h * 64 + d, by omega⟩ y) = (m (c.tc.loc main_arg0) : FVec Ideal S4x8192x5x64 .f32) (ix4 (bat t) (row t y) h d) := by
  refine (congrFun (congrArg (((cfg0.win 0).blk t).view.read (Elt Ideal)) (V_query m c)) _).trans ?_
  refine (read0 t _ _ _).trans ((queryArray_apply _ _ _ (by show h.val * 64 + d.val < 320; omega)).trans ?_)
  refine ix4_congr _ ?_ ?_ ?_ ?_ <;> apply Fin.ext
  · show (((bat t).val * 16 + (blk t).val) * 512 + y.val) / 8192 = (bat t).val; omega
  · show (((bat t).val * 16 + (blk t).val) * 512 + y.val) % 8192 = (blk t).val * 512 + y.val; omega
  · show (h.val * 64 + d.val) / 64 = h.val; omega
  · show (h.val * 64 + d.val) % 64 = d.val; omega

theorem iblk1 (h : Fin 5) (d : Fin 64) (j : Fin 8192) :
    (iblk m c 1 t : FVec Ideal S1x8192x384 .bf16) (ix3 0 j ⟨h * 64 + d, by omega⟩) = (m (c.tc.loc main_arg1) : FVec Ideal S4x8192x5x64 .f32) (ix4 (bat t) j h d) := by
  refine (congrFun (congrArg (((cfg0.win 1).blk t).view.read (Elt Ideal)) (V_key m c)) _).trans ?_
  refine (read1 t _ _ _).trans ((keyArray_apply _ _ _ _ (by show h.val * 64 + d.val < 320; omega)).trans ?_)
  refine ix4_congr _ rfl rfl ?_ ?_ <;> apply Fin.ext
  · show (h.val * 64 + d.val) / 64 = h.val; omega
  · show (h.val * 64 + d.val) % 64 = d.val; omega

theorem iblk2 (h : Fin 5) (r : Fin 80) (k : Fin 16) (x : Fin 512) :
    (iblk m c 2 t : FVec Ideal S1x16x400x512 .bf16) (ix4 0 k ⟨h * 80 + r, by omega⟩ x)
      = (if hr : r.val < 64 then (m (c.tc.loc main_arg2) : FVec Ideal S4x8192x5x64 .f32) (ix4 (bat t) (col k x) h ⟨r, hr⟩) else 1 : EReal) := by
  refine (congrFun (congrArg (((cfg0.win 2).blk t).view.read (Elt Ideal)) (V_value m c)) _).trans ?_
  refine (read2 t _ _ _ _).trans ((valueBlocks_apply _ _ _ _ _).trans ((valueArray_apply _ _ _ _).trans ?_))
  have e : (h.val * 80 + r.val) % 80 = r.val := by omega
  by_cases hr : r.val < 64
  · rw [dif_pos hr, dif_pos (show (h.val * 80 + r.val) % 80 < 64 by omega)]
    refine ix4_congr _ ?_ ?_ ?_ ?_ <;> apply Fin.ext
    · show ((bat t).val * 16 + k.val) / 16 = (bat t).val; omega
    · show ((bat t).val * 16 + k.val) % 16 * 512 + x.val = k.val * 512 + x.val; omega
    · show (h.val * 80 + r.val) / 80 = h.val; omega
    · exact e
  · rw [dif_neg hr, dif_neg (show ¬ (h.val * 80 + r.val) % 80 < 64 by omega)]

theorem iblk3 (h : Fin 5) (j : Fin 8192) :
    (iblk m c 3 t : FVec Ideal S1x8192x128 .f32) (ix3 0 j ⟨8 + h, by omega⟩) = (m (c.tc.loc main_arg3) : FVec Ideal S4x8192x5 .f32) (ix3 (bat t) j h) :=
  (congrFun (congrArg (((cfg0.win 3).blk t).view.read (Elt Ideal)) (V_keyLogs m c)) _).trans
    ((read3 t _ _ _).trans (keyLogs_apply _ _ _ _))

theorem iblk4 (h : Fin 5) (y : Fin 512) :
    (iblk m c 4 t : FVec Ideal S1x1x8x512 .f32) (ix4 0 0 ⟨h, by omega⟩ y) = (m (c.tc.loc main_arg3) : FVec Ideal S4x8192x5 .f32) (ix3 (bat t) (row t y) h) :=
  (congrFun (congrArg (((cfg0.win 4).blk t).view.read (Elt Ideal)) (V_queryLogs m c)) _).trans
    ((read4 t _ _ _).trans (queryLogs_apply _ _ _ _ _))

end Cert.KernelIdeal.HostArrays
end
-- ==== Proof.Inputs.lean ====
/- What a step of the forgetting attention reads at a grid point, in terms of the four arguments: the queries of one block,
   the keys, values and cumulative forget logs of another. -/
module

public import proofs.«01_k».proof.Proof.Step
public import proofs.«01_k».proof.Proof.HostArrays

@[expose] public section

set_option maxRecDepth 16384

noncomputable section

namespace Cert.KernelIdeal.Inputs

open Cert.KernelIdeal Cert.KernelIdeal.Gen Cert.KernelIdeal.Trip Cert.KernelIdeal.Block Cert.KernelIdeal.Step Cert.KernelIdeal.HostArrays
open Idealize.ShloMosaic Idealize.ShloMosaic.TcCoe Idealize.SL.Sem

/-! ## Loads at an index -/

theorem logs_ld (x3 : Vec Ideal S1x8192x128 .f32) (off : Fin 3 → ℕ) (inb : ∀ a, off a + S1x512x128.size a ≤ S1x8192x128.size a)
    (k : Fin 16) (e : off = ![0, 512 * k.val, 0]) (x : Fin 512) (d : Fin 128) :
    View.ld x3 (Rect.unit (s := S1x8192x128) off S1x512x128.size inb) (ix3 0 x d) = x3 (ix3 0 (col k x) d) := by
  subst e
  refine congrArg x3 (funext fun a => Fin.ext ?_)
  match a with
  | 0 => rfl
  | 1 => show 512 * k.val + 1 * x.val = k.val * 512 + x.val; omega
  | 2 => show 0 + 1 * d.val = d.val; omega

theorem keys_ld (x1 : Vec Ideal S1x8192x384 .bf16) (off : Fin 3 → ℕ) (inb : ∀ a, off a + S1x512x128.size a ≤ S1x8192x384.size a)
    (k : Fin 16) (g : ℕ) (e : off = ![0, 512 * k.val, g]) (x : Fin 512) (d : Fin 128) (n : Fin 384) (hn : n.val = g + d.val) :
    View.ld x1 (Rect.unit (s := S1x8192x384) off S1x512x128.size inb) (ix3 0 x d) = x1 (ix3 0 (col k x) n) := by
  subst e
  refine congrArg x1 (funext fun a => Fin.ext ?_)
  match a with
  | 0 => rfl
  | 1 => show 512 * k.val + 1 * x.val = k.val * 512 + x.val; omega
  | 2 => show g + 1 * d.val = n.val; omega

theorem values_ld (x2 : Vec Ideal S1x16x400x512 .bf16) (off : Fin 4 → ℕ) (inb : ∀ a, off a + S1x1x80x512.size a ≤ S1x16x400x512.size a)
    (k : Fin 16) (g : ℕ) (e : off = ![0, k.val, g, 0]) (r : Fin 80) (x : Fin 512) (n : Fin 400) (hn : n.val = g + r.val) :
    View.ld x2 (Rect.unit (s := S1x16x400x512) off S1x1x80x512.size inb) (ix4 0 0 r x) = x2 (ix4 0 k n x) := by
  subst e
  refine congrArg x2 (funext fun a => Fin.ext ?_)
  match a with
  | 0 => rfl
  | 1 => show k.val + 1 * 0 = k.val; omega
  | 2 => show g + 1 * r.val = n.val; omega
  | 3 => show 0 + 1 * x.val = x.val; omega

/-! ## The scaled queries -/

/-- The five heads' queries, whatever step reads them. -/
theorem query_own (x0 : Vec Ideal S384x512 .bf16) (h : Fin 5) (d : Fin 64) (y : Fin 512) :
    pick (queries x0) h (ix3 0 ⟨h % 2 * 64 + d, by omega⟩ y) = x0 (ix2 ⟨h * 64 + d, by omega⟩ y) * qscale := by
  have e {a b : Fin 384} (hab : a.val = b.val) : x0 (ix2 a y) * qscale = x0 (ix2 b y) * qscale := by rw [Fin.ext hab]
  match h with
  | 0 => exact (queries0_apply x0 _ y).trans ((dif_pos (by show 0 % 2 * 64 + d.val < 64; omega)).trans (e (by show 0 % 2 * 64 + d.val = 0 * 64 + d.val; omega)))
  | 1 => exact (queries1_apply x0 _ y).trans ((dif_neg (by show ¬ 1 % 2 * 64 + d.val < 64; omega)).trans (e (by show 64 + (1 % 2 * 64 + d.val - 64) = 1 * 64 + d.val; omega)))
  | 2 => exact (queries2_apply x0 _ y).trans ((dif_pos (by show 2 % 2 * 64 + d.val < 64; omega)).trans (e (by show 128 + (2 % 2 * 64 + d.val) = 2 * 64 + d.val; omega)))
  | 3 => exact (queries3_apply x0 _ y).trans ((dif_neg (by show ¬ 3 % 2 * 64 + d.val < 64; omega)).trans (e (by show 192 + (3 % 2 * 64 + d.val - 64) = 3 * 64 + d.val; omega)))
  | 4 => exact (queries4_apply x0 _ y).trans ((dif_pos (by show 4 % 2 * 64 + d.val < 64; omega)).trans (e (by show 256 + (4 % 2 * 64 + d.val) = 4 * 64 + d.val; omega)))

/-- The other head's half of a slot is zeros. -/
theorem query_other (x0 : Vec Ideal S384x512 .bf16) (h : Fin 5) (d : Fin 64) (y : Fin 512) :
    pick (queries x0) h (ix3 0 ⟨(1 - h % 2) * 64 + d, by omega⟩ y) = 0 := by
  match h with
  | 0 => exact (queries0_apply x0 _ y).trans (dif_neg (by show ¬ (1 - 0 % 2) * 64 + d.val < 64; omega))
  | 1 => exact (queries1_apply x0 _ y).trans (dif_pos (by show (1 - 1 % 2) * 64 + d.val < 64; omega))
  | 2 => exact (queries2_apply x0 _ y).trans (dif_neg (by show ¬ (1 - 2 % 2) * 64 + d.val < 64; omega))
  | 3 => exact (queries3_apply x0 _ y).trans (dif_pos (by show (1 - 3 % 2) * 64 + d.val < 64; omega))
  | 4 => exact (queries4_apply x0 _ y).trans (dif_neg (by show ¬ (1 - 4 % 2) * 64 + d.val < 64; omega))

/-- A sum over a slot of two heads' features, the other head's half of one factor zeros, is over the head's own 64. -/
theorem sum_own (p : ℕ) (hp : p < 2) (K Q : Fin 128 → EReal) (hQ : ∀ d : Fin 64, Q ⟨(1 - p) * 64 + d, by omega⟩ = 0) :
    ∑ d, K d * Q d = ∑ d : Fin 64, K ⟨p * 64 + d, by omega⟩ * Q ⟨p * 64 + d, by omega⟩ := by
  have split : ∑ d, K d * Q d
      = ∑ d : Fin 64, K ⟨d, by omega⟩ * Q ⟨d, by omega⟩ + ∑ d : Fin 64, K ⟨64 + d, by omega⟩ * Q ⟨64 + d, by omega⟩ :=
    Fin.sum_univ_add (a := 64) (b := 64) fun d => K d * Q d
  rw [split]
  have zero (j : Fin 64 → Fin 128) (hj : ∀ d, Q (j d) = 0) : ∑ d : Fin 64, K (j d) * Q (j d) = 0 :=
    Finset.sum_eq_zero fun d _ => by rw [hj d, mul_zero]
  obtain rfl | rfl : p = 0 ∨ p = 1 := by omega
  · rw [zero (fun d => ⟨64 + d, by omega⟩) fun d => (congrArg Q (Fin.ext (by show 64 + d.val = (1 - 0) * 64 + d.val; omega))).trans (hQ d), add_zero]
    refine Finset.sum_congr rfl fun d _ => ?_
    have e (q) : (⟨0 * 64 + d.val, q⟩ : Fin 128) = ⟨d, by omega⟩ := Fin.ext (by show 0 * 64 + d.val = d.val; omega)
    rw [e]
  · rw [zero (fun d => ⟨d, by omega⟩) fun d => (congrArg Q (Fin.ext (by show d.val = (1 - 1) * 64 + d.val; omega))).trans (hQ d), zero_add]

/-! ## A step's reads -/

/-- The reads `r` are those of block `k` of the keys by queries of batch element `b` at the positions `p`. -/
structure Is (Q K V : FVec Ideal S4x8192x5x64 .f32) (L : FVec Ideal S4x8192x5 .f32) (b : Fin 4) (p : Fin 512 → Fin 8192) (r : Reads Ideal) (k : Fin 16) : Prop where
  logs : ∀ (h : Fin 5) (x : Fin 512), r.f (ix3 0 x ⟨8 + h, by omega⟩) = L (ix3 b (col k x) h)
  key : ∀ (h : Fin 5) (x : Fin 512) (d : Fin 64), keyOf r h (ix3 0 x ⟨h % 2 * 64 + d, by omega⟩) = K (ix4 b (col k x) h d)
  query : ∀ (h : Fin 5) (d : Fin 64) (y : Fin 512), queryOf r h (ix3 0 ⟨h % 2 * 64 + d, by omega⟩ y) = Q (ix4 b (p y) h d) * qscale
  other : ∀ (h : Fin 5) (d : Fin 64) (y : Fin 512), queryOf r h (ix3 0 ⟨(1 - h % 2) * 64 + d, by omega⟩ y) = 0
  value : ∀ (h : Fin 5) (w : Fin 80) (x : Fin 512), valueOf r h (ix4 0 0 w x) = (if hw : w.val < 64 then V (ix4 b (col k x) h ⟨w, hw⟩) else 1 : EReal)
  own : ∀ (h : Fin 5) (y : Fin 512), r.fq (ix2 ⟨h, by omega⟩ y) = L (ix3 b (p y) h) * log2e

/-- A step's score in terms of the arguments. -/
theorem Is.score_eq {Q K V : FVec Ideal S4x8192x5x64 .f32} {L : FVec Ideal S4x8192x5 .f32} {b : Fin 4} {p : Fin 512 → Fin 8192} {r : Reads Ideal} {k : Fin 16}
    (I : Is Q K V L b p r k) (h : Fin 5) (x y : Fin 512) :
    score h r.fq r.f (keyOf r h) (queryOf r h) x y
      = (∑ d : Fin 64, K (ix4 b (col k x) h d) * (Q (ix4 b (p y) h d) * qscale)) + (L (ix3 b (p y) h) * log2e - L (ix3 b (col k x) h) * log2e) := by
  unfold score
  rw [I.own, I.logs]
  refine congrArg (· + _) ((sum_own (h.val % 2) (by omega) _ _ fun d => I.other h d y).trans (Finset.sum_congr rfl fun d _ => ?_))
  exact congrArg₂ (· * ·) (I.key h x d) (I.query h d y)

section
variable (i : grid0.Coords) (x0 : Vec Ideal S384x512 .bf16) (x1 : Vec Ideal S1x8192x384 .bf16) (x2 : Vec Ideal S1x16x400x512 .bf16)
  (x3 : Vec Ideal S1x8192x128 .f32) (x4 : Vec Ideal S1x1x8x512 .f32)

theorem queryOf_reads (k : Fin (k0_t1_loop i).trips) (h : Fin 5) : queryOf (reads i x0 x1 x2 x3 x4 k) h = pick (queries x0) h := by
  unfold queryOf pick reads
  rfl

theorem queryOf_lastReads (h : Fin 5) : queryOf (lastReads i x0 x1 x2 x3 x4) h = pick (queries x0) h := by
  unfold queryOf pick lastReads
  rfl

end

variable (m : (ℓ : Loc nD τ sig) → Buf (Elt Ideal) ℓ) (c : Dev nD) (t : Fin cfg0.N)

/-- The number of trips: the blocks of keys before the queries' own. -/
theorem trips_eq (i : grid0.Coords) : (k0_t1_loop i).trips = (own i).val := by
  show (k0_t1_loop i).trips = (i 1).val
  unfold k0_t1_loop
  generalize i 1 = n
  revert n
  decide +kernel

/-- From what a step loads, what it reads. -/
theorem is_of (r : Reads Ideal) (k : Fin 16) (o : Fin 3 → ℕ) (ho : o = ![0, 512 * k.val, 0]) (oi : ∀ a, o a + S1x512x128.size a ≤ S1x8192x128.size a)
    (hf : r.f = View.ld (iblk m c 3 t : FVec Ideal S1x8192x128 .f32) (Rect.unit (s := S1x8192x128) o S1x512x128.size oi))
    (hk : ∀ h : Fin 5, ∃ (u : Fin 3 → ℕ) (ui : ∀ a, u a + S1x512x128.size a ≤ S1x8192x384.size a), u = ![0, 512 * k.val, h.val / 2 * 128]
      ∧ keyOf r h = View.ld (iblk m c 1 t : FVec Ideal S1x8192x384 .bf16) (Rect.unit (s := S1x8192x384) u S1x512x128.size ui))
    (hv : ∀ h : Fin 5, ∃ (u : Fin 4 → ℕ) (ui : ∀ a, u a + S1x1x80x512.size a ≤ S1x16x400x512.size a), u = ![0, k.val, h.val * 80, 0]
      ∧ valueOf r h = View.ld (iblk m c 2 t : FVec Ideal S1x16x400x512 .bf16) (Rect.unit (s := S1x16x400x512) u S1x1x80x512.size ui))
    (hq : ∀ h : Fin 5, queryOf r h = pick (queries (iblk m c 0 t : FVec Ideal S384x512 .bf16)) h)
    (hw : r.fq = k0_pay74 (View.ld (iblk m c 4 t : FVec Ideal S1x1x8x512 .f32) (Rect.unit (s := S1x1x8x512) ![0, 0, 0, 0] S1x1x8x512.size inb_S1x1x8x512_S1x1x8x512_0_0_0_0))) :
    Is (m (c.tc.loc main_arg0)) (m (c.tc.loc main_arg1)) (m (c.tc.loc main_arg2)) (m (c.tc.loc main_arg3)) (bat t) (row t) r k where
  logs h x := by rw [hf]; exact (logs_ld _ o oi k ho x _).trans (iblk3 m c t h _)
  key h x d := by
    obtain ⟨u, ui, hu, e⟩ := hk h
    rw [e]
    exact (keys_ld _ u ui k _ hu x _ ⟨h * 64 + d, by omega⟩ (by show h.val * 64 + d.val = h.val / 2 * 128 + (h.val % 2 * 64 + d.val); omega)).trans (iblk1 m c t h d _)
  query h d y := by rw [hq, query_own, iblk0]
  other h d y := by rw [hq, query_other]
  value h w x := by
    obtain ⟨u, ui, hu, e⟩ := hv h
    rw [e]
    exact (values_ld _ u ui k _ hu w x ⟨h * 80 + w, by omega⟩ rfl).trans (iblk2 m c t h w k x)
  own h y := by rw [hw, Step.queryLogs_apply]; exact congrArg (· * log2e) (iblk4 m c t h y)

/-- A trip's reads. -/
theorem reads_is (k : Fin (k0_t1_loop (grid0.coords t)).trips) (k' : Fin 16) (e : k'.val = k.val) :
    Is (m (c.tc.loc main_arg0)) (m (c.tc.loc main_arg1)) (m (c.tc.loc main_arg2)) (m (c.tc.loc main_arg3)) (bat t) (row t)
      (reads (grid0.coords t) (iblk m c 0 t) (iblk m c 1 t) (iblk m c 2 t) (iblk m c 3 t) (iblk m c 4 t) k) k' := by
  refine is_of m c t _ k' _ ?_ _ rfl (fun h => ?_) (fun h => ?_) (fun h => ?_) rfl
  · rw [k0_off1_eq, e]
  · match h with
    | 0 => exact ⟨_, _, by rw [k0_off2_eq, e]; rfl, rfl⟩
    | 1 => exact ⟨_, _, by rw [k0_off2_eq, e]; rfl, rfl⟩
    | 2 => exact ⟨_, _, by rw [k0_off3_eq, e]; rfl, rfl⟩
    | 3 => exact ⟨_, _, by rw [k0_off3_eq, e]; rfl, rfl⟩
    | 4 => exact ⟨_, _, by rw [k0_off4_eq, e]; rfl, rfl⟩
  · match h with
    | 0 => exact ⟨_, _, by rw [k0_off5_eq, e]; rfl, rfl⟩
    | 1 => exact ⟨_, _, by rw [k0_off6_eq, e]; rfl, rfl⟩
    | 2 => exact ⟨_, _, by rw [k0_off7_eq, e]; rfl, rfl⟩
    | 3 => exact ⟨_, _, by rw [k0_off8_eq, e]; rfl, rfl⟩
    | 4 => exact ⟨_, _, by rw [k0_off9_eq, e]; rfl, rfl⟩
  · exact queryOf_reads ..

/-- The last step's reads. -/
theorem lastReads_is :
    Is (m (c.tc.loc main_arg0)) (m (c.tc.loc main_arg1)) (m (c.tc.loc main_arg2)) (m (c.tc.loc main_arg3)) (bat t) (row t)
      (lastReads (grid0.coords t) (iblk m c 0 t) (iblk m c 1 t) (iblk m c 2 t) (iblk m c 3 t) (iblk m c 4 t)) (blk t) := by
  refine is_of m c t _ (blk t) _ ?_ _ rfl (fun h => ?_) (fun h => ?_) (fun h => ?_) rfl
  · rw [k0_off19_eq]; rfl
  · match h with
    | 0 => exact ⟨_, _, by rw [k0_off20_eq]; rfl, rfl⟩
    | 1 => exact ⟨_, _, by rw [k0_off20_eq]; rfl, rfl⟩
    | 2 => exact ⟨_, _, by rw [k0_off21_eq]; rfl, rfl⟩
    | 3 => exact ⟨_, _, by rw [k0_off21_eq]; rfl, rfl⟩
    | 4 => exact ⟨_, _, by rw [k0_off22_eq]; rfl, rfl⟩
  · match h with
    | 0 => exact ⟨_, _, by rw [k0_off23_eq]; rfl, rfl⟩
    | 1 => exact ⟨_, _, by rw [k0_off24_eq]; rfl, rfl⟩
    | 2 => exact ⟨_, _, by rw [k0_off25_eq]; rfl, rfl⟩
    | 3 => exact ⟨_, _, by rw [k0_off26_eq]; rfl, rfl⟩
    | 4 => exact ⟨_, _, by rw [k0_off27_eq]; rfl, rfl⟩
  · exact queryOf_lastReads ..

end Cert.KernelIdeal.Inputs

end
-- ==== Proof.Softmax.lean ====
/-
  The mathematics of a softmax computed in one pass over blocks of keys, over the extended reals. Nothing here names a
  program: scores are families of extended reals (minus infinity where masked, never plus infinity), weights are powers of
  two (in the running pass) or exponentials (in the plain formula).
-/
module

public import Idealize.ShloMosaic.PureOps.Ideal

@[expose] public section

noncomputable section

namespace Cert.Softmax

open Idealize.ShloMosaic

/-- Multiplying a sum by a nonnegative real. -/
theorem sum_mul_real {ι : Type} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A sum of reals, read as extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A power of two of a difference of two reals is a positive real. -/
theorem exp2_sub_coe (a b : ℝ) : Ideal.exp2 ((a : EReal) - (b : EReal)) = (((2 : ℝ) ^ (a - b) : ℝ) : EReal) := by
  rw [← EReal.coe_sub, Ideal.exp2_coe]; rfl

/-- Moving the reference point of a weight. -/
theorem exp2_shift {s : EReal} (hs : s ≠ ⊤) (a b : ℝ) :
    Ideal.exp2 (s - (a : EReal)) * Ideal.exp2 ((a : EReal) - (b : EReal)) = Ideal.exp2 (s - (b : EReal)) := by
  induction s with
  | bot => rw [EReal.bot_sub, EReal.bot_sub, Ideal.exp2_bot, zero_mul]
  | coe x =>
    rw [exp2_sub_coe, exp2_sub_coe, exp2_sub_coe, ← EReal.coe_mul, ← Real.rpow_add (by norm_num)]
    norm_num
  | top => exact absurd rfl hs

/-- The rows of the accumulator: starting from nothing and, at each block, rescaled to the new reference point and
    increased by the block's weighted values, it is after `K` blocks the sum of all weighted values so far at the last
    reference point. -/
theorem running_sum {n : ℕ} (K : ℕ) (M : ℕ → ℝ) (s v : ℕ → Fin n → EReal) (A : ℕ → EReal)
    (hs : ∀ b < K, ∀ x, s b x ≠ ⊤) (h0 : A 0 = 0)
    (hA : ∀ b < K, A (b + 1) = A b * Ideal.exp2 ((M b : EReal) - (M (b + 1) : EReal))
      + ∑ x, v b x * Ideal.exp2 (s b x - (M (b + 1) : EReal))) :
    ∀ k ≤ K, A k = ∑ b ∈ Finset.range k, ∑ x, v b x * Ideal.exp2 (s b x - (M k : EReal)) := by
  intro k
  induction k with
  | zero => intro _; rw [h0]; simp
  | succ k ih =>
    intro hk
    rw [hA k hk, ih (Nat.le_of_succ_le hk), Finset.sum_range_succ, exp2_sub_coe,
      sum_mul_real _ _ (Real.rpow_nonneg (by norm_num) _)]
    congr 1
    refine Finset.sum_congr rfl fun b hb => ?_
    rw [sum_mul_real _ _ (Real.rpow_nonneg (by norm_num) _)]
    refine Finset.sum_congr rfl fun x _ => ?_
    rw [← exp2_sub_coe, mul_assoc, exp2_shift (hs b (lt_trans (Finset.mem_range.mp hb) hk) x)]

/-- The running maximum of real numbers and of scores that are not plus infinity stays a real number. -/
theorem running_max_real {n : ℕ} (K : ℕ) (M : ℕ → EReal) (s : ℕ → Fin n → EReal) (hs : ∀ b < K, ∀ x, s b x ≠ ⊤)
    (h0 : M 0 ≠ ⊤ ∧ M 0 ≠ ⊥) (hM : ∀ b < K, M (b + 1) = max (M b) (Finset.univ.fold max ⊥ (s b))) :
    ∀ k ≤ K, M k ≠ ⊤ ∧ M k ≠ ⊥ := by
  intro k
  induction k with
  | zero => exact fun _ => h0
  | succ k ih =>
    intro hk
    obtain ⟨ht, hb⟩ := ih (Nat.le_of_succ_le hk)
    rw [hM k hk]
    have hf : Finset.univ.fold max ⊥ (s k) < ⊤ := by
      rw [Finset.fold_max_lt]
      exact ⟨bot_lt_top, fun x _ => lt_top_iff_ne_top.mpr (hs k hk x)⟩
    refine ⟨(max_lt (lt_top_iff_ne_top.mpr ht) hf).ne, fun h => hb ?_⟩
    exact le_bot_iff.mp (h ▸ le_max_left _ _)

/-- The maximum of finitely many scores, one of them real and none plus infinity, is real. -/
theorem fold_max_real {ι : Type} [Fintype ι] (t : ι → EReal) (ht : ∀ j, t j ≠ ⊤) (j₀ : ι) (hj : t j₀ ≠ ⊥) :
    ∃ r : ℝ, Finset.univ.fold max ⊥ t = (r : EReal) := by
  have h1 : Finset.univ.fold max ⊥ t ≠ ⊤ := by
    refine (?_ : _ < ⊤).ne
    rw [Finset.fold_max_lt]
    exact ⟨bot_lt_top, fun x _ => lt_top_iff_ne_top.mpr (ht x)⟩
  have h2 : Finset.univ.fold max ⊥ t ≠ ⊥ := by
    intro h
    have h3 : t j₀ ≤ Finset.univ.fold max ⊥ t := (Finset.le_fold_max _).mpr (Or.inr ⟨j₀, Finset.mem_univ _, le_rfl⟩)
    exact hj (le_bot_iff.mp (h ▸ h3))
  exact ⟨_, (EReal.coe_toReal h1 h2).symm⟩

/-- The weight of a score in the plain formula, as a nonnegative real. -/
def weight (x : EReal) (a : ℝ) : ℝ := (Ideal.exp (x - (a : EReal))).toReal

theorem weight_bot (a : ℝ) : weight ⊥ a = 0 := by rw [weight, EReal.bot_sub, Ideal.exp_bot, EReal.toReal_zero]
theorem weight_coe (x a : ℝ) : weight (x : EReal) a = Real.exp (x - a) := by
  rw [weight, ← EReal.coe_sub, Ideal.exp_coe, EReal.toReal_coe]

theorem weight_nonneg {x : EReal} (hx : x ≠ ⊤) (a : ℝ) : 0 ≤ weight x a := by
  induction x with
  | bot => rw [weight_bot]
  | coe x => rw [weight_coe]; exact (Real.exp_pos _).le
  | top => exact absurd rfl hx

theorem exp_sub_eq {x : EReal} (hx : x ≠ ⊤) (a : ℝ) : Ideal.exp (x - (a : EReal)) = (weight x a : EReal) := by
  induction x with
  | bot => rw [weight_bot, EReal.bot_sub, Ideal.exp_bot, EReal.coe_zero]
  | coe x => rw [weight_coe, ← EReal.coe_sub, Ideal.exp_coe]
  | top => exact absurd rfl hx

/-- The weight of a score times log₂ e in the running pass is a fixed positive multiple of its weight in the plain
    formula, whatever the two reference points. -/
theorem exp2_eq_weight {x : EReal} (hx : x ≠ ⊤) (m a : ℝ) :
    Ideal.exp2 (x * (((Real.log 2)⁻¹ : ℝ) : EReal) - (m : EReal))
      = ((weight x a * Real.exp (a - m * Real.log 2) : ℝ) : EReal) := by
  have h2 : (0 : ℝ) < Real.log 2 := Real.log_pos (by norm_num)
  induction x with
  | bot =>
    rw [weight_bot, EReal.bot_mul_of_pos (by exact_mod_cast inv_pos.mpr h2), EReal.bot_sub, Ideal.exp2_bot, zero_mul,
      EReal.coe_zero]
  | coe x =>
    rw [weight_coe, ← EReal.coe_mul, exp2_sub_coe, ← Real.exp_add, Real.rpow_def_of_pos (by norm_num)]
    congr 2
    field_simp
    ring
  | top => exact absurd rfl hx

/-- The quotient of the two accumulated rows is the softmax of the scores applied to the values. -/
theorem quotient {ι : Type} [Fintype ι] (t v : ι → EReal) (ht : ∀ j, t j ≠ ⊤) (j₀ : ι) (hj : t j₀ ≠ ⊥) (m a : ℝ) :
    Ideal.div (∑ j, v j * Ideal.exp2 (t j * (((Real.log 2)⁻¹ : ℝ) : EReal) - (m : EReal)))
        (∑ j, Ideal.exp2 (t j * (((Real.log 2)⁻¹ : ℝ) : EReal) - (m : EReal)))
      = ∑ j, Ideal.div (Ideal.exp (t j - (a : EReal))) (∑ i, Ideal.exp (t i - (a : EReal))) * v j := by
  have hw : ∀ j, Ideal.exp2 (t j * (((Real.log 2)⁻¹ : ℝ) : EReal) - (m : EReal))
      = ((weight (t j) a * Real.exp (a - m * Real.log 2) : ℝ) : EReal) := fun j => exp2_eq_weight (ht j) m a
  have he : ∀ j, Ideal.exp (t j - (a : EReal)) = (weight (t j) a : EReal) := fun j => exp_sub_eq (ht j) a
  simp only [hw, he]
  set c := Real.exp (a - m * Real.log 2) with hc
  have hcpos : 0 < c := Real.exp_pos _
  have hD : 0 < ∑ j, weight (t j) a := by
    refine Finset.sum_pos' (fun j _ => weight_nonneg (ht j) a) ⟨j₀, Finset.mem_univ _, ?_⟩
    have h := ht j₀
    revert h hj
    induction t j₀ with
    | bot => intro h; exact absurd rfl h
    | coe x => intro _ _; rw [weight_coe]; exact Real.exp_pos _
    | top => intro _ h; exact absurd rfl h
  rw [← coe_sum, ← coe_sum, ← Finset.sum_mul, Ideal.div_coe (mul_pos hD hcpos).ne',
    sum_mul_real _ _ (by positivity)]
  refine Finset.sum_congr rfl fun j _ => ?_
  rw [Ideal.div_coe hD.ne', mul_comm _ (v j), mul_assoc, ← EReal.coe_mul, ← EReal.coe_mul]
  congr 2
  field_simp

end Cert.Softmax

end
-- ==== Proof.RefValue.lean ====
/-
  The reference read at an index: masked logits, their maximum over the keys, the exponentials, their sum, and the weighted
  sum of the values, each as a plain formula over the four arguments.
-/
module

public import proofs.«01_k».proof.Proof.Gen.ReferenceIdeal.Run
public import proofs.«01_k».proof.Proof.Mask
public import Idealize.ShloMosaic.Lib.Pointwise
public import Idealize.ShloMosaic.Lib.Tactic.CleanTypes

@[expose] public section

set_option maxRecDepth 16384

noncomputable section

namespace Cert.ReferenceIdeal.RefValue

open Cert.ReferenceIdeal Cert.ReferenceIdeal.Gen Idealize.ShloMosaic Idealize.ShloMosaic.TcCoe Idealize.SL.Sem

/-- The masked logits. -/
def logits (q k : FVec Ideal S4x8192x5x64 .f32) (f : FVec Ideal S4x8192x5 .f32) : FVec Ideal S4x5x8192x8192 .f32 :=
  select (broadcastInDim S4x5x8192x8192 ![0, 1, 2, 3] bcast_S1x1x8192x8192_S4x5x8192x8192_0_1_2_3
      (broadcastInDim S1x1x8192x8192 ![2, 3] bcast_S8192x8192_S1x1x8192x8192_2_3
        (cmpi .sle
          (broadcastInDim S8192x8192 ![0, 1] bcast_S1x8192_S8192x8192_0_1
            (broadcastInDim S1x8192 ![1] bcast_S8192_S1x8192_1 (iotaInDim S8192 32 0)))
          (broadcastInDim S8192x8192 ![0, 1] bcast_S8192x1_S8192x8192_0_1
            (broadcastInDim S8192x1 ![0] bcast_S8192_S8192x1_0 (iotaInDim S8192 32 0))))))
    (subf
      (addf
        (mulf ((Host.dotGeneral dot_S4x8192x5x64_S4x8192x5x64_S4x5x8192x8192_3_3_1_1_02_02 none q k : FVec Ideal S4x5x8192x8192 .f32))
          (broadcastInDim S4x5x8192x8192 ![] bcast_S_S4x5x8192x8192 (constant (F := Ideal) S_ .f32 0x3E000000#32)))
        (broadcastInDim S4x5x8192x8192 ![0, 1, 2, 3] bcast_S4x5x8192x1_S4x5x8192x8192_0_1_2_3
          (broadcastInDim S4x5x8192x1 ![0, 1, 2] bcast_S4x5x8192_S4x5x8192x1_0_1_2
            (transpose S4x5x8192 [0, 2, 1] f transposes_S4x8192x5_S4x5x8192_0_2_1))))
      (broadcastInDim S4x5x8192x8192 ![0, 1, 2, 3] bcast_S4x5x1x8192_S4x5x8192x8192_0_1_2_3
        (broadcastInDim S4x5x1x8192 ![0, 1, 3] bcast_S4x5x8192_S4x5x1x8192_0_1_3
          (transpose S4x5x8192 [0, 2, 1] f transposes_S4x8192x5_S4x5x8192_0_2_1))))
    (broadcastInDim S4x5x8192x8192 ![] bcast_S_S4x5x8192x8192 (constant (F := Ideal) S_ .f32 0xFF800000#32))

/-- Each row's greatest logit. -/
def rowMax (s : FVec Ideal S4x5x8192x8192 .f32) : FVec Ideal S4x5x8192 .f32 :=
  Host.reduce FloatOps.maximumf s (constant (F := Ideal) S_ .f32 0xFF800000#32) reducesTo_S4x5x8192x8192_S4x5x8192_d3 h_S_

/-- The exponentials of the logits, a number of their row's taken off. -/
def exps (s : FVec Ideal S4x5x8192x8192 .f32) (r : FVec Ideal S4x5x8192 .f32) : FVec Ideal S4x5x8192x8192 .f32 :=
  Host.exp (subf s (broadcastInDim S4x5x8192x8192 ![0, 1, 2, 3] bcast_S4x5x8192x1_S4x5x8192x8192_0_1_2_3
    (broadcastInDim S4x5x8192x1 ![0, 1, 2] bcast_S4x5x8192_S4x5x8192x1_0_1_2
      (maximumf (broadcastInDim S4x5x8192 ![] bcast_S_S4x5x8192 (constant (F := Ideal) S_ .f32 0xFF800000#32)) r))))

/-- The probabilities. -/
def probs (e : FVec Ideal S4x5x8192x8192 .f32) : FVec Ideal S4x5x8192x8192 .f32 :=
  Host.divf e (broadcastInDim S4x5x8192x8192 ![0, 1, 2, 3] bcast_S4x5x8192x1_S4x5x8192x8192_0_1_2_3
    (broadcastInDim S4x5x8192x1 ![0, 1, 2] bcast_S4x5x8192_S4x5x8192x1_0_1_2
      (Host.reduceAdd e (constant (F := Ideal) S_ .f32 0x00000000#32) reducesTo_S4x5x8192x8192_S4x5x8192_d3 h_S_)))

/-- The heads' outputs side by side, padded to the width of the projection's blocks. -/
def outs (v : FVec Ideal S4x8192x5x64 .f32) (p : FVec Ideal S4x5x8192x8192 .f32) : FVec Ideal S4x8192x384 .bf16 :=
  truncf .bf16 (pad S4x8192x384 ![0, 0, 0] ![0, 0, 64] ![0, 0, 0]
    (shapeCast S4x8192x320 (transpose S4x8192x5x64 [0, 3, 1, 2]
      ((Host.dotGeneral dot_S4x8192x5x64_S4x5x8192x8192_S4x5x64x8192_1_3_3_2_02_01 none v p : FVec Ideal S4x5x64x8192 .f32))
      transposes_S4x5x64x8192_S4x8192x5x64_0_3_1_2) shapeCasts_S4x8192x5x64_S4x8192x320)
    (sitofp (F := Ideal) .f32 (constantI S_ 32 0#32)) pads_S4x8192x320_S4x8192x384_000_000_0640 h_S_) bitsLt_bf16_f32

theorem result_eq (m : (ℓ : Loc nD τ sig) → Buf (Elt Ideal) ℓ) (c : Dev nD) :
    Value.res_out0 m c = outs (m ((c.tc : Thread nD τ).loc main_arg2))
      (probs (exps (logits (m ((c.tc : Thread nD τ).loc main_arg0)) (m ((c.tc : Thread nD τ).loc main_arg1)) (m ((c.tc : Thread nD τ).loc main_arg3)))
        (rowMax (logits (m ((c.tc : Thread nD τ).loc main_arg0)) (m ((c.tc : Thread nD τ).loc main_arg1)) (m ((c.tc : Thread nD τ).loc main_arg3)))))) := by
  unfold Value.res_out0 Value.res_main_v33 outs probs exps rowMax logits
  rfl

theorem ofBits_bot : Ideal.ofBits .f32 0xFF800000#32 = ⊥ := by
  show Ideal.ieee 8 23 0xFF800000#32 = ⊥
  unfold Ideal.ieee
  exact (if_pos (by decide)).trans ((if_pos (by decide)).trans (if_pos (by decide)))

theorem ofBits_eighth : Ideal.ofBits .f32 0x3E000000#32 = ((1 / 8 : ℝ) : EReal) := by
  simp [Ideal.ofBits, Ideal.ieee, -EReal.coe_mul]; norm_num

/-- A logit: a scaled product of the query and the key plus the difference of their cumulative forget logs; −∞ at
    a key after the query. -/
theorem logits_apply (q k : FVec Ideal S4x8192x5x64 .f32) (f : FVec Ideal S4x8192x5 .f32)
    (b : Fin 4) (h : Fin 5) (i j : Fin 8192) :
    logits q k f (ix4 b h i j) = if j.val ≤ i.val then
      (∑ d : Fin 64, q (ix4 b i h d) * k (ix4 b j h d)) * ((1 / 8 : ℝ) : EReal) + f (ix3 b i h) - f (ix3 b j h) else ⊥ := by
  rw [← ofBits_bot, ← ofBits_eighth]
  pointwise [logits]
  rw [Mask.sle_ofNat (by omega) (by omega)]
  split <;> rfl

theorem rowMax_apply (s : FVec Ideal S4x5x8192x8192 .f32) (b : Fin 4) (h : Fin 5) (i : Fin 8192) :
    rowMax s (ix3 b h i) = Finset.univ.fold max ⊥ (fun j : Fin 8192 => s (ix4 b h i j)) := by
  rw [← ofBits_bot]
  unfold rowMax
  have r : S4x5x8192x8192.Reduces [3] S4x5x8192 := by decide
  refine (Host.reduce_eq_fold_single FloatOps.maximumf s _ reducesTo_S4x5x8192x8192_S4x5x8192_d3 r h_S_ (ix3 b h i)).trans ?_
  refine congrArg (fun g => Finset.fold max (Ideal.ofBits .f32 0xFF800000#32) g (Finset.univ : Finset (Fin 8192))) (funext fun j => congrArg s ?_)
  funext a
  apply Fin.ext
  match a with
  | 0 => rfl
  | 1 => rfl
  | 2 => rfl
  | 3 => rfl

theorem exps_apply (s : FVec Ideal S4x5x8192x8192 .f32) (r : FVec Ideal S4x5x8192 .f32) (b : Fin 4) (h : Fin 5) (i j : Fin 8192) :
    exps s r (ix4 b h i j) = Ideal.exp (s (ix4 b h i j) - max ⊥ (r (ix3 b h i))) := by
  rw [← ofBits_bot]
  pointwise [exps]

theorem probs_apply (e : FVec Ideal S4x5x8192x8192 .f32) (b : Fin 4) (h : Fin 5) (i j : Fin 8192) :
    probs e (ix4 b h i j) = Ideal.div (e (ix4 b h i j)) (∑ x : Fin 8192, e (ix4 b h i x)) := by
  pointwise [probs]

theorem outs_apply (v : FVec Ideal S4x8192x5x64 .f32) (p : FVec Ideal S4x5x8192x8192 .f32)
    (b : Fin 4) (i : Fin 8192) (c : Fin 384) :
    outs v p (ix3 b i c) = if h : c.val < 320 then
      ∑ x : Fin 8192, v (ix4 b x ⟨c / 64, by omega⟩ ⟨c % 64, by omega⟩) * p (ix4 b ⟨c / 64, by omega⟩ i x) else 0 := by
  have e : (FloatOps.sitofp (F := Ideal) .f32 0#32 : EReal) = 0 := by
    show (((0#32 : BitVec 32).toInt : ℝ) : EReal) = 0
    simp
  pointwise [outs]
  rw [e]

end Cert.ReferenceIdeal.RefValue

end
-- ==== Proof.Equation.lean ====
/- The block that the forgetting attention leaves at a grid point is the reference's result there: the running pass over the
   blocks of keys equals the softmax over all of them. -/
module

public import proofs.«01_k».proof.Proof.Inputs
public import proofs.«01_k».proof.Proof.Softmax
public import proofs.«01_k».proof.Proof.RefValue

@[expose] public section

set_option maxRecDepth 16384

noncomputable section

namespace Cert.Equation

open Cert.KernelIdeal Cert.KernelIdeal.Gen Cert.KernelIdeal.Trip Cert.KernelIdeal.Block Cert.KernelIdeal.Step Cert.KernelIdeal.HostArrays
open Cert.KernelIdeal.Inputs
open Idealize.ShloMosaic Idealize.ShloMosaic.TcCoe Idealize.SL.Sem

/-! ## Scores and logits -/

/-- A score, times log₂ e as the kernel folds it in, is the logit times log₂ e. -/
theorem scale_eq (K Q : Fin 64 → ℝ) (fi fj : ℝ) :
    (∑ d, (K d : EReal) * ((Q d : EReal) * qscale)) + ((fi : EReal) * log2e - (fj : EReal) * log2e)
      = ((∑ d, (Q d : EReal) * (K d : EReal)) * ((1 / 8 : ℝ) : EReal) + (fi : EReal) - (fj : EReal)) * log2e := by
  simp only [← EReal.coe_mul, ← Softmax.coe_sum, ← EReal.coe_add, ← EReal.coe_sub]
  refine congrArg _ ?_
  have e : ∑ d, K d * (Q d * (1 / 8 * (Real.log 2)⁻¹)) = (∑ d, Q d * K d) * (1 / 8) * (Real.log 2)⁻¹ := by
    rw [Finset.sum_mul, Finset.sum_mul]
    exact Finset.sum_congr rfl fun d _ => by ring
  rw [e]
  ring

theorem mul_log2e_ne_top (z : EReal) (hz : z ≠ ⊤) : z * log2e ≠ ⊤ := by
  induction z with
  | bot => rw [EReal.bot_mul_coe_of_pos (inv_pos.2 (Real.log_pos (by norm_num)))]; exact bot_ne_top
  | coe z => rw [← EReal.coe_mul]; exact EReal.coe_ne_top _
  | top => exact absurd rfl hz

/-- A sum over blocks of keys is a sum over the keys. -/
theorem sum_blocks (g : Fin 8192 → EReal) : ∑ b : Fin 16, ∑ x : Fin 512, g (col b x) = ∑ j, g j := by
  rw [← Fintype.sum_prod_type' (f := fun (b : Fin 16) (x : Fin 512) => g (col b x))]
  refine Fintype.sum_equiv (finProdFinEquiv (m := 16) (n := 512)) _ _ fun p => congrArg g (Fin.ext ?_)
  show p.1.val * 512 + p.2.val = p.2.val + 512 * p.1.val
  omega

section

variable (Q K V : FVec Ideal S4x8192x5x64 .f32) (L : FVec Ideal S4x8192x5 .f32)

/-- The reference's logits. -/
abbrev lg : FVec Ideal Cert.ReferenceIdeal.S4x5x8192x8192 .f32 := Cert.ReferenceIdeal.RefValue.logits Q K L

theorem lg_apply (b : Fin 4) (h : Fin 5) (i j : Fin 8192) : (lg Q K L (ix4 b h i j) : EReal)
    = if j.val ≤ i.val then (∑ d : Fin 64, Q (ix4 b i h d) * K (ix4 b j h d)) * ((1 / 8 : ℝ) : EReal) + L (ix3 b i h) - L (ix3 b j h) else ⊥ :=
  Cert.ReferenceIdeal.RefValue.logits_apply Q K L b h i j

/-- A logit is no +∞, and on or before the query no -∞. -/
theorem lg_ne_top (hQ : ∀ i, ∃ r : ℝ, Q i = (r : EReal)) (hK : ∀ i, ∃ r : ℝ, K i = (r : EReal)) (hL : ∀ i, ∃ r : ℝ, L i = (r : EReal))
    (b : Fin 4) (h : Fin 5) (i j : Fin 8192) : (lg Q K L (ix4 b h i j) : EReal) ≠ ⊤ ∧ (j.val ≤ i.val → (lg Q K L (ix4 b h i j) : EReal) ≠ ⊥) := by
  choose q hq using hQ
  choose k hk using hK
  choose l hl using hL
  rw [lg_apply]
  by_cases hj : j.val ≤ i.val
  · rw [if_pos hj]
    simp only [hq, hk, hl, ← EReal.coe_mul, ← Softmax.coe_sum, ← EReal.coe_add, ← EReal.coe_sub]
    exact ⟨EReal.coe_ne_top _, fun _ => EReal.coe_ne_bot _⟩
  · rw [if_neg hj]
    exact ⟨bot_ne_top, fun h => absurd h hj⟩

/-- An unmasked score is the logit times log₂ e. -/
theorem score_lg (hQ : ∀ i, ∃ r : ℝ, Q i = (r : EReal)) (hK : ∀ i, ∃ r : ℝ, K i = (r : EReal)) (hL : ∀ i, ∃ r : ℝ, L i = (r : EReal))
    (b : Fin 4) (p : Fin 512 → Fin 8192) (r : Reads Ideal) (k : Fin 16) (I : Is Q K V L b p r k) (h : Fin 5) (x y : Fin 512)
    (hx : (col k x).val ≤ (p y).val) :
    score h r.fq r.f (keyOf r h) (queryOf r h) x y = lg Q K L (ix4 b h (p y) (col k x)) * log2e := by
  choose q hq using hQ
  choose k hk using hK
  choose l hl using hL
  rw [I.score_eq, lg_apply, if_pos hx]
  simp only [hq, hk, hl]
  exact scale_eq _ _ _ _

end

/-! ## The running pass at a grid point -/

section

variable (m : (ℓ : Loc nD τ sig) → Buf (Elt Ideal) ℓ) (c : Dev nD) (t : Fin cfg0.N)

/-- The queries, the keys, the values and the cumulative forget logs of a core. -/
abbrev Q : FVec Ideal S4x8192x5x64 .f32 := m (c.tc.loc main_arg0)
abbrev K : FVec Ideal S4x8192x5x64 .f32 := m (c.tc.loc main_arg1)
abbrev V : FVec Ideal S4x8192x5x64 .f32 := m (c.tc.loc main_arg2)
abbrev L : FVec Ideal S4x8192x5 .f32 := m (c.tc.loc main_arg3)

/-- The running maxima and accumulators before block `k` of the keys. -/
abbrev st (k : ℕ) : Rows Ideal × Accs Ideal :=
  before (grid0.coords t) (iblk m c 0 t) (iblk m c 1 t) (iblk m c 2 t) (iblk m c 3 t) (iblk m c 4 t) k

/-- The last step's reads. -/
abbrev lr : Reads Ideal :=
  lastReads (grid0.coords t) (iblk m c 0 t) (iblk m c 1 t) (iblk m c 2 t) (iblk m c 3 t) (iblk m c 4 t)

/-- The final accumulators. -/
abbrev fin : Accs Ideal :=
  final (grid0.coords t) (iblk m c 0 t) (iblk m c 1 t) (iblk m c 2 t) (iblk m c 3 t) (iblk m c 4 t)

/-- The state after a trip. -/
theorem st_succ (k : ℕ) (hk : k < (blk t).val) :
    ∃ k' : Fin (k0_t1_loop (grid0.coords t)).trips, k'.val = k ∧ st m c t (k + 1)
      = (rows (scores (reads (grid0.coords t) (iblk m c 0 t) (iblk m c 1 t) (iblk m c 2 t) (iblk m c 3 t) (iblk m c 4 t) k')) (st m c t k).1,
        accs (reads (grid0.coords t) (iblk m c 0 t) (iblk m c 1 t) (iblk m c 2 t) (iblk m c 3 t) (iblk m c 4 t) k')
          (scores (reads (grid0.coords t) (iblk m c 0 t) (iblk m c 1 t) (iblk m c 2 t) (iblk m c 3 t) (iblk m c 4 t) k')) (st m c t k).1 (st m c t k).2) :=
  ⟨⟨k, (trips_eq (grid0.coords t)).symm ▸ hk⟩, rfl, state_succ _ _ _ _ ⟨k, (trips_eq (grid0.coords t)).symm ▸ hk⟩⟩

variable (h : Fin 5) (y : Fin 512)

/-- The running maximum of a query's row before block `k`; past the last block, the final one. -/
def mx (k : ℕ) : EReal :=
  if k ≤ (blk t).val then pick (st m c t k).1 h (ix2 0 y)
  else newMax (pick (st m c t (blk t).val).1 h) (pick (lastScores (grid0.coords t) (lr m c t)) h) (ix2 0 y)

/-- A query's accumulator, its row `w`, before block `k`; past the last block, the final one. -/
def ac (w : Fin 80) (k : ℕ) : EReal :=
  if k ≤ (blk t).val then pick (st m c t k).2 h (ix3 0 w y) else pick (fin m c t) h (ix3 0 w y)

/-- The score of a key, log₂ e folded in. -/
def sc (k : ℕ) (x : Fin 512) : EReal :=
  if hk : k < 16 then (lg (Q m c) (K m c) (L m c) (ix4 (bat t) h (row t y) (col ⟨k, hk⟩ x)) : EReal) * log2e else ⊥

/-- What a key adds to row `w`: a feature of its value, or one. -/
def va (w : Fin 80) (j : Fin 8192) : EReal :=
  if hw : w.val < 64 then V m c (ix4 (bat t) j h ⟨w, hw⟩) else 1

/-- The same by block. -/
def vl (w : Fin 80) (k : ℕ) (x : Fin 512) : EReal :=
  if hk : k < 16 then va m c t h w (col ⟨k, hk⟩ x) else 0

variable (hQ : ∀ i, ∃ r : ℝ, Q m c i = (r : EReal)) (hK : ∀ i, ∃ r : ℝ, K m c i = (r : EReal)) (hL : ∀ i, ∃ r : ℝ, L m c i = (r : EReal))

include hQ hK hL

/-- The scores of a trip. -/
theorem trip_score (k : Fin (k0_t1_loop (grid0.coords t)).trips) (hk : k.val < (blk t).val) (x : Fin 512) :
    pick (scores (reads (grid0.coords t) (iblk m c 0 t) (iblk m c 1 t) (iblk m c 2 t) (iblk m c 3 t) (iblk m c 4 t) k)) h (ix3 0 x y)
      = sc m c t h y k.val x := by
  have hk' : k.val < 16 := by omega
  rw [scores_apply, sc, dif_pos hk']
  refine score_lg (Q m c) (K m c) (V m c) (L m c) hQ hK hL (bat t) (row t) _ ⟨k.val, hk'⟩ (reads_is m c t k ⟨k.val, hk'⟩ rfl) h x y ?_
  show k.val * 512 + x.val ≤ (blk t).val * 512 + y.val
  omega

/-- The scores of the last step. -/
theorem last_score (x : Fin 512) :
    pick (lastScores (grid0.coords t) (lr m c t)) h (ix3 0 x y) = sc m c t h y (blk t).val x := by
  rw [lastScores_apply, sc, dif_pos (blk t).isLt]
  by_cases hx : x.val ≤ y.val
  · rw [if_pos hx]
    refine score_lg (Q m c) (K m c) (V m c) (L m c) hQ hK hL (bat t) (row t) _ (blk t) (lastReads_is m c t) h x y ?_
    show (blk t).val * 512 + x.val ≤ (blk t).val * 512 + y.val
    omega
  · rw [if_neg hx, lg_apply, if_neg]
    · exact (EReal.bot_mul_coe_of_pos (inv_pos.2 (Real.log_pos (by norm_num)))).symm
    · show ¬ (blk t).val * 512 + x.val ≤ (blk t).val * 512 + y.val
      omega

theorem mx_succ (k : ℕ) (hk : k < (blk t).val + 1) :
    mx m c t h y (k + 1) = max (mx m c t h y k) (Finset.univ.fold max ⊥ (sc m c t h y k)) := by
  unfold mx
  rw [if_pos (show k ≤ (blk t).val by omega)]
  by_cases hk' : k < (blk t).val
  · rw [if_pos (show k + 1 ≤ (blk t).val by omega)]
    obtain ⟨k', rfl, e⟩ := st_succ m c t k hk'
    rw [e]
    dsimp only
    rw [rows_eq, newMax_apply]
    exact congrArg (fun g => max _ (Finset.fold max ⊥ g (Finset.univ : Finset (Fin 512)))) (funext fun x => trip_score m c t h y hQ hK hL k' hk' x)
  · obtain rfl : k = (blk t).val := by omega
    rw [if_neg (show ¬ (blk t).val + 1 ≤ (blk t).val by omega), newMax_apply]
    exact congrArg (fun g => max _ (Finset.fold max ⊥ g (Finset.univ : Finset (Fin 512)))) (funext fun x => last_score m c t h y hQ hK hL x)

theorem ac_succ (w : Fin 80) (k : ℕ) (hk : k < (blk t).val + 1) :
    ac m c t h y w (k + 1) = ac m c t h y w k * Ideal.exp2 (mx m c t h y k - mx m c t h y (k + 1))
      + ∑ x, vl m c t h w k x * Ideal.exp2 (sc m c t h y k x - mx m c t h y (k + 1)) := by
  unfold ac mx
  rw [if_pos (show k ≤ (blk t).val by omega), if_pos (show k ≤ (blk t).val by omega)]
  by_cases hk' : k < (blk t).val
  · rw [if_pos (show k + 1 ≤ (blk t).val by omega), if_pos (show k + 1 ≤ (blk t).val by omega)]
    obtain ⟨k', rfl, e⟩ := st_succ m c t k hk'
    have hb : k'.val < 16 := by omega
    rw [e]
    dsimp only
    rw [accs_eq, newAcc_apply, rows_eq]
    refine congrArg (_ + ·) (Finset.sum_congr rfl fun x _ => ?_)
    rw [trip_score m c t h y hQ hK hL k' hk' x, (reads_is m c t k' ⟨k'.val, hb⟩ rfl).value h w x, vl, dif_pos hb]
    rfl
  · obtain rfl : k = (blk t).val := by omega
    rw [if_neg (show ¬ (blk t).val + 1 ≤ (blk t).val by omega), if_neg (show ¬ (blk t).val + 1 ≤ (blk t).val by omega)]
    have e : fin m c t = accs (lr m c t) (lastScores (grid0.coords t) (lr m c t)) (st m c t (blk t).val).1 (st m c t (blk t).val).2 := by
      show final _ _ _ _ _ _ = _
      unfold final
      rw [trips_eq, lastAccs_eq]
      rfl
    rw [e, accs_eq, newAcc_apply]
    refine congrArg (_ + ·) (Finset.sum_congr rfl fun x _ => ?_)
    rw [last_score m c t h y hQ hK hL x, (lastReads_is m c t).value h w x, vl, dif_pos (blk t).isLt]
    rfl

/-- The final accumulator: every key's share of row `w`, weighed against one real reference point. -/
theorem fin_eq : ∃ μ : ℝ, ∀ w : Fin 80, (pick (fin m c t) h (ix3 0 w y) : EReal)
    = ∑ j : Fin 8192, va m c t h w j * Ideal.exp2 ((lg (Q m c) (K m c) (L m c) (ix4 (bat t) h (row t y) j) : EReal) * log2e - (μ : EReal)) := by
  have hpos : (0 : ℝ) < (Real.log 2)⁻¹ := inv_pos.2 (Real.log_pos (by norm_num))
  have hs : ∀ b < (blk t).val + 1, ∀ x, sc m c t h y b x ≠ ⊤ := by
    intro b hb x
    have hb' : b < 16 := by omega
    rw [sc, dif_pos hb']
    exact mul_log2e_ne_top _ (lg_ne_top (Q m c) (K m c) (L m c) hQ hK hL (bat t) h (row t y) (col ⟨b, hb'⟩ x)).1
  have h0 : mx m c t h y 0 ≠ ⊤ ∧ mx m c t h y 0 ≠ ⊥ := by
    rw [mx, if_pos (Nat.zero_le _)]
    have e : pick (st m c t 0).1 h = k0_pay76 := by fin_cases h <;> rfl
    rw [e]
    exact first_apply y
  have hM := Softmax.running_max_real ((blk t).val + 1) (mx m c t h y) (sc m c t h y) hs h0 (mx_succ m c t h y hQ hK hL)
  have hM' : ∀ k ≤ (blk t).val + 1, mx m c t h y k = ((mx m c t h y k).toReal : EReal) := fun k hk =>
    (EReal.coe_toReal (hM k hk).1 (hM k hk).2).symm
  refine ⟨(mx m c t h y ((blk t).val + 1)).toReal, fun w => ?_⟩
  have a0 : ac m c t h y w 0 = 0 := by
    rw [ac, if_pos (Nat.zero_le _)]
    exact zeros_apply h w y
  have run := Softmax.running_sum ((blk t).val + 1) (fun k => (mx m c t h y k).toReal) (sc m c t h y) (vl m c t h w) (ac m c t h y w) hs a0
    (fun b hb => by
      rw [← hM' b (by omega), ← hM' (b + 1) (by omega)]
      exact ac_succ m c t h y hQ hK hL w b hb) ((blk t).val + 1) le_rfl
  rw [ac, if_neg (show ¬ (blk t).val + 1 ≤ (blk t).val by omega)] at run
  rw [run, ← sum_blocks]
  generalize (mx m c t h y ((blk t).val + 1)).toReal = μ
  have sub : Finset.range ((blk t).val + 1) ⊆ Finset.range 16 := Finset.range_mono (by omega)
  rw [Finset.sum_subset sub fun b hb hb' => Finset.sum_eq_zero fun x _ => ?_, Finset.sum_range]
  · refine Finset.sum_congr rfl fun b _ => Finset.sum_congr rfl fun x _ => ?_
    rw [vl, dif_pos b.isLt, sc, dif_pos b.isLt]
  · have hb1 : b < 16 := Finset.mem_range.1 hb
    have hb2 : ¬ b < (blk t).val + 1 := fun hh => hb' (Finset.mem_range.2 hh)
    rw [sc, dif_pos hb1, lg_apply, if_neg, EReal.bot_mul_coe_of_pos hpos, EReal.bot_sub, Ideal.exp2_bot, mul_zero]
    show ¬ b * 512 + x.val ≤ (blk t).val * 512 + y.val
    omega

omit h in
/-- The block left at a grid point is the reference's result there. -/
theorem block_eq (n : Fin 384) :
    block (grid0.coords t) (iblk m c 0 t) (iblk m c 1 t) (iblk m c 2 t) (iblk m c 3 t) (iblk m c 4 t) (ix3 0 y n)
      = Cert.ReferenceIdeal.RefValue.outs (V m c) (Cert.ReferenceIdeal.RefValue.probs
          (Cert.ReferenceIdeal.RefValue.exps (lg (Q m c) (K m c) (L m c)) (Cert.ReferenceIdeal.RefValue.rowMax (lg (Q m c) (K m c) (L m c)))))
          (ix3 (bat t) (row t y) n) := by
  rw [Cert.ReferenceIdeal.RefValue.outs_apply]
  refine (quotients_apply (fin m c t) y n).trans ?_
  by_cases hn : n.val < 320
  · rw [dif_pos hn, dif_pos hn]
    have hd : n.val % 64 < 64 := Nat.mod_lt _ (by norm_num)
    generalize hh : (⟨n.val / 64, by omega⟩ : Fin 5) = h
    obtain ⟨μ, e⟩ := fin_eq m c t h y hQ hK hL
    rw [e, e]
    set T : Fin 8192 → EReal := fun j => lg (Q m c) (K m c) (L m c) (ix4 (bat t) h (row t y) j) with hT
    have hTt : ∀ j, T j ≠ ⊤ := fun j => (lg_ne_top (Q m c) (K m c) (L m c) hQ hK hL (bat t) h (row t y) j).1
    have hTb : T (row t y) ≠ ⊥ := (lg_ne_top (Q m c) (K m c) (L m c) hQ hK hL (bat t) h (row t y) (row t y)).2 le_rfl
    obtain ⟨a, ha⟩ := Softmax.fold_max_real T hTt (row t y) hTb
    have q := Softmax.quotient T (fun j => va m c t h ⟨n.val % 64, by omega⟩ j) hTt (row t y) hTb μ a
    have one : ∀ j, va m c t h 64 j = 1 := fun j => dif_neg (by decide)
    simp only [one, one_mul]
    refine q.trans (Finset.sum_congr rfl fun j _ => ?_)
    rw [Cert.ReferenceIdeal.RefValue.probs_apply, mul_comm]
    simp only [Cert.ReferenceIdeal.RefValue.exps_apply, Cert.ReferenceIdeal.RefValue.rowMax_apply]
    rw [show (Finset.univ.fold max ⊥ fun j : Fin 8192 => (lg (Q m c) (K m c) (L m c) (ix4 (bat t) h (row t y) j) : EReal)) = (a : EReal) from ha,
      max_eq_right bot_le]
    exact congrArg (· * _) (dif_pos hd)
  · rw [dif_neg hn, dif_neg hn]

end

end Cert.Equation

end
-- ==== Proof.Finite.lean ====
/- What the precondition says of the arguments: the queries, the keys and the cumulative forget logs are real numbers. -/
module

public import proofs.«01_k».proof.Pre_finite
public import Idealize.ShloMosaic.PureOps.Ideal
public import Idealize.ShloMosaic.Lib.ReduceAll
public import Idealize.ShloMosaic.Lib.Affine
public import Idealize.ShloMosaic.Lib.Pointwise

@[expose] public section

noncomputable section

namespace Cert.Pre_finite

open Idealize.ShloMosaic

theorem ofBits_top : Ideal.ofBits .f32 0x7F800000#32 = ⊤ := by
  show Ideal.ieee 8 23 0x7F800000#32 = ⊤
  unfold Ideal.ieee
  exact (if_pos (by decide)).trans ((if_pos (by decide)).trans (if_neg (by decide)))

/-- An extended real whose absolute value is below +∞ is a real number. -/
theorem real_of_abs_lt {x : EReal} (h : Ideal.cmp .olt (max x (-x)) (Ideal.ofBits .f32 0x7F800000#32) = 1#1) : ∃ r : ℝ, x = (r : EReal) := by
  rw [ofBits_top] at h
  induction x with
  | bot => simp [Ideal.cmp] at h
  | coe r => exact ⟨r, rfl⟩
  | top => simp [Ideal.cmp] at h

variable [Facts]

instance : Subsingleton S_.Idx := ⟨fun a b => funext fun i => i.elim0⟩

/-- Under the precondition the queries, the keys and the cumulative forget logs are real. -/
theorem real_of (q k v : FVec Ideal S4x8192x5x64 .f32) (f : FVec Ideal S4x8192x5 .f32) (h : fn q k v f = fun _ => 1#1) :
    (∀ i, ∃ r : ℝ, q i = (r : EReal)) ∧ (∀ i, ∃ r : ℝ, k i = (r : EReal)) ∧ (∀ i, ∃ r : ℝ, f i = (r : EReal)) := by
  have e := congrFun h (fun a => a.elim0)
  unfold fn at e
  obtain ⟨e1, e3⟩ := IntOp.andi_eq_one.1 (show IntOp.andi _ _ = 1#1 from e)
  obtain ⟨e1, e2⟩ := IntOp.andi_eq_one.1 (show IntOp.andi _ _ = 1#1 from e1)
  refine ⟨fun i => ?_, fun i => ?_, fun i => ?_⟩
  · exact real_of_abs_lt (Host.reduce_andi_all _ _ _ _ _ e1 i)
  · exact real_of_abs_lt (Host.reduce_andi_all _ _ _ _ _ e2 i)
  · exact real_of_abs_lt (Host.reduce_andi_all _ _ _ _ _ e3 i)

end Cert.Pre_finite

end
-- ==== Proof.Value.lean ====
/- The kernel's result array holds the reference's result. -/
module

public import proofs.«01_k».proof.Proof.Equation
public import proofs.«01_k».proof.Proof.Finite
public import proofs.«01_k».proof.Proof.Block
public import proofs.«01_k».proof.Proof.Body
public import Idealize.ShloMosaic.Lib.Pipeline.ValueKit

@[expose] public section

set_option maxRecDepth 16384

noncomputable section

namespace Cert.KernelIdeal.Result

open Cert.KernelIdeal Cert.KernelIdeal.Gen Cert.KernelIdeal.Body Cert.KernelIdeal.HostArrays Cert.Equation
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The reference's result, as a function of the kernel's arguments. -/
def expected : FVec Ideal S4x8192x384 .bf16 :=
  Cert.ReferenceIdeal.RefValue.outs (V m c) (Cert.ReferenceIdeal.RefValue.probs
    (Cert.ReferenceIdeal.RefValue.exps (lg (Q m c) (K m c) (L m c)) (Cert.ReferenceIdeal.RefValue.rowMax (lg (Q m c) (K m c) (L m c)))))

theorem read5 (t : Fin cfg0.N) (A : FVec Ideal S4x8192x384 .bf16) (y : Fin 512) (n : Fin 384) :
    ((cfg0.win 5).blk t).view.read (Elt Ideal) A (ix3 0 y n) = A (ix3 (bat t) (row t y) n) := by
  blk_ext [index5]
  rfl

variable (hQ : ∀ i, ∃ r : ℝ, Q m c i = (r : EReal)) (hK : ∀ i, ∃ r : ℝ, K m c i = (r : EReal)) (hL : ∀ i, ∃ r : ℝ, L m c i = (r : EReal))

include hQ hK hL in
theorem after_eq (t : Fin cfg0.N) (z : S1x512x384.Idx) :
    (blockAt m c t : FVec Ideal S1x512x384 .bf16) z = ((cfg0.win 5).blk t).view.read (Elt Ideal) (expected m c) z := by
  obtain ⟨x, y, n, rfl⟩ : ∃ (x : Fin 1) (y : Fin 512) (n : Fin 384), z = ix3 x y n := ⟨z 0, z 1, z 2, eq_ix3 z⟩
  obtain rfl : x = 0 := Subsingleton.elim _ _
  rw [read5]
  refine (congrFun (Block.bodyRun_eq ..) _).trans ?_
  exact block_eq m c t y hQ hK hL n

include hQ hK hL in
theorem array_eq : (dats m 0 c).arrAt 5 cfg0.N = expected m c := by
  refine (dats m 0 c).arrAt_eq_of_covers 5 _ (by decide +kernel) fun t hf z => ?_
  rw [after_5]
  exact after_eq m c hQ hK hL t z

/-- From finite queries, keys and cumulative logs the kernel ends with the reference's result and its arguments unchanged. -/
theorem run (h : ∀ c : Dev nD, (∀ i, ∃ r : ℝ, Q m c i = (r : EReal)) ∧ (∀ i, ∃ r : ℝ, K m c i = (r : EReal)) ∧ (∀ i, ∃ r : ℝ, L m c i = (r : EReal))) :
    θ_run defs (onTc (τ := τ) (main (F := Ideal))) ⟨m, fun _ => 0, ρ⟩ (fun r => ∀ c : Dev nD,
      r.2.mem ((c.tc : Thread nD τ).loc main_v18) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ p c => ⟨((p c).1 5).trans (array_eq m c (h c).1 (h c).2.1 (h c).2.2),
    ((p c).2 main_arg0 (Pipeline.mem_restRefs_of main_arg0 (by decide) (by decide))).trans (V_main_arg0 m c),
    ((p c).2 main_arg1 (Pipeline.mem_restRefs_of main_arg1 (by decide) (by decide))).trans (V_main_arg1 m c),
    ((p c).2 main_arg2 (Pipeline.mem_restRefs_of main_arg2 (by decide) (by decide))).trans (V_main_arg2 m c),
    ((p c).2 main_arg3 (Pipeline.mem_restRefs_of main_arg3 (by decide) (by decide))).trans (V_main_arg3 m c)⟩) (run_main m ρ)

end Cert.KernelIdeal.Result

end
-- ==== Proof.Plain.lean ====
/-
  The plain mathematics that the feed-forward step and the merge of the branches share.
-/
module

public import Idealize.ShloMosaic.Lib.Pointwise

@[expose] public section

noncomputable section

namespace Cert.Plain

open Idealize.ShloMosaic

/-- The logistic function. -/
def sigmoid (z : EReal) : EReal := Ideal.div 1 (1 + Ideal.exp (-z))

/-- A gate's sigmoid-weighted value times a unit. -/
def swiglu (g u : EReal) : EReal := g * sigmoid g * u

/-- A row divided by its root mean square, times a gain. -/
def rmsNorm (s : Fin 1024 → EReal) (gain : EReal) (n : Fin 1024) : EReal :=
  s n * Ideal.rsqrt (Ideal.div (∑ k, s k * s k) (Ideal.ofBits .f32 0x44800000#32) + Ideal.ofBits .f32 0x358637BD#32) * gain

/-- A projection of a branch's output, times its gate. -/
def gated {w : ℕ} (h a : Fin 1024 → EReal) (bias : EReal) (o b : Fin w → EReal) : EReal :=
  sigmoid (∑ k, h k * a k + bias) * ∑ r, o r * b r

/-- A branch's column among the three branches' gates. -/
def col (j : Fin 3) (d : Fin 1024) : Fin 3072 := ⟨j * 1024 + d, by omega⟩

/-- A sum whose terms past the first 320 are zeros. -/
theorem sum_head (f : Fin 384 → EReal) (h : ∀ r : Fin 384, ¬ r.val < 320 → f r = 0) :
    ∑ r, f r = ∑ r : Fin 320, f ⟨r, by omega⟩ := by
  refine (Fin.sum_univ_add (a := 320) (b := 64) f).trans ?_
  have z : ∀ r : Fin 64, f (Fin.natAdd 320 r) = 0 := fun r => h _ (by show ¬ 320 + r.val < 320; omega)
  rw [Finset.sum_eq_zero fun r _ => z r, add_zero]
  rfl

end Cert.Plain

end
-- ==== Proof.FfnBody.lean ====
/-
  The feed-forward kernel's arithmetic on one block of 512 rows read at an index.
-/
module

public import proofs.«01_k».proof.Proof.Gen.Kernel2Ideal.Value
public import proofs.«01_k».proof.Proof.Plain
public import Idealize.ShloMosaic.Lib.Pointwise
public import Idealize.ShloMosaic.Lib.Tactic.CleanTypes

@[expose] public section

set_option maxRecDepth 16384

noncomputable section

namespace Cert.Kernel2Ideal.Body

open Cert.Kernel2Ideal Cert.Kernel2Ideal.Gen Cert.Plain
open Idealize.ShloMosaic Idealize.ShloMosaic.TcCoe Idealize.SL.Sem

theorem block_stream (h : Vec Ideal S1x512x1024 .bf16) (wg wu : Vec Ideal S1024x2816 .bf16) (x : Vec Ideal S1x512x1024 .f32)
    (g : Vec Ideal S1x1x1024 .f32) (w : Vec Ideal S2816x1024 .bf16) (y : Fin 512) (n : Fin 1024) :
    k0_pay2 h wg wu x g w (ix2 y n) = (x (ix3 0 y n) + g (ix3 0 0 n) * ∑ r : Fin 2816,
      swiglu (∑ k : Fin 1024, h (ix3 0 y k) * wg (ix2 k r)) (∑ k : Fin 1024, h (ix3 0 y k) * wu (ix2 k r)) * w (ix2 r n) : EReal) := by
  pointwise [k0_pay2, swiglu, sigmoid]
  simp only [zero_sub]

/-- The mean of the squares of a row of the stream. -/
theorem block_mean (h : Vec Ideal S1x512x1024 .bf16) (wg wu : Vec Ideal S1024x2816 .bf16) (x : Vec Ideal S1x512x1024 .f32)
    (g : Vec Ideal S1x1x1024 .f32) (w : Vec Ideal S2816x1024 .bf16) (y : Fin 512) :
    k0_pay3 h wg wu x g w (ix2 y 0) = Ideal.div (∑ k : Fin 1024, (k0_pay2 h wg wu x g w (ix2 y k) * k0_pay2 h wg wu x g w (ix2 y k) : EReal))
      (Ideal.ofBits .f32 0x44800000#32) := by
  unfold k0_pay3
  generalize k0_pay2 h wg wu x g w = s
  pointwise []

theorem block_normed (s : FVec Ideal S512x1024 .f32) (v e : FVec Ideal S512x1 .f32) (gain : Vec Ideal S1x1024 .f32) (y : Fin 512) (n : Fin 1024) :
    k0_pay1 s v e gain (ix3 0 y n) = (s (ix2 y n) * Ideal.rsqrt (v (ix2 y 0) + e (ix2 y 0)) * gain (ix2 0 n) : EReal) := by
  pointwise [k0_pay1]

theorem block_eps (y : Fin 512) : (k0_pay4 : FVec Ideal S512x1 .f32) (ix2 y 0) = Ideal.ofBits .f32 0x358637BD#32 := by
  pointwise [k0_pay4]

/-- The body's result at an index, a normed row of the stream, the weights' two halves cut out of one array. -/
theorem block_apply (h : Vec Ideal S1x512x1024 .bf16) (wg wu : Vec Ideal S1024x2816 .bf16) (wIn : Vec Ideal S1024x5632 .bf16) (x : Vec Ideal S1x512x1024 .f32)
    (g : Vec Ideal S1x1x1024 .f32) (w : Vec Ideal S2816x1024 .bf16) (gain : Vec Ideal S1x1024 .f32)
    (hg : ∀ k r, wg (ix2 k r) = wIn (ix2 k ⟨r, by omega⟩)) (hu : ∀ k r, wu (ix2 k r) = wIn (ix2 k ⟨2816 + r, by omega⟩)) (y : Fin 512) (n : Fin 1024) :
    k0_pay1 (k0_pay2 h wg wu x g w) (k0_pay3 h wg wu x g w) k0_pay4 gain (ix3 0 y n) = rmsNorm (fun d => (x (ix3 0 y d) + g (ix3 0 0 d) * ∑ r : Fin 2816,
      swiglu (∑ k : Fin 1024, h (ix3 0 y k) * wIn (ix2 k ⟨r, by omega⟩)) (∑ k : Fin 1024, h (ix3 0 y k) * wIn (ix2 k ⟨2816 + r, by omega⟩))
        * w (ix2 r d) : EReal)) (gain (ix2 0 n)) n := by
  simp only [block_normed, block_mean, block_eps, block_stream, hg, hu]
  rfl

end Cert.Kernel2Ideal.Body

end
-- ==== Proof.FfnRef.lean ====
/-
  The feed-forward step's reference read at an index: the gated hidden units, the residual stream they are added to, and the
  final norm, each as a plain formula over the six arguments.
-/
module

public import proofs.«01_k».proof.Proof.Gen.Reference2Ideal.Run
public import proofs.«01_k».proof.Proof.Plain
public import Idealize.ShloMosaic.Lib.Pointwise
public import Idealize.ShloMosaic.Lib.Tactic.CleanTypes

@[expose] public section

set_option maxRecDepth 16384

noncomputable section

namespace Cert.Reference2Ideal.RefValue

open Cert.Reference2Ideal Cert.Reference2Ideal.Gen Cert.Plain Idealize.ShloMosaic Idealize.ShloMosaic.TcCoe Idealize.SL.Sem

/-- The gates and the units, side by side. -/
def projected (h : FVec Ideal S4x8192x1024 .f32) (w : FVec Ideal S1024x5632 .f32) : FVec Ideal S4x8192x5632 .f32 :=
  Host.dotGeneral dot_S4x8192x1024_S1024x5632_S4x8192x5632_2_0_01_1_n_n none h w

/-- The gated hidden units. -/
def hidden (p : FVec Ideal S4x8192x5632 .f32) : FVec Ideal S4x8192x2816 .f32 :=
  mulf (mulf (extractStridedSlice S4x8192x2816 ![0, 0, 0] p slices_S4x8192x5632_S4x8192x2816_0_0_0)
    (Host.divf (broadcastInDim S4x8192x2816 ![] bcast_S_S4x8192x2816 (constant S_ .f32 0x3F800000#32))
      (addf (broadcastInDim S4x8192x2816 ![] bcast_S_S4x8192x2816 (constant S_ .f32 0x3F800000#32))
        (Host.exp (Host.negf (extractStridedSlice S4x8192x2816 ![0, 0, 0] p slices_S4x8192x5632_S4x8192x2816_0_0_0))))))
    (extractStridedSlice S4x8192x2816 ![0, 0, 2816] p slices_S4x8192x5632_S4x8192x2816_0_0_2816)

/-- The residual stream after the feed-forward's output is added. -/
def stream (x : FVec Ideal S4x8192x1024 .f32) (mod : FVec Ideal S4x6144 .f32) (a : FVec Ideal S4x8192x2816 .f32)
    (w : FVec Ideal S2816x1024 .f32) : FVec Ideal S4x8192x1024 .f32 :=
  addf x (mulf (broadcastInDim S4x8192x1024 ![0, 1, 2] bcast_S4x1x1024_S4x8192x1024_0_1_2
    (extractStridedSlice S4x1x1024 ![0, 0, 5120] (broadcastInDim S4x1x6144 ![0, 2] bcast_S4x6144_S4x1x6144_0_2 mod) slices_S4x1x6144_S4x1x1024_0_0_5120))
    (Host.dotGeneral dot_S4x8192x2816_S2816x1024_S4x8192x1024_2_0_01_1_n_n none a w))

/-- The final norm of the stream. -/
def normed (s : FVec Ideal S4x8192x1024 .f32) (g : FVec Ideal S1024 .f32) : FVec Ideal S4x8192x1024 .f32 :=
  mulf (mulf s (broadcastInDim S4x8192x1024 ![0, 1, 2] bcast_S4x8192x1_S4x8192x1024_0_1_2
    (Host.rsqrt (addf (Host.divf (broadcastInDim S4x8192x1 ![0, 1] bcast_S4x8192_S4x8192x1_0_1
        (Host.reduceAdd (mulf s s) (constant S_ .f32 0x00000000#32) reducesTo_S4x8192x1024_S4x8192_d2 h_S_))
        (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

theorem result_eq (m : (ℓ : Loc nD τ sig) → Buf (Elt Ideal) ℓ) (c : Dev nD) :
    Value.res_out0 m c = normed (stream (m ((c.tc : Thread nD τ).loc main_arg0)) (m ((c.tc : Thread nD τ).loc main_arg4))
      (hidden (projected (m ((c.tc : Thread nD τ).loc main_arg1)) (m ((c.tc : Thread nD τ).loc main_arg2))))
      (m ((c.tc : Thread nD τ).loc main_arg3))) (m ((c.tc : Thread nD τ).loc main_arg5)) := by
  unfold Value.res_out0 Value.res_main_v28 normed stream hidden projected
  rfl

theorem projected_apply (h : FVec Ideal S4x8192x1024 .f32) (w : FVec Ideal S1024x5632 .f32) (b : Fin 4) (i : Fin 8192) (r : Fin 5632) :
    projected h w (ix3 b i r) = ∑ k : Fin 1024, h (ix3 b i k) * w (ix2 k r) := by
  pointwise [projected]

theorem hidden_apply (p : FVec Ideal S4x8192x5632 .f32) (b : Fin 4) (i : Fin 8192) (r : Fin 2816) :
    hidden p (ix3 b i r) = swiglu (p (ix3 b i ⟨r, by omega⟩)) (p (ix3 b i ⟨2816 + r, by omega⟩)) := by
  pointwise [hidden, swiglu, sigmoid]

theorem stream_apply (x : FVec Ideal S4x8192x1024 .f32) (mod : FVec Ideal S4x6144 .f32) (a : FVec Ideal S4x8192x2816 .f32)
    (w : FVec Ideal S2816x1024 .f32) (b : Fin 4) (i : Fin 8192) (n : Fin 1024) :
    stream x mod a w (ix3 b i n) = x (ix3 b i n) + mod (ix2 b ⟨5120 + n, by omega⟩) * ∑ r : Fin 2816, a (ix3 b i r) * w (ix2 r n) := by
  pointwise [stream]

theorem normed_apply (s : FVec Ideal S4x8192x1024 .f32) (g : FVec Ideal S1024 .f32) (b : Fin 4) (i : Fin 8192) (n : Fin 1024) :
    normed s g (ix3 b i n) = rmsNorm (fun k => s (ix3 b i k)) (g (ix1 n)) n := by
  pointwise [normed, rmsNorm]

end Cert.Reference2Ideal.RefValue

end
-- ==== Proof.FfnValue.lean ====
/-
  The feed-forward kernel's result array holds the reference's result: what its seven windows hold at a grid point, and the
  block that the body leaves.
-/
module

public import proofs.«01_k».proof.Proof.FfnBody
public import proofs.«01_k».proof.Proof.FfnRef
public import Idealize.ShloMosaic.Lib.Pipeline.ValueKit
public import Idealize.ShloMosaic.Lib.StableHlo.RunRead

@[expose] public section

set_option maxRecDepth 16384

noncomputable section

namespace Cert.Kernel2Ideal.Result

open Cert.Kernel2Ideal Cert.Kernel2Ideal.Gen Cert.Kernel2Ideal.Body Cert.Reference2Ideal.RefValue Cert.Plain
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-! ## The arguments -/

abbrev X : FVec Ideal S4x8192x1024 .f32 := m (c.tc.loc main_arg0)
abbrev H : FVec Ideal S4x8192x1024 .f32 := m (c.tc.loc main_arg1)
abbrev WIn : FVec Ideal S1024x5632 .f32 := m (c.tc.loc main_arg2)
abbrev WOut : FVec Ideal S2816x1024 .f32 := m (c.tc.loc main_arg3)
abbrev Mod : FVec Ideal S4x6144 .f32 := m (c.tc.loc main_arg4)
abbrev Gain : FVec Ideal S1024 .f32 := m (c.tc.loc main_arg5)

/-! ## The arrays the host passes -/

/-- The modulation with an axis of one row. -/
def modArray (a : FVec Ideal S4x6144 .f32) : FVec Ideal S4x1x6144 .f32 := shapeCast S4x1x6144 a shapeCasts_S4x6144_S4x1x6144

/-- The gain as one row. -/
def gainArray (a : FVec Ideal S1024 .f32) : FVec Ideal S1x1024 .f32 := shapeCast S1x1024 a shapeCasts_S1024_S1x1024

/-- What the arrays that the host passes hold. -/
structure HostArrays : Prop where
  hidden : V m c main_v0 = (H m c : FVec Ideal S4x8192x1024 .bf16)
  weightsIn : V m c main_v1 = (WIn m c : FVec Ideal S1024x5632 .bf16)
  weightsOut : V m c main_v2 = (WOut m c : FVec Ideal S2816x1024 .bf16)
  mod : V m c main_v3 = modArray (Mod m c)
  gain : V m c main_v4 = gainArray (Gain m c)

theorem host : HostArrays m c := by
  constructor <;>
  · unfold V
    simp only [hostOps0, List.flatten_cons, List.flatten_nil, List.append_nil, List.cons_append, List.nil_append]
    after_reads_simp
    rfl

theorem modArray_apply (a : FVec Ideal S4x6144 .f32) (b : Fin 4) (n : Fin 6144) : modArray a (ix3 b 0 n) = a (ix2 b n) := by
  pointwise [modArray]

theorem gainArray_apply (a : FVec Ideal S1024 .f32) (n : Fin 1024) : gainArray a (ix2 0 n) = a (ix1 n) := by
  pointwise [gainArray]

/-! ## The windows' blocks at a grid point -/

/-- The batch element of a grid point. -/
def bat (t : Fin cfg0.N) : Fin 4 := grid0.coords t 0

/-- The block of rows of a grid point. -/
def blk (t : Fin cfg0.N) : Fin 16 := grid0.coords t 1

/-- The position of a row in its sequence. -/
def row (t : Fin cfg0.N) (y : Fin 512) : Fin 8192 := ⟨blk t * 512 + y, by omega⟩

theorem index0 : ∀ t : Fin cfg0.N, win0_0.index t = ![(bat t).val, (blk t).val, 0] := by decide +kernel
theorem index1 : ∀ t : Fin cfg0.N, win0_1.index t = ![(bat t).val, (blk t).val, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![(bat t).val, 0, 5] := by decide +kernel
theorem index5 : ∀ t : Fin cfg0.N, win0_5.index t = ![0, 0] := by decide +kernel
theorem index6 : ∀ t : Fin cfg0.N, win0_6.index t = ![(bat t).val, (blk t).val, 0] := by decide +kernel

theorem read0 (A : FVec Ideal S4x8192x1024 .f32) (y : Fin 512) (n : Fin 1024) :
    ((cfg0.win 0).blk t).view.read (Elt Ideal) A (ix3 0 y n) = A (ix3 (bat t) (row t y) n) := by
  blk_ext [index0]
  rfl

theorem read1 (A : FVec Ideal S4x8192x1024 .bf16) (y : Fin 512) (n : Fin 1024) :
    ((cfg0.win 1).blk t).view.read (Elt Ideal) A (ix3 0 y n) = A (ix3 (bat t) (row t y) n) := by
  blk_ext [index1]
  rfl

theorem read2 (A : FVec Ideal S1024x5632 .bf16) (k : Fin 1024) (r : Fin 5632) :
    ((cfg0.win 2).blk t).view.read (Elt Ideal) A (ix2 k r) = A (ix2 k r) := by
  blk_ext [index2]

theorem read3 (A : FVec Ideal S2816x1024 .bf16) (r : Fin 2816) (n : Fin 1024) :
    ((cfg0.win 3).blk t).view.read (Elt Ideal) A (ix2 r n) = A (ix2 r n) := by
  blk_ext [index3]

theorem read4 (A : FVec Ideal S4x1x6144 .f32) (n : Fin 1024) :
    ((cfg0.win 4).blk t).view.read (Elt Ideal) A (ix3 0 0 n) = A (ix3 (bat t) 0 ⟨5120 + n, by omega⟩) := by
  blk_ext [index4]

theorem read5 (A : FVec Ideal S1x1024 .f32) (n : Fin 1024) :
    ((cfg0.win 5).blk t).view.read (Elt Ideal) A (ix2 0 n) = A (ix2 0 n) := by
  blk_ext [index5]

theorem read6 (A : FVec Ideal S4x8192x1024 .f32) (y : Fin 512) (n : Fin 1024) :
    ((cfg0.win 6).blk t).view.read (Elt Ideal) A (ix3 0 y n) = A (ix3 (bat t) (row t y) n) := by
  blk_ext [index6]
  rfl

theorem iblk0 (y : Fin 512) (n : Fin 1024) : (iblk m c 0 t : FVec Ideal S1x512x1024 .f32) (ix3 0 y n) = X m c (ix3 (bat t) (row t y) n) :=
  (congrFun (congrArg (((cfg0.win 0).blk t).view.read (Elt Ideal)) (V_main_arg0 m c)) _).trans (read0 t _ _ _)

theorem iblk1 (y : Fin 512) (n : Fin 1024) : (iblk m c 1 t : FVec Ideal S1x512x1024 .bf16) (ix3 0 y n) = H m c (ix3 (bat t) (row t y) n) :=
  (congrFun (congrArg (((cfg0.win 1).blk t).view.read (Elt Ideal)) ((host m c).hidden)) _).trans (read1 t _ _ _)

theorem iblk2 (k : Fin 1024) (r : Fin 5632) : (iblk m c 2 t : FVec Ideal S1024x5632 .bf16) (ix2 k r) = WIn m c (ix2 k r) :=
  (congrFun (congrArg (((cfg0.win 2).blk t).view.read (Elt Ideal)) ((host m c).weightsIn)) _).trans (read2 t _ _ _)

theorem iblk3 (r : Fin 2816) (n : Fin 1024) : (iblk m c 3 t : FVec Ideal S2816x1024 .bf16) (ix2 r n) = WOut m c (ix2 r n) :=
  (congrFun (congrArg (((cfg0.win 3).blk t).view.read (Elt Ideal)) ((host m c).weightsOut)) _).trans (read3 t _ _ _)

theorem iblk4 (n : Fin 1024) : (iblk m c 4 t : FVec Ideal S1x1x1024 .f32) (ix3 0 0 n) = Mod m c (ix2 (bat t) ⟨5120 + n, by omega⟩) :=
  (congrFun (congrArg (((cfg0.win 4).blk t).view.read (Elt Ideal)) ((host m c).mod)) _).trans ((read4 t _ _).trans (modArray_apply _ _ _))

theorem iblk5 (n : Fin 1024) : (iblk m c 5 t : FVec Ideal S1x1024 .f32) (ix2 0 n) = Gain m c (ix1 n) :=
  (congrFun (congrArg (((cfg0.win 5).blk t).view.read (Elt Ideal)) ((host m c).gain)) _).trans ((read5 t _ _).trans (gainArray_apply _ _))

/-! ## The body's block -/

theorem gates_ld (x2 : Vec Ideal S1024x5632 .bf16) (k : Fin 1024) (r : Fin 2816) :
    View.ld x2 r0_1 (ix2 k r) = x2 (ix2 k ⟨r, by omega⟩) := by
  refine congrArg x2 (funext fun a => Fin.ext ?_)
  match a with
  | 0 => show 0 + 1 * k.val = k.val; omega
  | 1 => show 0 + 1 * r.val = r.val; omega

theorem units_ld (x2 : Vec Ideal S1024x5632 .bf16) (k : Fin 1024) (r : Fin 2816) :
    View.ld x2 r0_2 (ix2 k r) = x2 (ix2 k ⟨2816 + r, by omega⟩) := by
  refine congrArg x2 (funext fun a => Fin.ext ?_)
  match a with
  | 0 => show 0 + 1 * k.val = k.val; omega
  | 1 => show 2816 + 1 * r.val = 2816 + r.val; omega

/-- The body's block at an index: a normed row of the stream, from the six blocks it reads. -/
theorem out_apply (x0 : Vec Ideal S1x512x1024 .f32) (x1 : Vec Ideal S1x512x1024 .bf16) (x2 : Vec Ideal S1024x5632 .bf16)
    (x3 : Vec Ideal S2816x1024 .bf16) (x4 : Vec Ideal S1x1x1024 .f32) (x5 : Vec Ideal S1x1024 .f32) (y : Fin 512) (n : Fin 1024) :
    out0_6 x0 x1 x2 x3 x4 x5 (ix3 0 y n) = rmsNorm (fun d => (x0 (ix3 0 y d) + x4 (ix3 0 0 d) * ∑ r : Fin 2816,
      swiglu (∑ k : Fin 1024, x1 (ix3 0 y k) * x2 (ix2 k ⟨r, by omega⟩)) (∑ k : Fin 1024, x1 (ix3 0 y k) * x2 (ix2 k ⟨2816 + r, by omega⟩))
        * x3 (ix2 r d) : EReal)) (x5 (ix2 0 n)) n := by
  unfold out0_6
  frame_out
  exact block_apply _ _ _ x2 _ _ _ _ (gates_ld x2) (units_ld x2) y n

/-- The reference's result, as a function of the kernel's arguments. -/
def expected : FVec Ideal S4x8192x1024 .f32 :=
  normed (stream (X m c) (Mod m c) (hidden (projected (H m c) (WIn m c))) (WOut m c)) (Gain m c)

theorem expected_apply (b : Fin 4) (i : Fin 8192) (n : Fin 1024) :
    expected m c (ix3 b i n) = rmsNorm (fun d => (X m c (ix3 b i d) + Mod m c (ix2 b ⟨5120 + d, by omega⟩) * ∑ r : Fin 2816,
      swiglu (∑ k : Fin 1024, H m c (ix3 b i k) * WIn m c (ix2 k ⟨r, by omega⟩)) (∑ k : Fin 1024, H m c (ix3 b i k) * WIn m c (ix2 k ⟨2816 + r, by omega⟩))
        * WOut m c (ix2 r d) : EReal)) (Gain m c (ix1 n)) n := by
  unfold expected
  simp only [normed_apply, stream_apply, hidden_apply, projected_apply]

/-- What the body leaves in the output's block at a grid point. -/
def blockAt : FVec Ideal S1x512x1024 .f32 :=
  out0_6 (iblk m c 0 t) (iblk m c 1 t) (iblk m c 2 t) (iblk m c 3 t) (iblk m c 4 t) (iblk m c 5 t)

theorem after_6 : (dats m 0 c).after 6 t = blockAt m c t := after0_6 m c t

theorem block_eq (z : S1x512x1024.Idx) : blockAt m c t z = ((cfg0.win 6).blk t).view.read (Elt Ideal) (expected m c) z := by
  obtain ⟨x, y, n, rfl⟩ : ∃ (x : Fin 1) (y : Fin 512) (n : Fin 1024), z = ix3 x y n := ⟨z 0, z 1, z 2, eq_ix3 z⟩
  obtain rfl : x = 0 := Subsingleton.elim _ _
  rw [read6, expected_apply]
  refine (out_apply ..).trans ?_
  simp only [iblk0, iblk1, iblk2, iblk3, iblk4, iblk5]

theorem covers6 : (cfg0.win 6).Covers := by decide +kernel

theorem array_eq : (dats m 0 c).arrAt 6 cfg0.N = expected m c := by
  refine (dats m 0 c).arrAt_eq_of_covers 6 _ covers6 fun t hf z => ?_
  rw [after_6]
  have key := block_eq m c t
  generalize blockAt m c t = B at key ⊢
  generalize expected m c = A at key ⊢
  exact key z

/-- The kernel ends with the reference's result and its arguments unchanged. -/
theorem run :
    θ_run defs (onTc (τ := τ) (main (F := Ideal))) ⟨m, fun _ => 0, ρ⟩ (fun r => ∀ c : Dev nD,
      r.2.mem ((c.tc : Thread nD τ).loc main_v5) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ p c => ⟨(p c).1.trans (array_eq m c), (p c).2⟩) (Value.run_blocks m ρ)

end Cert.Kernel2Ideal.Result

end
-- ==== Proof.MergeBody.lean ====
/-
  The merge kernel's arithmetic on one block of 512 rows read at an index.
-/
module

public import proofs.«01_k».proof.Proof.Gen.Kernel3Ideal.Value
public import proofs.«01_k».proof.Proof.Plain
public import Idealize.ShloMosaic.Lib.Pointwise
public import Idealize.ShloMosaic.Lib.Tactic.CleanTypes

@[expose] public section

set_option maxRecDepth 16384

noncomputable section

namespace Cert.Kernel3Ideal.Body

open Cert.Kernel3Ideal Cert.Kernel3Ideal.Gen Cert.Plain
open Idealize.ShloMosaic Idealize.ShloMosaic.TcCoe Idealize.SL.Sem

/-- The gated sum of the three branches' projections. -/
theorem block_merged (h : Vec Ideal S1x512x1024 .bf16) (a0 a1 a2 : Vec Ideal S1024x1024 .bf16) (b0 b1 b2 : Vec Ideal S1x1024 .f32)
    (o0 o1 o2 : Vec Ideal S1x512x384 .bf16) (w0 w1 w2 : Vec Ideal S1x384x1024 .bf16) (y : Fin 512) (d : Fin 1024) :
    k0_pay6 (k0_pay2 h) (k0_pay3 h a0 b0 o0 w0) (k0_pay4 h a1 b1) k0_pay5 o1 w1 a2 b2 o2 w2 (ix2 y d)
      = gated (fun k => h (ix3 0 y k)) (fun k => a0 (ix2 k d)) (b0 (ix2 0 d)) (fun r => o0 (ix3 0 y r)) (fun r => w0 (ix3 0 r d))
      + gated (fun k => h (ix3 0 y k)) (fun k => a1 (ix2 k d)) (b1 (ix2 0 d)) (fun r => o1 (ix3 0 y r)) (fun r => w1 (ix3 0 r d))
      + gated (fun k => h (ix3 0 y k)) (fun k => a2 (ix2 k d)) (b2 (ix2 0 d)) (fun r => o2 (ix3 0 y r)) (fun r => w2 (ix3 0 r d)) := by
  pointwise [k0_pay6, k0_pay2, k0_pay3, k0_pay4, k0_pay5, gated, sigmoid]
  simp only [zero_sub]

/-- A row of the stream: the merged branches, projected and added. -/
theorem block_stream (s : FVec Ideal S512x1024 .f32) (x : Vec Ideal S1x512x1024 .f32) (g : Vec Ideal S1x1x1024 .f32) (w : Vec Ideal S1024x1024 .bf16)
    (y : Fin 512) (n : Fin 1024) :
    k0_pay8 s (k0_pay7 x) g w (ix2 y n) = (x (ix3 0 y n) + g (ix3 0 0 n) * ∑ d : Fin 1024, s (ix2 y d) * w (ix2 d n) : EReal) := by
  pointwise [k0_pay8, k0_pay7]

/-- The merged branches, the weights and biases of the three cut out of arrays of all three. -/
def mergedAt (h : Vec Ideal S1x512x1024 .bf16) (o0 o1 o2 : Vec Ideal S1x512x384 .bf16) (a : Vec Ideal S1024x3072 .bf16) (b : Vec Ideal S1x3072 .f32)
    (w : Vec Ideal S3x384x1024 .bf16) (y : Fin 512) (d : Fin 1024) : EReal :=
  gated (fun k => h (ix3 0 y k)) (fun k => a (ix2 k (col 0 d))) (b (ix2 0 (col 0 d))) (fun r => o0 (ix3 0 y r)) (fun r => w (ix3 0 r d))
  + gated (fun k => h (ix3 0 y k)) (fun k => a (ix2 k (col 1 d))) (b (ix2 0 (col 1 d))) (fun r => o1 (ix3 0 y r)) (fun r => w (ix3 1 r d))
  + gated (fun k => h (ix3 0 y k)) (fun k => a (ix2 k (col 2 d))) (b (ix2 0 (col 2 d))) (fun r => o2 (ix3 0 y r)) (fun r => w (ix3 2 r d))

theorem merged_cut (h : Vec Ideal S1x512x1024 .bf16) (a0 a1 a2 : Vec Ideal S1024x1024 .bf16) (b0 b1 b2 : Vec Ideal S1x1024 .f32)
    (o0 o1 o2 : Vec Ideal S1x512x384 .bf16) (w0 w1 w2 : Vec Ideal S1x384x1024 .bf16) (a : Vec Ideal S1024x3072 .bf16) (b : Vec Ideal S1x3072 .f32)
    (w : Vec Ideal S3x384x1024 .bf16) (ha0 : ∀ k d, a0 (ix2 k d) = a (ix2 k (col 0 d))) (ha1 : ∀ k d, a1 (ix2 k d) = a (ix2 k (col 1 d)))
    (ha2 : ∀ k d, a2 (ix2 k d) = a (ix2 k (col 2 d))) (hb0 : ∀ d, b0 (ix2 0 d) = b (ix2 0 (col 0 d))) (hb1 : ∀ d, b1 (ix2 0 d) = b (ix2 0 (col 1 d)))
    (hb2 : ∀ d, b2 (ix2 0 d) = b (ix2 0 (col 2 d))) (hw0 : ∀ r d, w0 (ix3 0 r d) = w (ix3 0 r d)) (hw1 : ∀ r d, w1 (ix3 0 r d) = w (ix3 1 r d))
    (hw2 : ∀ r d, w2 (ix3 0 r d) = w (ix3 2 r d)) (y : Fin 512) (d : Fin 1024) :
    k0_pay6 (k0_pay2 h) (k0_pay3 h a0 b0 o0 w0) (k0_pay4 h a1 b1) k0_pay5 o1 w1 a2 b2 o2 w2 (ix2 y d) = mergedAt h o0 o1 o2 a b w y d := by
  rw [block_merged]
  simp only [ha0, ha1, ha2, hb0, hb1, hb2, hw0, hw1, hw2]
  rfl

theorem block_out (s x : FVec Ideal S512x1024 .f32) (g : Vec Ideal S1x1x1024 .f32) (w : Vec Ideal S1024x1024 .bf16) (y : Fin 512) (n : Fin 1024) :
    k0_pay9 s x g w (ix3 0 y n) = k0_pay8 s x g w (ix2 y n) := by
  unfold k0_pay9
  generalize k0_pay8 s x g w = v
  pointwise []

/-- A modulated norm of a row of the stream. -/
theorem block_modulated (s x : FVec Ideal S512x1024 .f32) (g : Vec Ideal S1x1x1024 .f32) (w : Vec Ideal S1024x1024 .bf16)
    (gain : Vec Ideal S1x1024 .f32) (sc sh : Vec Ideal S1x1x1024 .f32) (y : Fin 512) (n : Fin 1024) :
    k0_pay1 (k0_pay10 s x g w gain sc sh) (ix3 0 y n)
      = (rmsNorm (fun k => k0_pay8 s x g w (ix2 y k)) (gain (ix2 0 n)) n * (1 + sc (ix3 0 0 n)) + sh (ix3 0 0 n) : EReal) := by
  unfold k0_pay10
  generalize k0_pay8 s x g w = v
  pointwise [k0_pay1, rmsNorm]

end Cert.Kernel3Ideal.Body

end
-- ==== Proof.MergeRef.lean ====
/-
  The merge's reference read at an index: the gated sum of the three branches' projections, the residual stream it is added to,
  and the modulated norm, each as a plain formula over the eleven arguments.
-/
module

public import proofs.«01_k».proof.Proof.Gen.Reference3Ideal.Run
public import proofs.«01_k».proof.Proof.Plain
public import Idealize.ShloMosaic.Lib.Pointwise
public import Idealize.ShloMosaic.Lib.Tactic.CleanTypes

@[expose] public section

set_option maxRecDepth 16384

noncomputable section

namespace Cert.Reference3Ideal.RefValue

open Cert.Reference3Ideal Cert.Reference3Ideal.Gen Cert.Plain Idealize.ShloMosaic Idealize.ShloMosaic.TcCoe Idealize.SL.Sem

/-- The three branches' gates. -/
def gates (h : FVec Ideal S4x8192x1024 .f32) (w : FVec Ideal S1024x3072 .f32) (b : FVec Ideal S3072 .f32) : FVec Ideal S4x8192x3x1024 .f32 :=
  Host.divf (broadcastInDim S4x8192x3x1024 ![] bcast_S_S4x8192x3x1024 (constant S_ .f32 0x3F800000#32))
    (addf (broadcastInDim S4x8192x3x1024 ![] bcast_S_S4x8192x3x1024 (constant S_ .f32 0x3F800000#32))
      (Host.exp (Host.negf (shapeCast S4x8192x3x1024 (addf (Host.dotGeneral dot_S4x8192x1024_S1024x3072_S4x8192x3072_2_0_01_1_n_n none h w)
        (broadcastInDim S4x8192x3072 ![0, 1, 2] bcast_S1x1x3072_S4x8192x3072_0_1_2 (broadcastInDim S1x1x3072 ![2] bcast_S3072_S1x1x3072_2 b)))
        shapeCasts_S4x8192x3072_S4x8192x3x1024))))

/-- The gated sum of the three branches' projections. -/
def merged (g : FVec Ideal S4x8192x3x1024 .f32) (oa ob oc : FVec Ideal S4x8192x384 .f32) (w : FVec Ideal S1024x1024 .f32) :
    FVec Ideal S4x8192x1024 .f32 :=
  addf (addf
    (mulf (shapeCast S4x8192x1024 (extractStridedSlice S4x8192x1x1024 ![0, 0, 0, 0] g slices_S4x8192x3x1024_S4x8192x1x1024_0_0_0_0) shapeCasts_S4x8192x1x1024_S4x8192x1024)
      (Host.dotGeneral dot_S4x8192x384_S384x1024_S4x8192x1024_2_0_01_1_n_n none oa (extractStridedSlice S384x1024 ![0, 0] w slices_S1024x1024_S384x1024_0_0)))
    (mulf (shapeCast S4x8192x1024 (extractStridedSlice S4x8192x1x1024 ![0, 0, 1, 0] g slices_S4x8192x3x1024_S4x8192x1x1024_0_0_1_0) shapeCasts_S4x8192x1x1024_S4x8192x1024)
      (Host.dotGeneral dot_S4x8192x320_S320x1024_S4x8192x1024_2_0_01_1_n_n none
        (extractStridedSlice S4x8192x320 ![0, 0, 0] ob slices_S4x8192x384_S4x8192x320_0_0_0) (extractStridedSlice S320x1024 ![384, 0] w slices_S1024x1024_S320x1024_384_0))))
    (mulf (shapeCast S4x8192x1024 (extractStridedSlice S4x8192x1x1024 ![0, 0, 2, 0] g slices_S4x8192x3x1024_S4x8192x1x1024_0_0_2_0) shapeCasts_S4x8192x1x1024_S4x8192x1024)
      (Host.dotGeneral dot_S4x8192x320_S320x1024_S4x8192x1024_2_0_01_1_n_n none
        (extractStridedSlice S4x8192x320 ![0, 0, 0] oc slices_S4x8192x384_S4x8192x320_0_0_0) (extractStridedSlice S320x1024 ![704, 0] w slices_S1024x1024_S320x1024_704_0)))

/-- The residual stream after the merge's output is added. -/
def stream (x : FVec Ideal S4x8192x1024 .f32) (mod : FVec Ideal S4x6144 .f32) (y : FVec Ideal S4x8192x1024 .f32)
    (w : FVec Ideal S1024x1024 .f32) : FVec Ideal S4x8192x1024 .f32 :=
  addf x (mulf (broadcastInDim S4x8192x1024 ![0, 1, 2] bcast_S4x1x1024_S4x8192x1024_0_1_2
    (extractStridedSlice S4x1x1024 ![0, 0, 2048] (broadcastInDim S4x1x6144 ![0, 2] bcast_S4x6144_S4x1x6144_0_2 mod) slices_S4x1x6144_S4x1x1024_0_0_2048))
    (Host.dotGeneral dot_S4x8192x1024_S1024x1024_S4x8192x1024_2_0_01_1_n_n none y w))

/-- The modulated norm of the stream. -/
def modulated (s : FVec Ideal S4x8192x1024 .f32) (mod : FVec Ideal S4x6144 .f32) (g : FVec Ideal S1024 .f32) : FVec Ideal S4x8192x1024 .bf16 :=
  truncf .bf16 (addf (mulf (mulf (mulf s (broadcastInDim S4x8192x1024 ![0, 1, 2] bcast_S4x8192x1_S4x8192x1024_0_1_2
    (Host.rsqrt (addf (Host.divf (broadcastInDim S4x8192x1 ![0, 1] bcast_S4x8192_S4x8192x1_0_1
        (Host.reduceAdd (mulf s s) (constant S_ .f32 0x00000000#32) reducesTo_S4x8192x1024_S4x8192_d2 h_S_))
        (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S4x1x1024_S4x8192x1024_0_1_2
      (addf (broadcastInDim S4x1x1024 ![] bcast_S_S4x1x1024 (constant S_ .f32 0x3F800000#32))
        (extractStridedSlice S4x1x1024 ![0, 0, 4096] (broadcastInDim S4x1x6144 ![0, 2] bcast_S4x6144_S4x1x6144_0_2 mod) slices_S4x1x6144_S4x1x1024_0_0_4096))))
    (broadcastInDim S4x8192x1024 ![0, 1, 2] bcast_S4x1x1024_S4x8192x1024_0_1_2
      (extractStridedSlice S4x1x1024 ![0, 0, 3072] (broadcastInDim S4x1x6144 ![0, 2] bcast_S4x6144_S4x1x6144_0_2 mod) slices_S4x1x6144_S4x1x1024_0_0_3072))) bitsLt_bf16_f32

theorem gates_apply (h : FVec Ideal S4x8192x1024 .f32) (w : FVec Ideal S1024x3072 .f32) (b : FVec Ideal S3072 .f32)
    (e : Fin 4) (i : Fin 8192) (j : Fin 3) (d : Fin 1024) :
    gates h w b (ix4 e i j d) = sigmoid (∑ k : Fin 1024, h (ix3 e i k) * w (ix2 k (col j d)) + b (ix1 (col j d))) := by
  pointwise [gates, sigmoid, col]

theorem merged_apply (g : FVec Ideal S4x8192x3x1024 .f32) (oa ob oc : FVec Ideal S4x8192x384 .f32) (w : FVec Ideal S1024x1024 .f32)
    (e : Fin 4) (i : Fin 8192) (d : Fin 1024) :
    merged g oa ob oc w (ix3 e i d) = (g (ix4 e i 0 d) * (∑ r : Fin 384, oa (ix3 e i r) * w (ix2 ⟨r, by omega⟩ d))
      + g (ix4 e i 1 d) * (∑ r : Fin 320, ob (ix3 e i ⟨r, by omega⟩) * w (ix2 ⟨384 + r, by omega⟩ d))
      + g (ix4 e i 2 d) * (∑ r : Fin 320, oc (ix3 e i ⟨r, by omega⟩) * w (ix2 ⟨704 + r, by omega⟩ d)) : EReal) := by
  pointwise [merged]

theorem stream_apply (x : FVec Ideal S4x8192x1024 .f32) (mod : FVec Ideal S4x6144 .f32) (y : FVec Ideal S4x8192x1024 .f32)
    (w : FVec Ideal S1024x1024 .f32) (e : Fin 4) (i : Fin 8192) (n : Fin 1024) :
    stream x mod y w (ix3 e i n) = x (ix3 e i n) + mod (ix2 e ⟨2048 + n, by omega⟩) * ∑ d : Fin 1024, y (ix3 e i d) * w (ix2 d n) := by
  pointwise [stream]

theorem modulated_apply (s : FVec Ideal S4x8192x1024 .f32) (mod : FVec Ideal S4x6144 .f32) (g : FVec Ideal S1024 .f32)
    (e : Fin 4) (i : Fin 8192) (n : Fin 1024) :
    modulated s mod g (ix3 e i n) = (rmsNorm (fun k => s (ix3 e i k)) (g (ix1 n)) n * (1 + mod (ix2 e ⟨4096 + n, by omega⟩))
      + mod (ix2 e ⟨3072 + n, by omega⟩) : EReal) := by
  pointwise [modulated, rmsNorm]

/-- The stream as a function of the device's memory. -/
def result (m : (ℓ : Loc nD τ sig) → Buf (Elt Ideal) ℓ) (c : Dev nD) : FVec Ideal S4x8192x1024 .f32 :=
  stream (m ((c.tc : Thread nD τ).loc main_arg0)) (m ((c.tc : Thread nD τ).loc main_arg9))
    (merged (gates (m ((c.tc : Thread nD τ).loc main_arg1)) (m ((c.tc : Thread nD τ).loc main_arg5)) (m ((c.tc : Thread nD τ).loc main_arg6)))
      (m ((c.tc : Thread nD τ).loc main_arg2)) (m ((c.tc : Thread nD τ).loc main_arg3)) (m ((c.tc : Thread nD τ).loc main_arg4))
      (m ((c.tc : Thread nD τ).loc main_arg7))) (m ((c.tc : Thread nD τ).loc main_arg8))

theorem modulated_eq (m : (ℓ : Loc nD τ sig) → Buf (Elt Ideal) ℓ) (c : Dev nD) :
    Value.res_out1 m c = modulated (result m c) (m ((c.tc : Thread nD τ).loc main_arg9)) (m ((c.tc : Thread nD τ).loc main_arg10)) := by
  unfold Value.res_out1 Value.res_main_v60 modulated result stream merged gates
  rfl

/-- The reference ends with the stream and its modulated norm, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = result m c
      ∧ r.2.mem ((c.tc : Thread nD τ).loc main_v60)
        = modulated (result m c) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (by unfold result stream merged gates; rfl),
    (h c).2.1.trans (modulated_eq m c), (h c).2.2⟩) (Value.run (F := Ideal) m ρ)

end Cert.Reference3Ideal.RefValue

end
-- ==== Proof.MergeValue.lean ====
/-
  The merge kernel's two result arrays hold the reference's results: what its fifteen windows hold at a grid point, and the
  blocks that the body leaves.
-/
module

public import proofs.«01_k».proof.Proof.MergeBody
public import proofs.«01_k».proof.Proof.MergeRef
public import Idealize.ShloMosaic.Lib.Pipeline.ValueKit
public import Idealize.ShloMosaic.Lib.StableHlo.RunRead

@[expose] public section

set_option maxRecDepth 16384

noncomputable section

namespace Cert.Kernel3Ideal.Result

open Cert.Kernel3Ideal Cert.Kernel3Ideal.Gen Cert.Kernel3Ideal.Body Cert.Reference3Ideal.RefValue Cert.Plain
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-! ## The arguments -/

abbrev X : FVec Ideal S4x8192x1024 .f32 := m (c.tc.loc main_arg0)
abbrev H : FVec Ideal S4x8192x1024 .f32 := m (c.tc.loc main_arg1)
abbrev OA : FVec Ideal S4x8192x384 .f32 := m (c.tc.loc main_arg2)
abbrev OB : FVec Ideal S4x8192x384 .f32 := m (c.tc.loc main_arg3)
abbrev OC : FVec Ideal S4x8192x384 .f32 := m (c.tc.loc main_arg4)
abbrev WGate : FVec Ideal S1024x3072 .f32 := m (c.tc.loc main_arg5)
abbrev BGate : FVec Ideal S3072 .f32 := m (c.tc.loc main_arg6)
abbrev WBranch : FVec Ideal S1024x1024 .f32 := m (c.tc.loc main_arg7)
abbrev WOut : FVec Ideal S1024x1024 .f32 := m (c.tc.loc main_arg8)
abbrev Mod : FVec Ideal S4x6144 .f32 := m (c.tc.loc main_arg9)
abbrev Gain : FVec Ideal S1024 .f32 := m (c.tc.loc main_arg10)

/-! ## The arrays the host passes -/

/-- The gates' biases as one row. -/
def biasArray (a : FVec Ideal S3072 .f32) : FVec Ideal S1x3072 .f32 := shapeCast S1x3072 a shapeCasts_S3072_S1x3072

/-- The modulation with an axis of one row. -/
def modArray (a : FVec Ideal S4x6144 .f32) : FVec Ideal S4x1x6144 .f32 := shapeCast S4x1x6144 a shapeCasts_S4x6144_S4x1x6144

/-- The gain as one row. -/
def gainArray (a : FVec Ideal S1024 .f32) : FVec Ideal S1x1024 .f32 := shapeCast S1x1024 a shapeCasts_S1024_S1x1024

/-- The three branches' projections, those of 320 rows filled up with zeros. -/
def branchArray (w : FVec Ideal S1024x1024 .f32) : FVec Ideal S3x384x1024 .bf16 :=
  truncf .bf16 (concatenate S3x384x1024 0
    [⟨S1x384x1024, broadcastInDim S1x384x1024 ![1, 2] bcast_S384x1024_S1x384x1024_1_2
      (pad S384x1024 ![0, 0] ![0, 0] ![0, 0] (extractStridedSlice S384x1024 ![0, 0] w slices_S1024x1024_S384x1024_0_0)
        (sitofp (F := Ideal) .f32 (constantI S_ 32 0#32)) pads_S384x1024_S384x1024_000_000 h_S_)⟩,
     ⟨S1x384x1024, broadcastInDim S1x384x1024 ![1, 2] bcast_S384x1024_S1x384x1024_1_2
      (pad S384x1024 ![0, 0] ![64, 0] ![0, 0] (extractStridedSlice S320x1024 ![384, 0] w slices_S1024x1024_S320x1024_384_0)
        (sitofp (F := Ideal) .f32 (constantI S_ 32 0#32)) pads_S320x1024_S384x1024_0640_000 h_S_)⟩,
     ⟨S1x384x1024, broadcastInDim S1x384x1024 ![1, 2] bcast_S384x1024_S1x384x1024_1_2
      (pad S384x1024 ![0, 0] ![64, 0] ![0, 0] (extractStridedSlice S320x1024 ![704, 0] w slices_S1024x1024_S320x1024_704_0)
        (sitofp (F := Ideal) .f32 (constantI S_ 32 0#32)) pads_S320x1024_S384x1024_0640_000 h_S_)⟩]
    concatenates_S1x384x1024_S1x384x1024_S1x384x1024_S3x384x1024_d0) bitsLt_bf16_f32

/-- What the arrays that the host passes hold. -/
structure HostArrays : Prop where
  hidden : V m c main_v0 = (H m c : FVec Ideal S4x8192x1024 .bf16)
  branchA : V m c main_v1 = (OA m c : FVec Ideal S4x8192x384 .bf16)
  branchB : V m c main_v2 = (OB m c : FVec Ideal S4x8192x384 .bf16)
  branchC : V m c main_v3 = (OC m c : FVec Ideal S4x8192x384 .bf16)
  gates : V m c main_v4 = (WGate m c : FVec Ideal S1024x3072 .bf16)
  bias : V m c main_v5 = biasArray (BGate m c)
  branches : V m c main_v16 = branchArray (WBranch m c)
  out : V m c main_v17 = (WOut m c : FVec Ideal S1024x1024 .bf16)
  mod : V m c main_v18 = modArray (Mod m c)
  gain : V m c main_v19 = gainArray (Gain m c)

theorem host : HostArrays m c := by
  constructor <;>
  · unfold V
    simp only [hostOps0, hostOps0_1, hostOps0_2, hostOps0_3, hostOps0_4, hostOps0_5, hostOps0_6, List.flatten_cons, List.flatten_nil, List.append_nil, List.cons_append,
      List.nil_append]
    after_reads_simp
    rfl

theorem biasArray_apply (a : FVec Ideal S3072 .f32) (n : Fin 3072) : biasArray a (ix2 0 n) = a (ix1 n) := by
  pointwise [biasArray]

theorem modArray_apply (a : FVec Ideal S4x6144 .f32) (b : Fin 4) (n : Fin 6144) : modArray a (ix3 b 0 n) = a (ix2 b n) := by
  pointwise [modArray]

theorem gainArray_apply (a : FVec Ideal S1024 .f32) (n : Fin 1024) : gainArray a (ix2 0 n) = a (ix1 n) := by
  pointwise [gainArray]

theorem branchArray0_apply (w : FVec Ideal S1024x1024 .f32) (r : Fin 384) (d : Fin 1024) :
    branchArray w (ix3 0 r d) = w (ix2 ⟨r, by omega⟩ d) := by
  pointwise [branchArray]

theorem zero_eq : FloatOps.sitofp (F := Ideal) .f32 0#32 = (0 : EReal) := by
  show (((0#32 : BitVec 32).toInt : ℝ) : EReal) = 0
  simp

theorem branchArray1_apply (w : FVec Ideal S1024x1024 .f32) (r : Fin 384) (d : Fin 1024) :
    branchArray w (ix3 1 r d) = if h : r.val < 320 then w (ix2 ⟨384 + r, by omega⟩ d) else (0 : EReal) := by
  pointwise [branchArray]
  rw [zero_eq]

theorem branchArray2_apply (w : FVec Ideal S1024x1024 .f32) (r : Fin 384) (d : Fin 1024) :
    branchArray w (ix3 2 r d) = if h : r.val < 320 then w (ix2 ⟨704 + r, by omega⟩ d) else (0 : EReal) := by
  pointwise [branchArray]
  rw [zero_eq]

/-! ## The windows' blocks at a grid point -/

/-- The batch element of a grid point. -/
def bat (t : Fin cfg0.N) : Fin 4 := grid0.coords t 0

/-- The block of rows of a grid point. -/
def blk (t : Fin cfg0.N) : Fin 16 := grid0.coords t 1

/-- The position of a row in its sequence. -/
def row (t : Fin cfg0.N) (y : Fin 512) : Fin 8192 := ⟨blk t * 512 + y, by omega⟩

theorem index0 : ∀ t : Fin cfg0.N, win0_0.index t = ![(bat t).val, (blk t).val, 0] := by decide +kernel
theorem index1 : ∀ t : Fin cfg0.N, win0_1.index t = ![(bat t).val, (blk t).val, 0] := by decide +kernel
theorem index2 : ∀ t : Fin cfg0.N, win0_2.index t = ![(bat t).val, (blk t).val, 0] := by decide +kernel
theorem index3 : ∀ t : Fin cfg0.N, win0_3.index t = ![(bat t).val, (blk t).val, 0] := by decide +kernel
theorem index4 : ∀ t : Fin cfg0.N, win0_4.index t = ![(bat t).val, (blk t).val, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0, 0] := by decide +kernel
theorem index8 : ∀ t : Fin cfg0.N, win0_8.index t = ![0, 0] := by decide +kernel
theorem index9 : ∀ t : Fin cfg0.N, win0_9.index t = ![(bat t).val, 0, 2] := by decide +kernel
theorem index10 : ∀ t : Fin cfg0.N, win0_10.index t = ![0, 0] := by decide +kernel
theorem index11 : ∀ t : Fin cfg0.N, win0_11.index t = ![(bat t).val, 0, 4] := by decide +kernel
theorem index12 : ∀ t : Fin cfg0.N, win0_12.index t = ![(bat t).val, 0, 3] := by decide +kernel
theorem index13 : ∀ t : Fin cfg0.N, win0_13.index t = ![(bat t).val, (blk t).val, 0] := by decide +kernel
theorem index14 : ∀ t : Fin cfg0.N, win0_14.index t = ![(bat t).val, (blk t).val, 0] := by decide +kernel

theorem read0 (A : FVec Ideal S4x8192x1024 .f32) (y : Fin 512) (n : Fin 1024) :
    ((cfg0.win 0).blk t).view.read (Elt Ideal) A (ix3 0 y n) = A (ix3 (bat t) (row t y) n) := by
  blk_ext [index0]
  rfl

theorem read1 (A : FVec Ideal S4x8192x1024 .bf16) (y : Fin 512) (n : Fin 1024) :
    ((cfg0.win 1).blk t).view.read (Elt Ideal) A (ix3 0 y n) = A (ix3 (bat t) (row t y) n) := by
  blk_ext [index1]
  rfl

theorem read2 (A : FVec Ideal S4x8192x384 .bf16) (y : Fin 512) (n : Fin 384) :
    ((cfg0.win 2).blk t).view.read (Elt Ideal) A (ix3 0 y n) = A (ix3 (bat t) (row t y) n) := by
  blk_ext [index2]
  rfl

theorem read3 (A : FVec Ideal S4x8192x384 .bf16) (y : Fin 512) (n : Fin 384) :
    ((cfg0.win 3).blk t).view.read (Elt Ideal) A (ix3 0 y n) = A (ix3 (bat t) (row t y) n) := by
  blk_ext [index3]
  rfl

theorem read4 (A : FVec Ideal S4x8192x384 .bf16) (y : Fin 512) (n : Fin 384) :
    ((cfg0.win 4).blk t).view.read (Elt Ideal) A (ix3 0 y n) = A (ix3 (bat t) (row t y) n) := by
  blk_ext [index4]
  rfl

theorem read5 (A : FVec Ideal S1024x3072 .bf16) (k : Fin 1024) (n : Fin 3072) :
    ((cfg0.win 5).blk t).view.read (Elt Ideal) A (ix2 k n) = A (ix2 k n) := by
  blk_ext [index5]

theorem read6 (A : FVec Ideal S1x3072 .f32) (n : Fin 3072) :
    ((cfg0.win 6).blk t).view.read (Elt Ideal) A (ix2 0 n) = A (ix2 0 n) := by
  blk_ext [index6]

theorem read7 (A : FVec Ideal S3x384x1024 .bf16) (j : Fin 3) (r : Fin 384) (n : Fin 1024) :
    ((cfg0.win 7).blk t).view.read (Elt Ideal) A (ix3 j r n) = A (ix3 j r n) := by
  blk_ext [index7]

theorem read8 (A : FVec Ideal S1024x1024 .bf16) (k n : Fin 1024) :
    ((cfg0.win 8).blk t).view.read (Elt Ideal) A (ix2 k n) = A (ix2 k n) := by
  blk_ext [index8]

theorem read9 (A : FVec Ideal S4x1x6144 .f32) (n : Fin 1024) :
    ((cfg0.win 9).blk t).view.read (Elt Ideal) A (ix3 0 0 n) = A (ix3 (bat t) 0 ⟨2048 + n, by omega⟩) := by
  blk_ext [index9]

theorem read10 (A : FVec Ideal S1x1024 .f32) (n : Fin 1024) :
    ((cfg0.win 10).blk t).view.read (Elt Ideal) A (ix2 0 n) = A (ix2 0 n) := by
  blk_ext [index10]

theorem read11 (A : FVec Ideal S4x1x6144 .f32) (n : Fin 1024) :
    ((cfg0.win 11).blk t).view.read (Elt Ideal) A (ix3 0 0 n) = A (ix3 (bat t) 0 ⟨4096 + n, by omega⟩) := by
  blk_ext [index11]

theorem read12 (A : FVec Ideal S4x1x6144 .f32) (n : Fin 1024) :
    ((cfg0.win 12).blk t).view.read (Elt Ideal) A (ix3 0 0 n) = A (ix3 (bat t) 0 ⟨3072 + n, by omega⟩) := by
  blk_ext [index12]

theorem read13 (A : FVec Ideal S4x8192x1024 .f32) (y : Fin 512) (n : Fin 1024) :
    ((cfg0.win 13).blk t).view.read (Elt Ideal) A (ix3 0 y n) = A (ix3 (bat t) (row t y) n) := by
  blk_ext [index13]
  rfl

theorem read14 (A : FVec Ideal S4x8192x1024 .bf16) (y : Fin 512) (n : Fin 1024) :
    ((cfg0.win 14).blk t).view.read (Elt Ideal) A (ix3 0 y n) = A (ix3 (bat t) (row t y) n) := by
  blk_ext [index14]
  rfl

theorem iblk0 (y : Fin 512) (n : Fin 1024) : (iblk m c 0 t : FVec Ideal S1x512x1024 .f32) (ix3 0 y n) = X m c (ix3 (bat t) (row t y) n) :=
  (congrFun (congrArg (((cfg0.win 0).blk t).view.read (Elt Ideal)) (V_main_arg0 m c)) _).trans (read0 t _ _ _)

theorem iblk1 (y : Fin 512) (n : Fin 1024) : (iblk m c 1 t : FVec Ideal S1x512x1024 .bf16) (ix3 0 y n) = H m c (ix3 (bat t) (row t y) n) :=
  (congrFun (congrArg (((cfg0.win 1).blk t).view.read (Elt Ideal)) ((host m c).hidden)) _).trans (read1 t _ _ _)

theorem iblk2 (y : Fin 512) (n : Fin 384) : (iblk m c 2 t : FVec Ideal S1x512x384 .bf16) (ix3 0 y n) = OA m c (ix3 (bat t) (row t y) n) :=
  (congrFun (congrArg (((cfg0.win 2).blk t).view.read (Elt Ideal)) ((host m c).branchA)) _).trans (read2 t _ _ _)

theorem iblk3 (y : Fin 512) (n : Fin 384) : (iblk m c 3 t : FVec Ideal S1x512x384 .bf16) (ix3 0 y n) = OB m c (ix3 (bat t) (row t y) n) :=
  (congrFun (congrArg (((cfg0.win 3).blk t).view.read (Elt Ideal)) ((host m c).branchB)) _).trans (read3 t _ _ _)

theorem iblk4 (y : Fin 512) (n : Fin 384) : (iblk m c 4 t : FVec Ideal S1x512x384 .bf16) (ix3 0 y n) = OC m c (ix3 (bat t) (row t y) n) :=
  (congrFun (congrArg (((cfg0.win 4).blk t).view.read (Elt Ideal)) ((host m c).branchC)) _).trans (read4 t _ _ _)

theorem iblk5 (k : Fin 1024) (n : Fin 3072) : (iblk m c 5 t : FVec Ideal S1024x3072 .bf16) (ix2 k n) = WGate m c (ix2 k n) :=
  (congrFun (congrArg (((cfg0.win 5).blk t).view.read (Elt Ideal)) ((host m c).gates)) _).trans (read5 t _ _ _)

theorem iblk6 (n : Fin 3072) : (iblk m c 6 t : FVec Ideal S1x3072 .f32) (ix2 0 n) = BGate m c (ix1 n) :=
  (congrFun (congrArg (((cfg0.win 6).blk t).view.read (Elt Ideal)) ((host m c).bias)) _).trans ((read6 t _ _).trans (biasArray_apply _ _))

theorem iblk7 (j : Fin 3) (r : Fin 384) (n : Fin 1024) : (iblk m c 7 t : FVec Ideal S3x384x1024 .bf16) (ix3 j r n) = branchArray (WBranch m c) (ix3 j r n) :=
  (congrFun (congrArg (((cfg0.win 7).blk t).view.read (Elt Ideal)) ((host m c).branches)) _).trans (read7 t _ _ _ _)

theorem iblk8 (k n : Fin 1024) : (iblk m c 8 t : FVec Ideal S1024x1024 .bf16) (ix2 k n) = WOut m c (ix2 k n) :=
  (congrFun (congrArg (((cfg0.win 8).blk t).view.read (Elt Ideal)) ((host m c).out)) _).trans (read8 t _ _ _)

theorem iblk9 (n : Fin 1024) : (iblk m c 9 t : FVec Ideal S1x1x1024 .f32) (ix3 0 0 n) = Mod m c (ix2 (bat t) ⟨2048 + n, by omega⟩) :=
  (congrFun (congrArg (((cfg0.win 9).blk t).view.read (Elt Ideal)) ((host m c).mod)) _).trans ((read9 t _ _).trans (modArray_apply _ _ _))

theorem iblk10 (n : Fin 1024) : (iblk m c 10 t : FVec Ideal S1x1024 .f32) (ix2 0 n) = Gain m c (ix1 n) :=
  (congrFun (congrArg (((cfg0.win 10).blk t).view.read (Elt Ideal)) ((host m c).gain)) _).trans ((read10 t _ _).trans (gainArray_apply _ _))

theorem iblk11 (n : Fin 1024) : (iblk m c 11 t : FVec Ideal S1x1x1024 .f32) (ix3 0 0 n) = Mod m c (ix2 (bat t) ⟨4096 + n, by omega⟩) :=
  (congrFun (congrArg (((cfg0.win 11).blk t).view.read (Elt Ideal)) ((host m c).mod)) _).trans ((read11 t _ _).trans (modArray_apply _ _ _))

theorem iblk12 (n : Fin 1024) : (iblk m c 12 t : FVec Ideal S1x1x1024 .f32) (ix3 0 0 n) = Mod m c (ix2 (bat t) ⟨3072 + n, by omega⟩) :=
  (congrFun (congrArg (((cfg0.win 12).blk t).view.read (Elt Ideal)) ((host m c).mod)) _).trans ((read12 t _ _).trans (modArray_apply _ _ _))

/-! ## The body's blocks -/

theorem gates_ld (x5 : Vec Ideal S1024x3072 .bf16) (j : Fin 3) (g : ℕ) (e : g = j * 1024) (inb : ∀ a, ![0, g] a + S1024x1024.size a ≤ S1024x3072.size a)
    (k d : Fin 1024) : View.ld x5 (Rect.unit (s := S1024x3072) ![0, g] S1024x1024.size inb) (ix2 k d) = x5 (ix2 k (col j d)) := by
  subst e
  refine congrArg x5 (funext fun a => Fin.ext ?_)
  match a with
  | 0 => show 0 + 1 * k.val = k.val; omega
  | 1 => show j.val * 1024 + 1 * d.val = j.val * 1024 + d.val; omega

theorem bias_ld (x6 : Vec Ideal S1x3072 .f32) (j : Fin 3) (g : ℕ) (e : g = j * 1024) (inb : ∀ a, ![0, g] a + S1x1024.size a ≤ S1x3072.size a)
    (d : Fin 1024) : View.ld x6 (Rect.unit (s := S1x3072) ![0, g] S1x1024.size inb) (ix2 0 d) = x6 (ix2 0 (col j d)) := by
  subst e
  refine congrArg x6 (funext fun a => Fin.ext ?_)
  match a with
  | 0 => rfl
  | 1 => show j.val * 1024 + 1 * d.val = j.val * 1024 + d.val; omega

theorem branch_ld (x7 : Vec Ideal S3x384x1024 .bf16) (j : Fin 3) (g : ℕ) (e : g = j) (inb : ∀ a, ![g, 0, 0] a + S1x384x1024.size a ≤ S3x384x1024.size a)
    (r : Fin 384) (d : Fin 1024) : View.ld x7 (Rect.unit (s := S3x384x1024) ![g, 0, 0] S1x384x1024.size inb) (ix3 0 r d) = x7 (ix3 j r d) := by
  subst e
  refine congrArg x7 (funext fun a => Fin.ext ?_)
  match a with
  | 0 => show j.val + 1 * 0 = j.val; omega
  | 1 => show 0 + 1 * r.val = r.val; omega
  | 2 => show 0 + 1 * d.val = d.val; omega

section Blocks

variable (x0 : Vec Ideal S1x512x1024 .f32) (x1 : Vec Ideal S1x512x1024 .bf16) (x2 x3 x4 : Vec Ideal S1x512x384 .bf16) (x5 : Vec Ideal S1024x3072 .bf16)
  (x6 : Vec Ideal S1x3072 .f32) (x7 : Vec Ideal S3x384x1024 .bf16) (x8 : Vec Ideal S1024x1024 .bf16) (x9 : Vec Ideal S1x1x1024 .f32)
  (x10 : Vec Ideal S1x1024 .f32) (x11 x12 : Vec Ideal S1x1x1024 .f32) (y : Fin 512) (n : Fin 1024)

theorem merged_ld (d : Fin 1024) : k0_pay6 (k0_pay2 x1) (k0_pay3 x1 (View.ld x5 r0_1) (View.ld x6 r0_2) x2 (View.ld x7 r0_4)) (k0_pay4 x1 (View.ld x5 r0_5) (View.ld x6 r0_6))
    k0_pay5 x3 (View.ld x7 r0_7) (View.ld x5 r0_8) (View.ld x6 r0_9) x4 (View.ld x7 r0_10) (ix2 y d) = mergedAt x1 x2 x3 x4 x5 x6 x7 y d :=
  merged_cut x1 _ _ _ _ _ _ x2 x3 x4 _ _ _ x5 x6 x7 (gates_ld x5 0 _ rfl _) (gates_ld x5 1 _ rfl _) (gates_ld x5 2 _ rfl _)
    (bias_ld x6 0 _ rfl _) (bias_ld x6 1 _ rfl _) (bias_ld x6 2 _ rfl _) (branch_ld x7 0 _ rfl _) (branch_ld x7 1 _ rfl _) (branch_ld x7 2 _ rfl _) y d

/-- A row of the stream, from the blocks that the body reads. -/
def streamAt : EReal := x0 (ix3 0 y n) + x9 (ix3 0 0 n) * ∑ d : Fin 1024, mergedAt x1 x2 x3 x4 x5 x6 x7 y d * x8 (ix2 d n)

theorem stream_ld : k0_pay8 (k0_pay6 (k0_pay2 x1) (k0_pay3 x1 (View.ld x5 r0_1) (View.ld x6 r0_2) x2 (View.ld x7 r0_4)) (k0_pay4 x1 (View.ld x5 r0_5) (View.ld x6 r0_6))
    k0_pay5 x3 (View.ld x7 r0_7) (View.ld x5 r0_8) (View.ld x6 r0_9) x4 (View.ld x7 r0_10)) (k0_pay7 x0) x9 x8 (ix2 y n)
      = streamAt x0 x1 x2 x3 x4 x5 x6 x7 x8 x9 y n := by
  refine (block_stream _ _ _ _ y n).trans ?_
  simp only [merged_ld]
  rfl

theorem out13_apply : out0_13 x0 x1 x2 x3 x4 x5 x6 x7 x8 x9 x10 x11 x12 (ix3 0 y n) = streamAt x0 x1 x2 x3 x4 x5 x6 x7 x8 x9 y n := by
  unfold_out out0_13
  frame_out
  exact (block_out _ _ _ _ y n).trans (stream_ld ..)

theorem out14_apply : out0_14 x0 x1 x2 x3 x4 x5 x6 x7 x8 x9 x10 x11 x12 (ix3 0 y n)
    = rmsNorm (fun k => streamAt x0 x1 x2 x3 x4 x5 x6 x7 x8 x9 y k) (x10 (ix2 0 n)) n * (1 + x11 (ix3 0 0 n)) + x12 (ix3 0 0 n) := by
  unfold_out out0_14
  frame_out
  refine (block_modulated _ _ _ _ _ _ _ y n).trans ?_
  simp only [stream_ld]

end Blocks

/-! ## The reference's results -/

/-- The reference's stream, as a function of the kernel's arguments. -/
def expected : FVec Ideal S4x8192x1024 .f32 :=
  stream (X m c) (Mod m c) (merged (gates (H m c) (WGate m c) (BGate m c)) (OA m c) (OB m c) (OC m c) (WBranch m c)) (WOut m c)

/-- The reference's modulated norm. -/
def expectedNorm : FVec Ideal S4x8192x1024 .bf16 := modulated (expected m c) (Mod m c) (Gain m c)

/-- The gated sum of the branches at a row of a block. -/
theorem merged_eq (y : Fin 512) (d : Fin 1024) :
    mergedAt (iblk m c 1 t) (iblk m c 2 t) (iblk m c 3 t) (iblk m c 4 t) (iblk m c 5 t) (iblk m c 6 t) (iblk m c 7 t) y d
      = merged (gates (H m c) (WGate m c) (BGate m c)) (OA m c) (OB m c) (OC m c) (WBranch m c) (ix3 (bat t) (row t y) d) := by
  unfold mergedAt gated
  simp only [merged_apply, gates_apply, iblk1, iblk2, iblk3, iblk4, iblk5, iblk6, iblk7, branchArray0_apply, branchArray1_apply, branchArray2_apply]
  refine congrArg₂ (· + ·) (congrArg₂ (· + ·) rfl (congrArg _ ((sum_head _ fun r hr => ?_).trans ?_))) (congrArg _ ((sum_head _ fun r hr => ?_).trans ?_))
  · rw [dif_neg hr, mul_zero]
  · simp only [Fin.is_lt, dite_true]
  · rw [dif_neg hr, mul_zero]
  · simp only [Fin.is_lt, dite_true]

theorem stream_eq (y : Fin 512) (n : Fin 1024) :
    streamAt (iblk m c 0 t) (iblk m c 1 t) (iblk m c 2 t) (iblk m c 3 t) (iblk m c 4 t) (iblk m c 5 t) (iblk m c 6 t) (iblk m c 7 t) (iblk m c 8 t) (iblk m c 9 t) y n
      = expected m c (ix3 (bat t) (row t y) n) := by
  unfold streamAt expected
  simp only [stream_apply, merged_eq, iblk0, iblk8, iblk9]

/-- What the body leaves in the stream's block at a grid point. -/
def blockAt : FVec Ideal S1x512x1024 .f32 :=
  out0_13 (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t)

/-- What the body leaves in the norm's block at a grid point. -/
def normBlockAt : FVec Ideal S1x512x1024 .bf16 :=
  out0_14 (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t)

theorem after_13 : (dats m 0 c).after 13 t = blockAt m c t := after0_13 m c t

theorem after_14 : (dats m 0 c).after 14 t = normBlockAt m c t := after0_14 m c t

theorem block_eq (z : S1x512x1024.Idx) : blockAt m c t z = ((cfg0.win 13).blk t).view.read (Elt Ideal) (expected m c) z := by
  obtain ⟨x, y, n, rfl⟩ : ∃ (x : Fin 1) (y : Fin 512) (n : Fin 1024), z = ix3 x y n := ⟨z 0, z 1, z 2, eq_ix3 z⟩
  obtain rfl : x = 0 := Subsingleton.elim _ _
  rw [read13]
  exact (out13_apply ..).trans (stream_eq ..)

theorem normBlock_eq (z : S1x512x1024.Idx) : normBlockAt m c t z = ((cfg0.win 14).blk t).view.read (Elt Ideal) (expectedNorm m c) z := by
  obtain ⟨x, y, n, rfl⟩ : ∃ (x : Fin 1) (y : Fin 512) (n : Fin 1024), z = ix3 x y n := ⟨z 0, z 1, z 2, eq_ix3 z⟩
  obtain rfl : x = 0 := Subsingleton.elim _ _
  rw [read14, expectedNorm, modulated_apply]
  refine (out14_apply ..).trans ?_
  simp only [stream_eq, iblk10, iblk11, iblk12]

theorem covers13 : (cfg0.win 13).Covers := by decide +kernel

theorem covers14 : (cfg0.win 14).Covers := by decide +kernel

theorem array_eq : (dats m 0 c).arrAt 13 cfg0.N = expected m c := by
  refine (dats m 0 c).arrAt_eq_of_covers 13 _ covers13 fun t hf z => ?_
  rw [after_13]
  have key := block_eq m c t
  generalize blockAt m c t = B at key ⊢
  generalize expected m c = A at key ⊢
  exact key z

theorem normArray_eq : (dats m 0 c).arrAt 14 cfg0.N = expectedNorm m c := by
  refine (dats m 0 c).arrAt_eq_of_covers 14 _ covers14 fun t hf z => ?_
  rw [after_14]
  have key := normBlock_eq m c t
  generalize normBlockAt m c t = B at key ⊢
  generalize expectedNorm m c = A at key ⊢
  exact key z

/-- The kernel ends with the reference's results and its arguments unchanged. -/
theorem run :
    θ_run defs (onTc (τ := τ) (main (F := Ideal))) ⟨m, fun _ => 0, ρ⟩ (fun r => ∀ c : Dev nD,
      r.2.mem ((c.tc : Thread nD τ).loc main_v20_0) = expected m c
      ∧ r.2.mem ((c.tc : Thread nD τ).loc main_v20_1) = expectedNorm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ p c => ⟨(p c).1.trans (array_eq m c), (p c).2.1.trans (normArray_eq m c), (p c).2.2⟩) (Value.run_blocks m ρ)

end Cert.Kernel3Ideal.Result

end
-- ==== Proof.ProjLaunch.lean ====
/-
  The launch of the input projection: the arrays at the region's entry, what the body leaves in each window, the pipeline's proof data, and the
  frame. It follows the generated set-up of a kernel of this class, with more room for the body's obligation, which is long
  for twenty windows.
-/
module

public import proofs.«01_k».proof.Proof.Gen.Kernel4.Launch
public import proofs.«01_k».proof.Proof.Gen.Kernel4.Skeleton
public import proofs.«01_k».proof.Proof.Gen.Kernel4.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

abbrev r0_0 : Rect S512x1024 := Rect.unit (s := S512x1024) ![0, 0] S512x1024.size inb_S512x1024_S512x1024_0_0
abbrev r0_1 : Rect S1024x4224 := Rect.unit (s := S1024x4224) ![0, 0] S1024x384.size inb_S1024x4224_S1024x384_0_0
abbrev r0_2 : Rect S1x4224 := Rect.unit (s := S1x4224) ![0, 0] S1x384.size inb_S1x4224_S1x384_0_0
abbrev r0_3 : Rect S512x128 := Rect.unit (s := S512x128) ![0, 0] S512x128.size inb_S512x128_S512x128_0_0
abbrev r0_4 : Rect S384x512 := Rect.unit (s := S384x512) ![0, 0] S384x512.size inb_S384x512_S384x512_0_0
abbrev r0_5 : Rect S1024x4224 := Rect.unit (s := S1024x4224) ![0, 384] S1024x384.size inb_S1024x4224_S1024x384_0_384
abbrev r0_6 : Rect S1x4224 := Rect.unit (s := S1x4224) ![0, 384] S1x384.size inb_S1x4224_S1x384_0_384
abbrev r0_7 : Rect S512x384 := Rect.unit (s := S512x384) ![0, 0] S512x384.size inb_S512x384_S512x384_0_0
abbrev r0_8 : Rect S1024x4224 := Rect.unit (s := S1024x4224) ![0, 768] S1024x512.size inb_S1024x4224_S1024x512_0_768
abbrev r0_9 : Rect S1x4224 := Rect.unit (s := S1x4224) ![0, 768] S1x512.size inb_S1x4224_S1x512_0_768
abbrev r0_10 : Rect S512x512 := Rect.unit (s := S512x512) ![0, 0] S512x512.size inb_S512x512_S512x512_0_0
abbrev r0_11 : Rect S1024x4224 := Rect.unit (s := S1024x4224) ![0, 1280] S1024x128.size inb_S1024x4224_S1024x128_0_1280
abbrev r0_12 : Rect S1x4224 := Rect.unit (s := S1x4224) ![0, 1280] S1x128.size inb_S1x4224_S1x128_0_1280
abbrev r0_13 : Rect S512x64 := Rect.unit (s := S512x64) ![0, 0] S512x64.size inb_S512x64_S512x64_0_0
abbrev r0_14 : Rect S1024x4224 := Rect.unit (s := S1024x4224) ![0, 1408] S1024x128.size inb_S1024x4224_S1024x128_0_1408
abbrev r0_15 : Rect S1x4224 := Rect.unit (s := S1x4224) ![0, 1408] S1x128.size inb_S1x4224_S1x128_0_1408
abbrev r0_16 : Rect S8x512 := Rect.unit (s := S8x512) ![0, 0] S8x512.size inb_S8x512_S8x512_0_0
abbrev r0_17 : Rect S1024x4224 := Rect.unit (s := S1024x4224) ![0, 1536] S1024x384.size inb_S1024x4224_S1024x384_0_1536
abbrev r0_18 : Rect S1x4224 := Rect.unit (s := S1x4224) ![0, 1536] S1x384.size inb_S1x4224_S1x384_0_1536
abbrev r0_19 : Rect S1x480x512 := Rect.unit (s := S1x480x512) ![0, 0, 0] S1x480x512.size inb_S1x480x512_S1x480x512_0_0_0
abbrev r0_20 : Rect S1024x4224 := Rect.unit (s := S1024x4224) ![0, 1920] S1024x384.size inb_S1024x4224_S1024x384_0_1920
abbrev r0_21 : Rect S1x4224 := Rect.unit (s := S1x4224) ![0, 1920] S1x384.size inb_S1x4224_S1x384_0_1920
abbrev r0_22 : Rect S1024x4224 := Rect.unit (s := S1024x4224) ![0, 2304] S1024x384.size inb_S1024x4224_S1024x384_0_2304
abbrev r0_23 : Rect S1x4224 := Rect.unit (s := S1x4224) ![0, 2304] S1x384.size inb_S1x4224_S1x384_0_2304
abbrev r0_24 : Rect S1024x4224 := Rect.unit (s := S1024x4224) ![0, 2688] S1024x384.size inb_S1024x4224_S1024x384_0_2688
abbrev r0_25 : Rect S1x4224 := Rect.unit (s := S1x4224) ![0, 2688] S1x384.size inb_S1x4224_S1x384_0_2688
abbrev r0_26 : Rect S4x400x128 := Rect.unit (s := S4x400x128) ![0, 0, 0] S1x400x128.size inb_S4x400x128_S1x400x128_0_0_0
abbrev r0_27 : Rect S4x400x128 := Rect.unit (s := S4x400x128) ![1, 0, 0] S1x400x128.size inb_S4x400x128_S1x400x128_1_0_0
abbrev r0_28 : Rect S4x400x128 := Rect.unit (s := S4x400x128) ![2, 0, 0] S1x400x128.size inb_S4x400x128_S1x400x128_2_0_0
abbrev r0_29 : Rect S4x400x128 := Rect.unit (s := S4x400x128) ![3, 0, 0] S1x400x128.size inb_S4x400x128_S1x400x128_3_0_0
abbrev r0_30 : Rect S1024x4224 := Rect.unit (s := S1024x4224) ![0, 3072] S1024x384.size inb_S1024x4224_S1024x384_0_3072
abbrev r0_31 : Rect S1x4224 := Rect.unit (s := S1x4224) ![0, 3072] S1x384.size inb_S1x4224_S1x384_0_3072
abbrev r0_32 : Rect S1024x4224 := Rect.unit (s := S1024x4224) ![0, 3456] S1024x384.size inb_S1024x4224_S1024x384_0_3456
abbrev r0_33 : Rect S1x4224 := Rect.unit (s := S1x4224) ![0, 3456] S1x384.size inb_S1x4224_S1x384_0_3456
abbrev r0_34 : Rect S1024x4224 := Rect.unit (s := S1024x4224) ![0, 3840] S1024x384.size inb_S1024x4224_S1024x384_0_3840
abbrev r0_35 : Rect S1x4224 := Rect.unit (s := S1x4224) ![0, 3840] S1x384.size inb_S1x4224_S1x384_0_3840
abbrev r0_36 : Rect S1x400x512 := Rect.unit (s := S1x400x512) ![0, 0, 0] S1x400x512.size inb_S1x400x512_S1x400x512_0_0_0

/-! ## What the body leaves in each output window's buffer -/

/-! ### Values of the body that the stores' payloads, spelt out, would write more than once

    Each is a vector the body binds (often a part call's result), stated over the input windows' blocks and
    numbered on from the skeleton's payload functions (`k0_pay50` …, after `k0_pay49`), so that
    `out0_W` and the values after it name it instead of spelling it out (`unfold_out out0_W` opens a canon
    with them, `unfold_payloads` opens them with the payloads); the comment after each is the printed function's
    name for the value (a count appended where that name is bound again). -/

def k0_pay50 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : FVec F S512x1024 .bf16 :=
  k0_pay2 (View.ld x0 r0_0) -- `v1`
def k0_pay51 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : FVec F S512x384 .f32 :=
  k0_pay40 (k0_pay50 x0 x1 x2 x3 x4 x5 x6) (View.ld x1 r0_24) (View.ld x2 r0_25) (View.ld x3 r0_25) -- `v247`
def k0_pay52 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : FVec F S16x128 .f32 :=
  k0_pay41 (F := F) -- `v248`

/-- Window 7's buffer after the body, from the input windows' blocks. -/
def out0_7 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S384x512 .bf16 :=
  View.canon [⟨r0_4, k0_pay12 (k0_pay6 (View.ld x6 r0_3)) (k0_pay7 (View.ld x0 r0_0) (View.ld x1 r0_1) (View.ld x2 r0_2) (View.ld x3 r0_2) (View.ld x4 r0_3) (View.ld x5 r0_3) (View.ld x6 r0_3)) (k0_pay8 (View.ld x0 r0_0) (View.ld x1 r0_1) (View.ld x2 r0_2) (View.ld x3 r0_2) (View.ld x4 r0_3) (View.ld x5 r0_3) (View.ld x6 r0_3)) (k0_pay9 (View.ld x0 r0_0) (View.ld x1 r0_1) (View.ld x2 r0_2) (View.ld x3 r0_2)) (k0_pay10 (View.ld x0 r0_0) (View.ld x1 r0_1) (View.ld x2 r0_2) (View.ld x3 r0_2) (View.ld x4 r0_3)) (k0_pay11 (View.ld x0 r0_0) (View.ld x1 r0_1) (View.ld x2 r0_2) (View.ld x3 r0_2) (View.ld x5 r0_3))⟩]

/-- Its stores tile the buffer (checked by evaluation), so they cover it. -/
theorem cover0_7 (p0 : Vec F S384x512 .bf16) (y : S384x512.Idx) :
    ∃ pc ∈ ([⟨r0_4, p0⟩] : List (View.Piece (Elt F) S384x512 .bf16)), y ∈ pc.1.set :=
  View.cover_of_tiled [⟨r0_4, p0⟩] S384x512.size (by rfl) y

/-- Window 8's buffer after the body, from the input windows' blocks. -/
def out0_8 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x384 .bf16 :=
  View.canon [⟨r0_7, k0_pay21 (k0_pay13 (k0_pay50 x0 x1 x2 x3 x4 x5 x6) (View.ld x1 r0_5) (View.ld x2 r0_6) (View.ld x3 r0_6)) (k0_pay14 (View.ld x4 r0_3)) (k0_pay15 (View.ld x5 r0_3)) (k0_pay16 (View.ld x6 r0_3)) (k0_pay17 (k0_pay50 x0 x1 x2 x3 x4 x5 x6) (View.ld x1 r0_5) (View.ld x2 r0_6) (View.ld x3 r0_6) (View.ld x4 r0_3) (View.ld x5 r0_3) (View.ld x6 r0_3)) (k0_pay19 (k0_pay50 x0 x1 x2 x3 x4 x5 x6) (View.ld x1 r0_5) (View.ld x2 r0_6) (View.ld x3 r0_6) (View.ld x4 r0_3) (View.ld x5 r0_3)) (k0_pay20 (k0_pay50 x0 x1 x2 x3 x4 x5 x6) (View.ld x1 r0_5) (View.ld x2 r0_6) (View.ld x3 r0_6))⟩]

/-- Its stores tile the buffer (checked by evaluation), so they cover it. -/
theorem cover0_8 (p0 : Vec F S512x384 .bf16) (y : S512x384.Idx) :
    ∃ pc ∈ ([⟨r0_7, p0⟩] : List (View.Piece (Elt F) S512x384 .bf16)), y ∈ pc.1.set :=
  View.cover_of_tiled [⟨r0_7, p0⟩] S512x384.size (by rfl) y

/-- Window 9's buffer after the body, from the input windows' blocks. -/
def out0_9 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S1x480x512 .bf16 :=
  View.canon [⟨r0_19, k0_pay36 (k0_pay35 (k0_pay50 x0 x1 x2 x3 x4 x5 x6) (View.ld x1 r0_17) (View.ld x2 r0_18)) (View.ld x3 r0_18)⟩]

/-- Its stores tile the buffer (checked by evaluation), so they cover it. -/
theorem cover0_9 (p0 : Vec F S1x480x512 .bf16) (y : S1x480x512.Idx) :
    ∃ pc ∈ ([⟨r0_19, p0⟩] : List (View.Piece (Elt F) S1x480x512 .bf16)), y ∈ pc.1.set :=
  View.cover_of_tiled [⟨r0_19, p0⟩] S1x480x512.size (by rfl) y

/-- Window 10's buffer after the body, from the input windows' blocks. -/
def out0_10 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x512 .bf16 :=
  View.canon [⟨r0_10, k0_pay29 (k0_pay22 (k0_pay50 x0 x1 x2 x3 x4 x5 x6) (View.ld x1 r0_8) (View.ld x2 r0_9) (View.ld x3 r0_9)) (k0_pay23 (View.ld x4 r0_3)) (k0_pay24 (View.ld x5 r0_3)) (k0_pay25 (View.ld x6 r0_3)) (k0_pay26 (k0_pay50 x0 x1 x2 x3 x4 x5 x6) (View.ld x1 r0_8) (View.ld x2 r0_9) (View.ld x3 r0_9) (View.ld x4 r0_3) (View.ld x5 r0_3) (View.ld x6 r0_3)) (k0_pay27 (k0_pay50 x0 x1 x2 x3 x4 x5 x6) (View.ld x1 r0_8) (View.ld x2 r0_9) (View.ld x3 r0_9)) (k0_pay28 (k0_pay50 x0 x1 x2 x3 x4 x5 x6) (View.ld x1 r0_8) (View.ld x2 r0_9) (View.ld x3 r0_9) (View.ld x4 r0_3))⟩]

/-- Its stores tile the buffer (checked by evaluation), so they cover it. -/
theorem cover0_10 (p0 : Vec F S512x512 .bf16) (y : S512x512.Idx) :
    ∃ pc ∈ ([⟨r0_10, p0⟩] : List (View.Piece (Elt F) S512x512 .bf16)), y ∈ pc.1.set :=
  View.cover_of_tiled [⟨r0_10, p0⟩] S512x512.size (by rfl) y

/-- Window 11's buffer after the body, from the input windows' blocks. -/
def out0_11 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x64 .bf16 :=
  View.canon [⟨r0_13, k0_pay32 (k0_pay30 (k0_pay50 x0 x1 x2 x3 x4 x5 x6) (View.ld x1 r0_11) (View.ld x2 r0_12) (View.ld x3 r0_12)) (k0_pay31 (View.ld x4 r0_3)) (View.ld x5 r0_3) (View.ld x6 r0_3)⟩]

/-- Its stores tile the buffer (checked by evaluation), so they cover it. -/
theorem cover0_11 (p0 : Vec F S512x64 .bf16) (y : S512x64.Idx) :
    ∃ pc ∈ ([⟨r0_13, p0⟩] : List (View.Piece (Elt F) S512x64 .bf16)), y ∈ pc.1.set :=
  View.cover_of_tiled [⟨r0_13, p0⟩] S512x64.size (by rfl) y

/-- Window 12's buffer after the body, from the input windows' blocks. -/
def out0_12 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S8x512 .f32 :=
  View.canon [⟨r0_16, k0_pay34 (k0_pay50 x0 x1 x2 x3 x4 x5 x6) (View.ld x1 r0_14) (View.ld x2 r0_15) (View.ld x3 r0_15)⟩]

/-- Its stores tile the buffer (checked by evaluation), so they cover it. -/
theorem cover0_12 (p0 : Vec F S8x512 .f32) (y : S8x512.Idx) :
    ∃ pc ∈ ([⟨r0_16, p0⟩] : List (View.Piece (Elt F) S8x512 .f32)), y ∈ pc.1.set :=
  View.cover_of_tiled [⟨r0_16, p0⟩] S8x512.size (by rfl) y

/-- Window 13's buffer after the body, from the input windows' blocks. -/
def out0_13 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x128 .f32 :=
  View.canon [⟨r0_3, k0_pay33 (k0_pay50 x0 x1 x2 x3 x4 x5 x6) (View.ld x1 r0_14) (View.ld x2 r0_15) (View.ld x3 r0_15)⟩]

/-- Its stores tile the buffer (checked by evaluation), so they cover it. -/
theorem cover0_13 (p0 : Vec F S512x128 .f32) (y : S512x128.Idx) :
    ∃ pc ∈ ([⟨r0_3, p0⟩] : List (View.Piece (Elt F) S512x128 .f32)), y ∈ pc.1.set :=
  View.cover_of_tiled [⟨r0_3, p0⟩] S512x128.size (by rfl) y

/-- Window 14's buffer after the body, from the input windows' blocks. -/
def out0_14 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S384x512 .bf16 :=
  View.canon [⟨r0_4, k0_pay37 (k0_pay50 x0 x1 x2 x3 x4 x5 x6) (View.ld x1 r0_20) (View.ld x2 r0_21) (View.ld x3 r0_21)⟩]

/-- Its stores tile the buffer (checked by evaluation), so they cover it. -/
theorem cover0_14 (p0 : Vec F S384x512 .bf16) (y : S384x512.Idx) :
    ∃ pc ∈ ([⟨r0_4, p0⟩] : List (View.Piece (Elt F) S384x512 .bf16)), y ∈ pc.1.set :=
  View.cover_of_tiled [⟨r0_4, p0⟩] S384x512.size (by rfl) y

/-- Window 15's buffer after the body, from the input windows' blocks. -/
def out0_15 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x384 .bf16 :=
  View.canon [⟨r0_7, k0_pay39 (k0_pay38 (k0_pay50 x0 x1 x2 x3 x4 x5 x6) (View.ld x1 r0_22) (View.ld x2 r0_23)) (View.ld x3 r0_23)⟩]

/-- Its stores tile the buffer (checked by evaluation), so they cover it. -/
theorem cover0_15 (p0 : Vec F S512x384 .bf16) (y : S512x384.Idx) :
    ∃ pc ∈ ([⟨r0_7, p0⟩] : List (View.Piece (Elt F) S512x384 .bf16)), y ∈ pc.1.set :=
  View.cover_of_tiled [⟨r0_7, p0⟩] S512x384.size (by rfl) y

/-- Window 16's buffer after the body, from the input windows' blocks. -/
def out0_16 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S4x400x128 .bf16 :=
  View.canon [⟨r0_29, k0_pay46 (k0_pay51 x0 x1 x2 x3 x4 x5 x6) (k0_pay52 x0 x1 x2 x3 x4 x5 x6)⟩,
    ⟨r0_28, k0_pay45 (k0_pay51 x0 x1 x2 x3 x4 x5 x6) (k0_pay52 x0 x1 x2 x3 x4 x5 x6)⟩,
    ⟨r0_27, k0_pay44 (k0_pay43 (k0_pay50 x0 x1 x2 x3 x4 x5 x6) (View.ld x1 r0_24) (View.ld x2 r0_25) (View.ld x3 r0_25))⟩,
    ⟨r0_26, k0_pay42 (k0_pay50 x0 x1 x2 x3 x4 x5 x6) (View.ld x1 r0_24) (View.ld x2 r0_25) (View.ld x3 r0_25)⟩]

/-- Its stores tile the buffer (checked by evaluation), so they cover it. -/
theorem cover0_16 (p0 : Vec F S1x400x128 .bf16) (p1 : Vec F S1x400x128 .bf16) (p2 : Vec F S1x400x128 .bf16) (p3 : Vec F S1x400x128 .bf16) (y : S4x400x128.Idx) :
    ∃ pc ∈ ([⟨r0_29, p0⟩, ⟨r0_28, p1⟩, ⟨r0_27, p2⟩, ⟨r0_26, p3⟩] : List (View.Piece (Elt F) S4x400x128 .bf16)), y ∈ pc.1.set :=
  View.cover_of_tiled [⟨r0_29, p0⟩, ⟨r0_28, p1⟩, ⟨r0_27, p2⟩, ⟨r0_26, p3⟩] S1x400x128.size (by rfl) y

/-- Window 17's buffer after the body, from the input windows' blocks. -/
def out0_17 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S384x512 .bf16 :=
  View.canon [⟨r0_4, k0_pay47 (k0_pay50 x0 x1 x2 x3 x4 x5 x6) (View.ld x1 r0_30) (View.ld x2 r0_31) (View.ld x3 r0_31)⟩]

/-- Its stores tile the buffer (checked by evaluation), so they cover it. -/
theorem cover0_17 (p0 : Vec F S384x512 .bf16) (y : S384x512.Idx) :
    ∃ pc ∈ ([⟨r0_4, p0⟩] : List (View.Piece (Elt F) S384x512 .bf16)), y ∈ pc.1.set :=
  View.cover_of_tiled [⟨r0_4, p0⟩] S384x512.size (by rfl) y

/-- Window 18's buffer after the body, from the input windows' blocks. -/
def out0_18 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x384 .bf16 :=
  View.canon [⟨r0_7, k0_pay48 (k0_pay50 x0 x1 x2 x3 x4 x5 x6) (View.ld x1 r0_32) (View.ld x2 r0_33) (View.ld x3 r0_33)⟩]

/-- Its stores tile the buffer (checked by evaluation), so they cover it. -/
theorem cover0_18 (p0 : Vec F S512x384 .bf16) (y : S512x384.Idx) :
    ∃ pc ∈ ([⟨r0_7, p0⟩] : List (View.Piece (Elt F) S512x384 .bf16)), y ∈ pc.1.set :=
  View.cover_of_tiled [⟨r0_7, p0⟩] S512x384.size (by rfl) y

/-- Window 19's buffer after the body, from the input windows' blocks. -/
def out0_19 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S1x400x512 .bf16 :=
  View.canon [⟨r0_36, k0_pay1 (k0_pay49 (k0_pay50 x0 x1 x2 x3 x4 x5 x6) (View.ld x1 r0_34) (View.ld x2 r0_35) (View.ld x3 r0_35))⟩]

/-- Its stores tile the buffer (checked by evaluation), so they cover it. -/
theorem cover0_19 (p0 : Vec F S1x400x512 .bf16) (y : S1x400x512.Idx) :
    ∃ pc ∈ ([⟨r0_36, p0⟩] : List (View.Piece (Elt F) S1x400x512 .bf16)), y ∈ pc.1.set :=
  View.cover_of_tiled [⟨r0_36, p0⟩] S1x400x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .bf16) (harg1 : arg1.IsWhole) (arg2 : Memref sig .tc .vmem S1024x4224 .bf16) (harg2 : arg2.IsWhole) (arg3 : Memref sig .tc .vmem S1x4224 .f32) (harg3 : arg3.IsWhole) (arg4 : Memref sig .tc .vmem S1x4224 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S384x512 .bf16) (harg8 : arg8.IsWhole) (arg9 : Memref sig .tc .vmem S512x384 .bf16) (harg9 : arg9.IsWhole) (arg10 : Memref sig .tc .vmem S1x480x512 .bf16) (harg10 : arg10.IsWhole) (arg11 : Memref sig .tc .vmem S512x512 .bf16) (harg11 : arg11.IsWhole) (arg12 : Memref sig .tc .vmem S512x64 .bf16) (harg12 : arg12.IsWhole) (arg13 : Memref sig .tc .vmem S8x512 .f32) (harg13 : arg13.IsWhole) (arg14 : Memref sig .tc .vmem S512x128 .f32) (harg14 : arg14.IsWhole) (arg15 : Memref sig .tc .vmem S384x512 .bf16) (harg15 : arg15.IsWhole) (arg16 : Memref sig .tc .vmem S512x384 .bf16) (harg16 : arg16.IsWhole) (arg17 : Memref sig .tc .vmem S4x400x128 .bf16) (harg17 : arg17.IsWhole) (arg18 : Memref sig .tc .vmem S384x512 .bf16) (harg18 : arg18.IsWhole) (arg19 : Memref sig .tc .vmem S512x384 .bf16) (harg19 : arg19.IsWhole) (arg20 : Memref sig .tc .vmem S1x400x512 .bf16) (harg20 : arg20.IsWhole)
    (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6) ∗ owns (c : Thread nD τ) arg11 fullShare (out0_10 x0 x1 x2 x3 x4 x5 x6) ∗ owns (c : Thread nD τ) arg12 fullShare (out0_11 x0 x1 x2 x3 x4 x5 x6) ∗ owns (c : Thread nD τ) arg13 fullShare (out0_12 x0 x1 x2 x3 x4 x5 x6) ∗ owns (c : Thread nD τ) arg14 fullShare (out0_13 x0 x1 x2 x3 x4 x5 x6) ∗ owns (c : Thread nD τ) arg15 fullShare (out0_14 x0 x1 x2 x3 x4 x5 x6) ∗ owns (c : Thread nD τ) arg16 fullShare (out0_15 x0 x1 x2 x3 x4 x5 x6) ∗ owns (c : Thread nD τ) arg17 fullShare (out0_16 x0 x1 x2 x3 x4 x5 x6) ∗ owns (c : Thread nD τ) arg18 fullShare (out0_17 x0 x1 x2 x3 x4 x5 x6) ∗ owns (c : Thread nD τ) arg19 fullShare (out0_18 x0 x1 x2 x3 x4 x5 x6) ∗ owns (c : Thread nD τ) arg20 fullShare (out0_19 x0 x1 x2 x3 x4 x5 x6)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_in_proj_eq_skeleton]; unfold cc0_in_proj_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _ _ _ _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  iexists _; isplitr
  swap; · iexact H19
  ipureintro
  refine (View.read_writes_eq_canon _ _ _ (cover0_19 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
    | ⟨9, _⟩ => out0_9 (iblk m c 0 t) (iblk m c 1 t) (iblk m c 2 t) (iblk m c 3 t) (iblk m c 4 t) (iblk m c 5 t) (iblk m c 6 t)
    | ⟨10, _⟩ => out0_10 (iblk m c 0 t) (iblk m c 1 t) (iblk m c 2 t) (iblk m c 3 t) (iblk m c 4 t) (iblk m c 5 t) (iblk m c 6 t)
    | ⟨11, _⟩ => out0_11 (iblk m c 0 t) (iblk m c 1 t) (iblk m c 2 t) (iblk m c 3 t) (iblk m c 4 t) (iblk m c 5 t) (iblk m c 6 t)
    | ⟨12, _⟩ => out0_12 (iblk m c 0 t) (iblk m c 1 t) (iblk m c 2 t) (iblk m c 3 t) (iblk m c 4 t) (iblk m c 5 t) (iblk m c 6 t)
    | ⟨13, _⟩ => out0_13 (iblk m c 0 t) (iblk m c 1 t) (iblk m c 2 t) (iblk m c 3 t) (iblk m c 4 t) (iblk m c 5 t) (iblk m c 6 t)
    | ⟨14, _⟩ => out0_14 (iblk m c 0 t) (iblk m c 1 t) (iblk m c 2 t) (iblk m c 3 t) (iblk m c 4 t) (iblk m c 5 t) (iblk m c 6 t)
    | ⟨15, _⟩ => out0_15 (iblk m c 0 t) (iblk m c 1 t) (iblk m c 2 t) (iblk m c 3 t) (iblk m c 4 t) (iblk m c 5 t) (iblk m c 6 t)
    | ⟨16, _⟩ => out0_16 (iblk m c 0 t) (iblk m c 1 t) (iblk m c 2 t) (iblk m c 3 t) (iblk m c 4 t) (iblk m c 5 t) (iblk m c 6 t)
    | ⟨17, _⟩ => out0_17 (iblk m c 0 t) (iblk m c 1 t) (iblk m c 2 t) (iblk m c 3 t) (iblk m c 4 t) (iblk m c 5 t) (iblk m c 6 t)
    | ⟨18, _⟩ => out0_18 (iblk m c 0 t) (iblk m c 1 t) (iblk m c 2 t) (iblk m c 3 t) (iblk m c 4 t) (iblk m c 5 t) (iblk m c 6 t)
    | ⟨19, _⟩ => out0_19 (iblk m c 0 t) (iblk m c 1 t) (iblk m c 2 t) (iblk m c 3 t) (iblk m c 4 t) (iblk m c 5 t) (iblk m c 6 t)
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every argument is unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel4.Gen

end
-- ==== Proof.ProjFrame.lean ====
/-
  The launch of the idealized input projection: the arrays at the region's entry, what the body leaves in each window, the pipeline's proof data, and the
  frame. It follows the generated set-up of a kernel of this class, with more room for the body's obligation, which is long
  for twenty windows.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

abbrev r0_0 : Rect S512x1024 := Rect.unit (s := S512x1024) ![0, 0] S512x1024.size inb_S512x1024_S512x1024_0_0
abbrev r0_1 : Rect S1024x4224 := Rect.unit (s := S1024x4224) ![0, 0] S1024x384.size inb_S1024x4224_S1024x384_0_0
abbrev r0_2 : Rect S1x4224 := Rect.unit (s := S1x4224) ![0, 0] S1x384.size inb_S1x4224_S1x384_0_0
abbrev r0_3 : Rect S512x128 := Rect.unit (s := S512x128) ![0, 0] S512x128.size inb_S512x128_S512x128_0_0
abbrev r0_4 : Rect S384x512 := Rect.unit (s := S384x512) ![0, 0] S384x512.size inb_S384x512_S384x512_0_0
abbrev r0_5 : Rect S1024x4224 := Rect.unit (s := S1024x4224) ![0, 384] S1024x384.size inb_S1024x4224_S1024x384_0_384
abbrev r0_6 : Rect S1x4224 := Rect.unit (s := S1x4224) ![0, 384] S1x384.size inb_S1x4224_S1x384_0_384
abbrev r0_7 : Rect S512x384 := Rect.unit (s := S512x384) ![0, 0] S512x384.size inb_S512x384_S512x384_0_0
abbrev r0_8 : Rect S1024x4224 := Rect.unit (s := S1024x4224) ![0, 768] S1024x512.size inb_S1024x4224_S1024x512_0_768
abbrev r0_9 : Rect S1x4224 := Rect.unit (s := S1x4224) ![0, 768] S1x512.size inb_S1x4224_S1x512_0_768
abbrev r0_10 : Rect S512x512 := Rect.unit (s := S512x512) ![0, 0] S512x512.size inb_S512x512_S512x512_0_0
abbrev r0_11 : Rect S1024x4224 := Rect.unit (s := S1024x4224) ![0, 1280] S1024x128.size inb_S1024x4224_S1024x128_0_1280
abbrev r0_12 : Rect S1x4224 := Rect.unit (s := S1x4224) ![0, 1280] S1x128.size inb_S1x4224_S1x128_0_1280
abbrev r0_13 : Rect S512x64 := Rect.unit (s := S512x64) ![0, 0] S512x64.size inb_S512x64_S512x64_0_0
abbrev r0_14 : Rect S1024x4224 := Rect.unit (s := S1024x4224) ![0, 1408] S1024x128.size inb_S1024x4224_S1024x128_0_1408
abbrev r0_15 : Rect S1x4224 := Rect.unit (s := S1x4224) ![0, 1408] S1x128.size inb_S1x4224_S1x128_0_1408
abbrev r0_16 : Rect S8x512 := Rect.unit (s := S8x512) ![0, 0] S8x512.size inb_S8x512_S8x512_0_0
abbrev r0_17 : Rect S1024x4224 := Rect.unit (s := S1024x4224) ![0, 1536] S1024x384.size inb_S1024x4224_S1024x384_0_1536
abbrev r0_18 : Rect S1x4224 := Rect.unit (s := S1x4224) ![0, 1536] S1x384.size inb_S1x4224_S1x384_0_1536
abbrev r0_19 : Rect S1x480x512 := Rect.unit (s := S1x480x512) ![0, 0, 0] S1x480x512.size inb_S1x480x512_S1x480x512_0_0_0
abbrev r0_20 : Rect S1024x4224 := Rect.unit (s := S1024x4224) ![0, 1920] S1024x384.size inb_S1024x4224_S1024x384_0_1920
abbrev r0_21 : Rect S1x4224 := Rect.unit (s := S1x4224) ![0, 1920] S1x384.size inb_S1x4224_S1x384_0_1920
abbrev r0_22 : Rect S1024x4224 := Rect.unit (s := S1024x4224) ![0, 2304] S1024x384.size inb_S1024x4224_S1024x384_0_2304
abbrev r0_23 : Rect S1x4224 := Rect.unit (s := S1x4224) ![0, 2304] S1x384.size inb_S1x4224_S1x384_0_2304
abbrev r0_24 : Rect S1024x4224 := Rect.unit (s := S1024x4224) ![0, 2688] S1024x384.size inb_S1024x4224_S1024x384_0_2688
abbrev r0_25 : Rect S1x4224 := Rect.unit (s := S1x4224) ![0, 2688] S1x384.size inb_S1x4224_S1x384_0_2688
abbrev r0_26 : Rect S4x400x128 := Rect.unit (s := S4x400x128) ![0, 0, 0] S1x400x128.size inb_S4x400x128_S1x400x128_0_0_0
abbrev r0_27 : Rect S4x400x128 := Rect.unit (s := S4x400x128) ![1, 0, 0] S1x400x128.size inb_S4x400x128_S1x400x128_1_0_0
abbrev r0_28 : Rect S4x400x128 := Rect.unit (s := S4x400x128) ![2, 0, 0] S1x400x128.size inb_S4x400x128_S1x400x128_2_0_0
abbrev r0_29 : Rect S4x400x128 := Rect.unit (s := S4x400x128) ![3, 0, 0] S1x400x128.size inb_S4x400x128_S1x400x128_3_0_0
abbrev r0_30 : Rect S1024x4224 := Rect.unit (s := S1024x4224) ![0, 3072] S1024x384.size inb_S1024x4224_S1024x384_0_3072
abbrev r0_31 : Rect S1x4224 := Rect.unit (s := S1x4224) ![0, 3072] S1x384.size inb_S1x4224_S1x384_0_3072
abbrev r0_32 : Rect S1024x4224 := Rect.unit (s := S1024x4224) ![0, 3456] S1024x384.size inb_S1024x4224_S1024x384_0_3456
abbrev r0_33 : Rect S1x4224 := Rect.unit (s := S1x4224) ![0, 3456] S1x384.size inb_S1x4224_S1x384_0_3456
abbrev r0_34 : Rect S1024x4224 := Rect.unit (s := S1024x4224) ![0, 3840] S1024x384.size inb_S1024x4224_S1024x384_0_3840
abbrev r0_35 : Rect S1x4224 := Rect.unit (s := S1x4224) ![0, 3840] S1x384.size inb_S1x4224_S1x384_0_3840
abbrev r0_36 : Rect S1x400x512 := Rect.unit (s := S1x400x512) ![0, 0, 0] S1x400x512.size inb_S1x400x512_S1x400x512_0_0_0

/-! ## What the body leaves in each output window's buffer -/

/-! ### Values of the body that the stores' payloads, spelt out, would write more than once

    Each is a vector the body binds (often a part call's result), stated over the input windows' blocks and
    numbered on from the skeleton's payload functions (`k0_pay50` …, after `k0_pay49`), so that
    `out0_W` and the values after it name it instead of spelling it out (`unfold_out out0_W` opens a canon
    with them, `unfold_payloads` opens them with the payloads); the comment after each is the printed function's
    name for the value (a count appended where that name is bound again). -/

def k0_pay50 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : FVec F S512x1024 .bf16 :=
  k0_pay2 (View.ld x0 r0_0) -- `v1`
def k0_pay51 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : FVec F S512x384 .f32 :=
  k0_pay40 (k0_pay50 x0 x1 x2 x3 x4 x5 x6) (View.ld x1 r0_24) (View.ld x2 r0_25) (View.ld x3 r0_25) -- `v247`
def k0_pay52 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : FVec F S16x128 .f32 :=
  k0_pay41 (F := F) -- `v248`

/-- Window 7's buffer after the body, from the input windows' blocks. -/
def out0_7 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S384x512 .bf16 :=
  View.canon [⟨r0_4, k0_pay12 (k0_pay6 (View.ld x6 r0_3)) (k0_pay7 (View.ld x0 r0_0) (View.ld x1 r0_1) (View.ld x2 r0_2) (View.ld x3 r0_2) (View.ld x4 r0_3) (View.ld x5 r0_3) (View.ld x6 r0_3)) (k0_pay8 (View.ld x0 r0_0) (View.ld x1 r0_1) (View.ld x2 r0_2) (View.ld x3 r0_2) (View.ld x4 r0_3) (View.ld x5 r0_3) (View.ld x6 r0_3)) (k0_pay9 (View.ld x0 r0_0) (View.ld x1 r0_1) (View.ld x2 r0_2) (View.ld x3 r0_2)) (k0_pay10 (View.ld x0 r0_0) (View.ld x1 r0_1) (View.ld x2 r0_2) (View.ld x3 r0_2) (View.ld x4 r0_3)) (k0_pay11 (View.ld x0 r0_0) (View.ld x1 r0_1) (View.ld x2 r0_2) (View.ld x3 r0_2) (View.ld x5 r0_3))⟩]

/-- Its stores tile the buffer (checked by evaluation), so they cover it. -/
theorem cover0_7 (p0 : Vec F S384x512 .bf16) (y : S384x512.Idx) :
    ∃ pc ∈ ([⟨r0_4, p0⟩] : List (View.Piece (Elt F) S384x512 .bf16)), y ∈ pc.1.set :=
  View.cover_of_tiled [⟨r0_4, p0⟩] S384x512.size (by rfl) y

/-- Window 8's buffer after the body, from the input windows' blocks. -/
def out0_8 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x384 .bf16 :=
  View.canon [⟨r0_7, k0_pay21 (k0_pay13 (k0_pay50 x0 x1 x2 x3 x4 x5 x6) (View.ld x1 r0_5) (View.ld x2 r0_6) (View.ld x3 r0_6)) (k0_pay14 (View.ld x4 r0_3)) (k0_pay15 (View.ld x5 r0_3)) (k0_pay16 (View.ld x6 r0_3)) (k0_pay17 (k0_pay50 x0 x1 x2 x3 x4 x5 x6) (View.ld x1 r0_5) (View.ld x2 r0_6) (View.ld x3 r0_6) (View.ld x4 r0_3) (View.ld x5 r0_3) (View.ld x6 r0_3)) (k0_pay19 (k0_pay50 x0 x1 x2 x3 x4 x5 x6) (View.ld x1 r0_5) (View.ld x2 r0_6) (View.ld x3 r0_6) (View.ld x4 r0_3) (View.ld x5 r0_3)) (k0_pay20 (k0_pay50 x0 x1 x2 x3 x4 x5 x6) (View.ld x1 r0_5) (View.ld x2 r0_6) (View.ld x3 r0_6))⟩]

/-- Its stores tile the buffer (checked by evaluation), so they cover it. -/
theorem cover0_8 (p0 : Vec F S512x384 .bf16) (y : S512x384.Idx) :
    ∃ pc ∈ ([⟨r0_7, p0⟩] : List (View.Piece (Elt F) S512x384 .bf16)), y ∈ pc.1.set :=
  View.cover_of_tiled [⟨r0_7, p0⟩] S512x384.size (by rfl) y

/-- Window 9's buffer after the body, from the input windows' blocks. -/
def out0_9 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S1x480x512 .bf16 :=
  View.canon [⟨r0_19, k0_pay36 (k0_pay35 (k0_pay50 x0 x1 x2 x3 x4 x5 x6) (View.ld x1 r0_17) (View.ld x2 r0_18)) (View.ld x3 r0_18)⟩]

/-- Its stores tile the buffer (checked by evaluation), so they cover it. -/
theorem cover0_9 (p0 : Vec F S1x480x512 .bf16) (y : S1x480x512.Idx) :
    ∃ pc ∈ ([⟨r0_19, p0⟩] : List (View.Piece (Elt F) S1x480x512 .bf16)), y ∈ pc.1.set :=
  View.cover_of_tiled [⟨r0_19, p0⟩] S1x480x512.size (by rfl) y

/-- Window 10's buffer after the body, from the input windows' blocks. -/
def out0_10 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x512 .bf16 :=
  View.canon [⟨r0_10, k0_pay29 (k0_pay22 (k0_pay50 x0 x1 x2 x3 x4 x5 x6) (View.ld x1 r0_8) (View.ld x2 r0_9) (View.ld x3 r0_9)) (k0_pay23 (View.ld x4 r0_3)) (k0_pay24 (View.ld x5 r0_3)) (k0_pay25 (View.ld x6 r0_3)) (k0_pay26 (k0_pay50 x0 x1 x2 x3 x4 x5 x6) (View.ld x1 r0_8) (View.ld x2 r0_9) (View.ld x3 r0_9) (View.ld x4 r0_3) (View.ld x5 r0_3) (View.ld x6 r0_3)) (k0_pay27 (k0_pay50 x0 x1 x2 x3 x4 x5 x6) (View.ld x1 r0_8) (View.ld x2 r0_9) (View.ld x3 r0_9)) (k0_pay28 (k0_pay50 x0 x1 x2 x3 x4 x5 x6) (View.ld x1 r0_8) (View.ld x2 r0_9) (View.ld x3 r0_9) (View.ld x4 r0_3))⟩]

/-- Its stores tile the buffer (checked by evaluation), so they cover it. -/
theorem cover0_10 (p0 : Vec F S512x512 .bf16) (y : S512x512.Idx) :
    ∃ pc ∈ ([⟨r0_10, p0⟩] : List (View.Piece (Elt F) S512x512 .bf16)), y ∈ pc.1.set :=
  View.cover_of_tiled [⟨r0_10, p0⟩] S512x512.size (by rfl) y

/-- Window 11's buffer after the body, from the input windows' blocks. -/
def out0_11 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x64 .bf16 :=
  View.canon [⟨r0_13, k0_pay32 (k0_pay30 (k0_pay50 x0 x1 x2 x3 x4 x5 x6) (View.ld x1 r0_11) (View.ld x2 r0_12) (View.ld x3 r0_12)) (k0_pay31 (View.ld x4 r0_3)) (View.ld x5 r0_3) (View.ld x6 r0_3)⟩]

/-- Its stores tile the buffer (checked by evaluation), so they cover it. -/
theorem cover0_11 (p0 : Vec F S512x64 .bf16) (y : S512x64.Idx) :
    ∃ pc ∈ ([⟨r0_13, p0⟩] : List (View.Piece (Elt F) S512x64 .bf16)), y ∈ pc.1.set :=
  View.cover_of_tiled [⟨r0_13, p0⟩] S512x64.size (by rfl) y

/-- Window 12's buffer after the body, from the input windows' blocks. -/
def out0_12 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S8x512 .f32 :=
  View.canon [⟨r0_16, k0_pay34 (k0_pay50 x0 x1 x2 x3 x4 x5 x6) (View.ld x1 r0_14) (View.ld x2 r0_15) (View.ld x3 r0_15)⟩]

/-- Its stores tile the buffer (checked by evaluation), so they cover it. -/
theorem cover0_12 (p0 : Vec F S8x512 .f32) (y : S8x512.Idx) :
    ∃ pc ∈ ([⟨r0_16, p0⟩] : List (View.Piece (Elt F) S8x512 .f32)), y ∈ pc.1.set :=
  View.cover_of_tiled [⟨r0_16, p0⟩] S8x512.size (by rfl) y

/-- Window 13's buffer after the body, from the input windows' blocks. -/
def out0_13 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x128 .f32 :=
  View.canon [⟨r0_3, k0_pay33 (k0_pay50 x0 x1 x2 x3 x4 x5 x6) (View.ld x1 r0_14) (View.ld x2 r0_15) (View.ld x3 r0_15)⟩]

/-- Its stores tile the buffer (checked by evaluation), so they cover it. -/
theorem cover0_13 (p0 : Vec F S512x128 .f32) (y : S512x128.Idx) :
    ∃ pc ∈ ([⟨r0_3, p0⟩] : List (View.Piece (Elt F) S512x128 .f32)), y ∈ pc.1.set :=
  View.cover_of_tiled [⟨r0_3, p0⟩] S512x128.size (by rfl) y

/-- Window 14's buffer after the body, from the input windows' blocks. -/
def out0_14 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S384x512 .bf16 :=
  View.canon [⟨r0_4, k0_pay37 (k0_pay50 x0 x1 x2 x3 x4 x5 x6) (View.ld x1 r0_20) (View.ld x2 r0_21) (View.ld x3 r0_21)⟩]

/-- Its stores tile the buffer (checked by evaluation), so they cover it. -/
theorem cover0_14 (p0 : Vec F S384x512 .bf16) (y : S384x512.Idx) :
    ∃ pc ∈ ([⟨r0_4, p0⟩] : List (View.Piece (Elt F) S384x512 .bf16)), y ∈ pc.1.set :=
  View.cover_of_tiled [⟨r0_4, p0⟩] S384x512.size (by rfl) y

/-- Window 15's buffer after the body, from the input windows' blocks. -/
def out0_15 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x384 .bf16 :=
  View.canon [⟨r0_7, k0_pay39 (k0_pay38 (k0_pay50 x0 x1 x2 x3 x4 x5 x6) (View.ld x1 r0_22) (View.ld x2 r0_23)) (View.ld x3 r0_23)⟩]

/-- Its stores tile the buffer (checked by evaluation), so they cover it. -/
theorem cover0_15 (p0 : Vec F S512x384 .bf16) (y : S512x384.Idx) :
    ∃ pc ∈ ([⟨r0_7, p0⟩] : List (View.Piece (Elt F) S512x384 .bf16)), y ∈ pc.1.set :=
  View.cover_of_tiled [⟨r0_7, p0⟩] S512x384.size (by rfl) y

/-- Window 16's buffer after the body, from the input windows' blocks. -/
def out0_16 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S4x400x128 .bf16 :=
  View.canon [⟨r0_29, k0_pay46 (k0_pay51 x0 x1 x2 x3 x4 x5 x6) (k0_pay52 x0 x1 x2 x3 x4 x5 x6)⟩,
    ⟨r0_28, k0_pay45 (k0_pay51 x0 x1 x2 x3 x4 x5 x6) (k0_pay52 x0 x1 x2 x3 x4 x5 x6)⟩,
    ⟨r0_27, k0_pay44 (k0_pay43 (k0_pay50 x0 x1 x2 x3 x4 x5 x6) (View.ld x1 r0_24) (View.ld x2 r0_25) (View.ld x3 r0_25))⟩,
    ⟨r0_26, k0_pay42 (k0_pay50 x0 x1 x2 x3 x4 x5 x6) (View.ld x1 r0_24) (View.ld x2 r0_25) (View.ld x3 r0_25)⟩]

/-- Its stores tile the buffer (checked by evaluation), so they cover it. -/
theorem cover0_16 (p0 : Vec F S1x400x128 .bf16) (p1 : Vec F S1x400x128 .bf16) (p2 : Vec F S1x400x128 .bf16) (p3 : Vec F S1x400x128 .bf16) (y : S4x400x128.Idx) :
    ∃ pc ∈ ([⟨r0_29, p0⟩, ⟨r0_28, p1⟩, ⟨r0_27, p2⟩, ⟨r0_26, p3⟩] : List (View.Piece (Elt F) S4x400x128 .bf16)), y ∈ pc.1.set :=
  View.cover_of_tiled [⟨r0_29, p0⟩, ⟨r0_28, p1⟩, ⟨r0_27, p2⟩, ⟨r0_26, p3⟩] S1x400x128.size (by rfl) y

/-- Window 17's buffer after the body, from the input windows' blocks. -/
def out0_17 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S384x512 .bf16 :=
  View.canon [⟨r0_4, k0_pay47 (k0_pay50 x0 x1 x2 x3 x4 x5 x6) (View.ld x1 r0_30) (View.ld x2 r0_31) (View.ld x3 r0_31)⟩]

/-- Its stores tile the buffer (checked by evaluation), so they cover it. -/
theorem cover0_17 (p0 : Vec F S384x512 .bf16) (y : S384x512.Idx) :
    ∃ pc ∈ ([⟨r0_4, p0⟩] : List (View.Piece (Elt F) S384x512 .bf16)), y ∈ pc.1.set :=
  View.cover_of_tiled [⟨r0_4, p0⟩] S384x512.size (by rfl) y

/-- Window 18's buffer after the body, from the input windows' blocks. -/
def out0_18 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S512x384 .bf16 :=
  View.canon [⟨r0_7, k0_pay48 (k0_pay50 x0 x1 x2 x3 x4 x5 x6) (View.ld x1 r0_32) (View.ld x2 r0_33) (View.ld x3 r0_33)⟩]

/-- Its stores tile the buffer (checked by evaluation), so they cover it. -/
theorem cover0_18 (p0 : Vec F S512x384 .bf16) (y : S512x384.Idx) :
    ∃ pc ∈ ([⟨r0_7, p0⟩] : List (View.Piece (Elt F) S512x384 .bf16)), y ∈ pc.1.set :=
  View.cover_of_tiled [⟨r0_7, p0⟩] S512x384.size (by rfl) y

/-- Window 19's buffer after the body, from the input windows' blocks. -/
def out0_19 (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) : Vec F S1x400x512 .bf16 :=
  View.canon [⟨r0_36, k0_pay1 (k0_pay49 (k0_pay50 x0 x1 x2 x3 x4 x5 x6) (View.ld x1 r0_34) (View.ld x2 r0_35) (View.ld x3 r0_35))⟩]

/-- Its stores tile the buffer (checked by evaluation), so they cover it. -/
theorem cover0_19 (p0 : Vec F S1x400x512 .bf16) (y : S1x400x512.Idx) :
    ∃ pc ∈ ([⟨r0_36, p0⟩] : List (View.Piece (Elt F) S1x400x512 .bf16)), y ∈ pc.1.set :=
  View.cover_of_tiled [⟨r0_36, p0⟩] S1x400x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .bf16) (harg1 : arg1.IsWhole) (arg2 : Memref sig .tc .vmem S1024x4224 .bf16) (harg2 : arg2.IsWhole) (arg3 : Memref sig .tc .vmem S1x4224 .f32) (harg3 : arg3.IsWhole) (arg4 : Memref sig .tc .vmem S1x4224 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S384x512 .bf16) (harg8 : arg8.IsWhole) (arg9 : Memref sig .tc .vmem S512x384 .bf16) (harg9 : arg9.IsWhole) (arg10 : Memref sig .tc .vmem S1x480x512 .bf16) (harg10 : arg10.IsWhole) (arg11 : Memref sig .tc .vmem S512x512 .bf16) (harg11 : arg11.IsWhole) (arg12 : Memref sig .tc .vmem S512x64 .bf16) (harg12 : arg12.IsWhole) (arg13 : Memref sig .tc .vmem S8x512 .f32) (harg13 : arg13.IsWhole) (arg14 : Memref sig .tc .vmem S512x128 .f32) (harg14 : arg14.IsWhole) (arg15 : Memref sig .tc .vmem S384x512 .bf16) (harg15 : arg15.IsWhole) (arg16 : Memref sig .tc .vmem S512x384 .bf16) (harg16 : arg16.IsWhole) (arg17 : Memref sig .tc .vmem S4x400x128 .bf16) (harg17 : arg17.IsWhole) (arg18 : Memref sig .tc .vmem S384x512 .bf16) (harg18 : arg18.IsWhole) (arg19 : Memref sig .tc .vmem S512x384 .bf16) (harg19 : arg19.IsWhole) (arg20 : Memref sig .tc .vmem S1x400x512 .bf16) (harg20 : arg20.IsWhole)
    (x0 : Vec F S512x1024 .bf16) (x1 : Vec F S1024x4224 .bf16) (x2 : Vec F S1x4224 .f32) (x3 : Vec F S1x4224 .f32) (x4 : Vec F S512x128 .f32) (x5 : Vec F S512x128 .f32) (x6 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6) ∗ owns (c : Thread nD τ) arg11 fullShare (out0_10 x0 x1 x2 x3 x4 x5 x6) ∗ owns (c : Thread nD τ) arg12 fullShare (out0_11 x0 x1 x2 x3 x4 x5 x6) ∗ owns (c : Thread nD τ) arg13 fullShare (out0_12 x0 x1 x2 x3 x4 x5 x6) ∗ owns (c : Thread nD τ) arg14 fullShare (out0_13 x0 x1 x2 x3 x4 x5 x6) ∗ owns (c : Thread nD τ) arg15 fullShare (out0_14 x0 x1 x2 x3 x4 x5 x6) ∗ owns (c : Thread nD τ) arg16 fullShare (out0_15 x0 x1 x2 x3 x4 x5 x6) ∗ owns (c : Thread nD τ) arg17 fullShare (out0_16 x0 x1 x2 x3 x4 x5 x6) ∗ owns (c : Thread nD τ) arg18 fullShare (out0_17 x0 x1 x2 x3 x4 x5 x6) ∗ owns (c : Thread nD τ) arg19 fullShare (out0_18 x0 x1 x2 x3 x4 x5 x6) ∗ owns (c : Thread nD τ) arg20 fullShare (out0_19 x0 x1 x2 x3 x4 x5 x6)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_in_proj_eq_skeleton]; unfold cc0_in_proj_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _ _ _ _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  iexists _; isplitr
  swap; · iexact H19
  ipureintro
  refine (View.read_writes_eq_canon _ _ _ (cover0_19 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
    | ⟨9, _⟩ => out0_9 (iblk m c 0 t) (iblk m c 1 t) (iblk m c 2 t) (iblk m c 3 t) (iblk m c 4 t) (iblk m c 5 t) (iblk m c 6 t)
    | ⟨10, _⟩ => out0_10 (iblk m c 0 t) (iblk m c 1 t) (iblk m c 2 t) (iblk m c 3 t) (iblk m c 4 t) (iblk m c 5 t) (iblk m c 6 t)
    | ⟨11, _⟩ => out0_11 (iblk m c 0 t) (iblk m c 1 t) (iblk m c 2 t) (iblk m c 3 t) (iblk m c 4 t) (iblk m c 5 t) (iblk m c 6 t)
    | ⟨12, _⟩ => out0_12 (iblk m c 0 t) (iblk m c 1 t) (iblk m c 2 t) (iblk m c 3 t) (iblk m c 4 t) (iblk m c 5 t) (iblk m c 6 t)
    | ⟨13, _⟩ => out0_13 (iblk m c 0 t) (iblk m c 1 t) (iblk m c 2 t) (iblk m c 3 t) (iblk m c 4 t) (iblk m c 5 t) (iblk m c 6 t)
    | ⟨14, _⟩ => out0_14 (iblk m c 0 t) (iblk m c 1 t) (iblk m c 2 t) (iblk m c 3 t) (iblk m c 4 t) (iblk m c 5 t) (iblk m c 6 t)
    | ⟨15, _⟩ => out0_15 (iblk m c 0 t) (iblk m c 1 t) (iblk m c 2 t) (iblk m c 3 t) (iblk m c 4 t) (iblk m c 5 t) (iblk m c 6 t)
    | ⟨16, _⟩ => out0_16 (iblk m c 0 t) (iblk m c 1 t) (iblk m c 2 t) (iblk m c 3 t) (iblk m c 4 t) (iblk m c 5 t) (iblk m c 6 t)
    | ⟨17, _⟩ => out0_17 (iblk m c 0 t) (iblk m c 1 t) (iblk m c 2 t) (iblk m c 3 t) (iblk m c 4 t) (iblk m c 5 t) (iblk m c 6 t)
    | ⟨18, _⟩ => out0_18 (iblk m c 0 t) (iblk m c 1 t) (iblk m c 2 t) (iblk m c 3 t) (iblk m c 4 t) (iblk m c 5 t) (iblk m c 6 t)
    | ⟨19, _⟩ => out0_19 (iblk m c 0 t) (iblk m c 1 t) (iblk m c 2 t) (iblk m c 3 t) (iblk m c 4 t) (iblk m c 5 t) (iblk m c 6 t)
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every argument is unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel4Ideal.Gen

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v67_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v67_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v67_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v67_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v67_4) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v67_5) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v67_6) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v67_7) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v67_8) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v67_9) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v67_10) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v67_11) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v67_12) = (dats m 0 c).arrAt 19 cfg0.N :=
  (h c).1 19

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

set_option maxHeartbeats 436920 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v67_0) = (dats m 0 c).arrAt 7 cfg0.N
      ∧ r.2.mem ((c : Thread nD τ).loc main_v67_1) = (dats m 0 c).arrAt 8 cfg0.N
      ∧ r.2.mem ((c : Thread nD τ).loc main_v67_2) = (dats m 0 c).arrAt 9 cfg0.N
      ∧ r.2.mem ((c : Thread nD τ).loc main_v67_3) = (dats m 0 c).arrAt 10 cfg0.N
      ∧ r.2.mem ((c : Thread nD τ).loc main_v67_4) = (dats m 0 c).arrAt 11 cfg0.N
      ∧ r.2.mem ((c : Thread nD τ).loc main_v67_5) = (dats m 0 c).arrAt 12 cfg0.N
      ∧ r.2.mem ((c : Thread nD τ).loc main_v67_6) = (dats m 0 c).arrAt 13 cfg0.N
      ∧ r.2.mem ((c : Thread nD τ).loc main_v67_7) = (dats m 0 c).arrAt 14 cfg0.N
      ∧ r.2.mem ((c : Thread nD τ).loc main_v67_8) = (dats m 0 c).arrAt 15 cfg0.N
      ∧ r.2.mem ((c : Thread nD τ).loc main_v67_9) = (dats m 0 c).arrAt 16 cfg0.N
      ∧ r.2.mem ((c : Thread nD τ).loc main_v67_10) = (dats m 0 c).arrAt 17 cfg0.N
      ∧ r.2.mem ((c : Thread nD τ).loc main_v67_11) = (dats m 0 c).arrAt 18 cfg0.N
      ∧ r.2.mem ((c : Thread nD τ).loc main_v67_12) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      post8 m r h c,
      post9 m r h c,
      post10 m r h c,
      post11 m r h c,
      post12 m r h c,
      post13 m r h c,
      post14 m r h c,
      post15 m r h c,
      post16 m r h c,
      post17 m r h c,
      post18 m r h c,
      post19 m r h c,
      kept_main_arg0 m r h c,
      kept_main_arg1 m r h c,
      kept_main_arg2 m r h c,
      kept_main_arg3 m r h c,
      kept_main_arg4 m r h c⟩)
    (run_main m ρ)

end Cert.Kernel4Ideal.Value

end
-- ==== Proof.ProjPlain.lean ====
/-
  The plain mathematics of the input projection: one feature of a token, the rotary turn of a head, and where the features lie
  among the packed columns.
-/
module

public import Idealize.ShloMosaic.Lib.Pointwise

@[expose] public section

noncomputable section

namespace Cert.Plain

open Idealize.ShloMosaic

/-- A column of a segment: the projection of a token, with bias and scale. -/
def projected {n : ℕ} (h : Fin 1024 → EReal) (w : Fin 1024 → Fin n → EReal) (b s : Fin n → EReal) (j : Fin n) : EReal :=
  ((∑ k : Fin 1024, h k * w k j) + b j) * s j

/-- A head whose first sixteen entries are turned in pairs that lie eight apart, the others kept. -/
def turn (x : Fin 64 → EReal) (cs sn : Fin 8 → EReal) (d : Fin 64) : EReal :=
  if h : d.val < 8 then x d * cs ⟨d, h⟩ - x ⟨d + 8, by omega⟩ * sn ⟨d, h⟩
  else if h' : d.val < 16 then x d * cs ⟨d - 8, by omega⟩ + x ⟨d - 8, by omega⟩ * sn ⟨d - 8, by omega⟩
  else x d

/-- A lane of 128 and its neighbours eight lanes after and before, each times its own table. -/
def lane (f c a b : Fin 128 → EReal) (l : Fin 128) : EReal :=
  f l * c l + f ⟨(l + 8) % 128, by omega⟩ * a l + f ⟨(l + 120) % 128, by omega⟩ * b l

/-- The factors of a lane itself: the cosines twice, then ones. -/
def cosLane (cs : Fin 8 → EReal) (l : Fin 128) : EReal :=
  if h : l.val % 64 < 8 then cs ⟨l % 64, h⟩ else if h' : l.val % 64 < 16 then cs ⟨l % 64 - 8, by omega⟩ else 1

/-- The factors of the lane eight after: the negated sines, then zeros. -/
def afterLane (sn : Fin 8 → EReal) (l : Fin 128) : EReal :=
  if h : l.val % 64 < 8 then - sn ⟨l % 64, h⟩ else 0

/-- The factors of the lane eight before: zeros, the sines, then zeros. -/
def beforeLane (sn : Fin 8 → EReal) (l : Fin 128) : EReal :=
  if h : l.val % 64 < 8 then 0 else if h' : l.val % 64 < 16 then sn ⟨l % 64 - 8, by omega⟩ else 0

/-- With these tables a lane is an entry of its head's turn. -/
theorem lane_eq_turn (f : Fin 128 → EReal) (cs sn : Fin 8 → EReal) (l : Fin 128) :
    lane f (cosLane cs) (afterLane sn) (beforeLane sn) l = turn (fun d => f ⟨l / 64 * 64 + d, by omega⟩) cs sn ⟨l % 64, by omega⟩ := by
  have e : f l = f ⟨l / 64 * 64 + l % 64, by omega⟩ := congrArg f (Fin.ext (by show l.val = l.val / 64 * 64 + l.val % 64; omega))
  unfold lane turn cosLane afterLane beforeLane
  by_cases h : l.val % 64 < 8
  · rw [dif_pos h, dif_pos h, dif_pos h, dif_pos h, e, mul_zero, add_zero, mul_neg, ← sub_eq_add_neg]
    congr 2
    exact congrArg f (Fin.ext (by show (l.val + 8) % 128 = l.val / 64 * 64 + (l.val % 64 + 8); omega))
  · rw [dif_neg h, dif_neg h, dif_neg h, dif_neg h, mul_zero, add_zero]
    by_cases h' : l.val % 64 < 16
    · rw [dif_pos h', dif_pos h', dif_pos h', e]
      congr 2
      exact congrArg f (Fin.ext (by show (l.val + 120) % 128 = l.val / 64 * 64 + (l.val % 64 - 8); omega))
    · rw [dif_neg h', dif_neg h', dif_neg h', mul_one, mul_zero, add_zero, e]

/-- The source of a packed column: the sources in the kernel's order, each group followed by columns without one. -/
def source (n : Fin 4224) : Option (Fin 3661) :=
  if h : n.val < 768 then some ⟨n, by omega⟩
  else if h : n.val < 1344 then some ⟨n + 384, by omega⟩
  else if h : n.val < 1408 then none
  else if h : n.val < 1416 then some ⟨n + 320, by omega⟩
  else if h : n.val < 1421 then some ⟨n + 2240, by omega⟩
  else if h : n.val < 1536 then none
  else if h : n.val < 1920 then some ⟨n - 768, by omega⟩
  else if h : n.val < 2240 then some ⟨n - 184, by omega⟩
  else if h : n.val < 2304 then none
  else if h : n.val < 2624 then some ⟨n - 248, by omega⟩
  else if h : n.val < 2688 then none
  else if h : n.val < 3008 then some ⟨n - 312, by omega⟩
  else if h : n.val < 3072 then none
  else if h : n.val < 3392 then some ⟨n - 376, by omega⟩
  else if h : n.val < 3456 then none
  else if h : n.val < 3776 then some ⟨n - 440, by omega⟩
  else if h : n.val < 3840 then none
  else if h : n.val < 4160 then some ⟨n - 504, by omega⟩
  else none

/-- The packed columns, zeros where there is no source. -/
def packed (f : Fin 3661 → EReal) (n : Fin 4224) : EReal := (source n).elim 0 f

/-- A segment of packed weights and biases holds the sources' projections in the packed order. -/
theorem segment_packed (h : Fin 1024 → EReal) (w : Fin 1024 → Fin 3661 → EReal) (b : Fin 3661 → EReal) (s : Fin 4224 → EReal) (n : Fin 4224) :
    projected h (fun k => packed (w k)) (packed b) s n = packed (fun j => ((∑ k : Fin 1024, h k * w k j) + b j) * s n) n := by
  unfold projected packed
  beta_reduce
  cases source n with
  | none => simp only [Option.elim_none, mul_zero, Finset.sum_const_zero, add_zero, zero_mul]
  | some j => rfl

end Cert.Plain

end
-- ==== Proof.ProjPiece.lean ====
/-
  A concatenation along the columns read in one of its pieces, and a row of zeros or of a slice there.
-/
module

public import Idealize.ShloMosaic.Lib.Pipeline.Value
public import Idealize.ShloMosaic.Lib.Pointwise

@[expose] public section

namespace Cert.Plain

open Idealize.ShloMosaic

/-- Columns side by side, read at a column of the piece `k`, which starts at the column `pre`. -/
theorem piece_column {α : Type} {n N w : ℕ} (xs : List ((s : Shape) × (s.Idx → α))) (h : Shape.Concatenates (xs.map (·.1)) ⟨2, ![n, N]⟩ 1)
    (k : ℕ) (hk : k < xs.length) (x : (⟨2, ![n, w]⟩ : Shape).Idx → α) (hx : xs[k] = ⟨⟨2, ![n, w]⟩, x⟩) (pre : ℕ)
    (hpre : (((xs.take k).map (·.1)).map fun s => if h : s.rank = 2 then s.size ((1 : Fin 2).cast h.symm) else 0).sum = pre)
    (y : Fin n) (j : Fin N) (i : Fin w) (hi : pre + i.val = j.val) :
    concatenate ⟨2, ![n, N]⟩ 1 xs h (ix2 y j) = x (ix2 y i) := by
  refine concatenate_apply_piece (t := ⟨2, ![n, N]⟩) 1 xs h (ix2 y j) k hk _ x hx rfl pre hpre (ix2 y i) ?_ ?_
  · intro b hb
    match b with
    | ⟨0, _⟩ => rfl
    | ⟨1, _⟩ => exact absurd rfl hb
  · first | exact hi | exact hi.symm | (show _ = _; simpa using hi)

end Cert.Plain
-- ==== Proof.ProjHost.lean ====
/-
  The arrays that the host passes to the input projection: the packed weights and biases, the row of scales, and the three
  tables of a lane.
-/
module

public import proofs.«01_k».proof.Proof.ProjFrame
public import proofs.«01_k».proof.Proof.ProjPlain
public import proofs.«01_k».proof.Proof.ProjPiece
public import Idealize.ShloMosaic.Lib.Pointwise
public import Idealize.ShloMosaic.Lib.StableHlo.RunRead
public import Idealize.ShloMosaic.Lib.Tactic.CleanTypes

@[expose] public section

set_option maxRecDepth 16384

noncomputable section

namespace Cert.Kernel4Ideal.HostArrays

open Cert.Kernel4Ideal Cert.Kernel4Ideal.Gen Cert.Plain
open Idealize.ShloMosaic Idealize.ShloMosaic.TcCoe Idealize.SL.Sem

/-- The scales of the packed columns. -/
def scaleArray : FVec Ideal S1x4224 .f32 :=
  concatenate S1x4224 1 [⟨S1x384, (broadcastInDim S1x384 ![] bcast_S_S1x384 (constant S_ .f32 0x3E38AA3B#32))⟩,
      ⟨S1x1024, (broadcastInDim S1x1024 ![] bcast_S_S1x1024 (constant S_ .f32 0x3F800000#32))⟩,
      ⟨S1x8, (broadcastInDim S1x8 ![] bcast_S_S1x8 (constant S_ .f32 0x3D3504F3#32))⟩,
      ⟨S1x504, (broadcastInDim S1x504 ![] bcast_S_S1x504 (constant S_ .f32 0x3F800000#32))⟩,
      ⟨S1x384, (broadcastInDim S1x384 ![] bcast_S_S1x384 (constant S_ .f32 0x3E000000#32))⟩,
      ⟨S1x768, (broadcastInDim S1x768 ![] bcast_S_S1x768 (constant S_ .f32 0x3F800000#32))⟩,
      ⟨S1x384, (broadcastInDim S1x384 ![] bcast_S_S1x384 (constant S_ .f32 0x3E38AA3B#32))⟩,
      ⟨S1x768, (broadcastInDim S1x768 ![] bcast_S_S1x768 (constant S_ .f32 0x3F800000#32))⟩] concatenates_S1x384_S1x1024_S1x8_S1x504_S1x384_S1x768_S1x384_S1x768_S1x4224_d1

/-- The factors of a lane itself. -/
def cosArray (cos : FVec Ideal S32768x8 .f32) : FVec Ideal S32768x128 .f32 :=
  concatenate S32768x128 1 [⟨S32768x64, (concatenate S32768x64 1 [⟨S32768x8, cos⟩,
      ⟨S32768x8, cos⟩,
      ⟨S32768x48, (broadcastInDim S32768x48 ![] bcast_S_S32768x48 (constant S_ .f32 0x3F800000#32))⟩] concatenates_S32768x8_S32768x8_S32768x48_S32768x64_d1)⟩,
      ⟨S32768x64, (concatenate S32768x64 1 [⟨S32768x8, cos⟩,
      ⟨S32768x8, cos⟩,
      ⟨S32768x48, (broadcastInDim S32768x48 ![] bcast_S_S32768x48 (constant S_ .f32 0x3F800000#32))⟩] concatenates_S32768x8_S32768x8_S32768x48_S32768x64_d1)⟩] concatenates_S32768x64_S32768x64_S32768x128_d1

/-- The factors of the lane eight after. -/
def afterArray (sin : FVec Ideal S32768x8 .f32) : FVec Ideal S32768x128 .f32 :=
  concatenate S32768x128 1 [⟨S32768x64, (concatenate S32768x64 1 [⟨S32768x8, (Host.negf sin)⟩,
      ⟨S32768x8, (broadcastInDim S32768x8 ![] bcast_S_S32768x8 (constant S_ .f32 0x00000000#32))⟩,
      ⟨S32768x48, (broadcastInDim S32768x48 ![] bcast_S_S32768x48 (constant S_ .f32 0x00000000#32))⟩] concatenates_S32768x8_S32768x8_S32768x48_S32768x64_d1)⟩,
      ⟨S32768x64, (concatenate S32768x64 1 [⟨S32768x8, (Host.negf sin)⟩,
      ⟨S32768x8, (broadcastInDim S32768x8 ![] bcast_S_S32768x8 (constant S_ .f32 0x00000000#32))⟩,
      ⟨S32768x48, (broadcastInDim S32768x48 ![] bcast_S_S32768x48 (constant S_ .f32 0x00000000#32))⟩] concatenates_S32768x8_S32768x8_S32768x48_S32768x64_d1)⟩] concatenates_S32768x64_S32768x64_S32768x128_d1

/-- The factors of the lane eight before. -/
def beforeArray (sin : FVec Ideal S32768x8 .f32) : FVec Ideal S32768x128 .f32 :=
  concatenate S32768x128 1 [⟨S32768x64, (concatenate S32768x64 1 [⟨S32768x8, (broadcastInDim S32768x8 ![] bcast_S_S32768x8 (constant S_ .f32 0x00000000#32))⟩,
      ⟨S32768x8, sin⟩,
      ⟨S32768x48, (broadcastInDim S32768x48 ![] bcast_S_S32768x48 (constant S_ .f32 0x00000000#32))⟩] concatenates_S32768x8_S32768x8_S32768x48_S32768x64_d1)⟩,
      ⟨S32768x64, (concatenate S32768x64 1 [⟨S32768x8, (broadcastInDim S32768x8 ![] bcast_S_S32768x8 (constant S_ .f32 0x00000000#32))⟩,
      ⟨S32768x8, sin⟩,
      ⟨S32768x48, (broadcastInDim S32768x48 ![] bcast_S_S32768x48 (constant S_ .f32 0x00000000#32))⟩] concatenates_S32768x8_S32768x8_S32768x48_S32768x64_d1)⟩] concatenates_S32768x64_S32768x64_S32768x128_d1

/-- The packed weights. -/
def weightArray (w : FVec Ideal S1024x3661 .f32) : FVec Ideal S1024x4224 .bf16 :=
  truncf .bf16 (concatenate S1024x4224 1 [⟨S1024x3776, (concatenate S1024x3776 1 [⟨S1024x768, (extractStridedSlice S1024x768 ![0, 0] w slices_S1024x3661_S1024x768_0_0)⟩,
      ⟨S1024x576, (extractStridedSlice S1024x576 ![0, 1152] w slices_S1024x3661_S1024x576_0_1152)⟩,
      ⟨S1024x64, (broadcastInDim S1024x64 ![] bcast_S_S1024x64 (constant S_ .f32 0x00000000#32))⟩,
      ⟨S1024x8, (extractStridedSlice S1024x8 ![0, 1728] w slices_S1024x3661_S1024x8_0_1728)⟩,
      ⟨S1024x5, (extractStridedSlice S1024x5 ![0, 3656] w slices_S1024x3661_S1024x5_0_3656)⟩,
      ⟨S1024x115, (broadcastInDim S1024x115 ![] bcast_S_S1024x115 (constant S_ .f32 0x00000000#32))⟩,
      ⟨S1024x384, (extractStridedSlice S1024x384 ![0, 768] w slices_S1024x3661_S1024x384_0_768)⟩,
      ⟨S1024x320, (extractStridedSlice S1024x320 ![0, 1736] w slices_S1024x3661_S1024x320_0_1736)⟩,
      ⟨S1024x64, (broadcastInDim S1024x64 ![] bcast_S_S1024x64 (constant S_ .f32 0x00000000#32))⟩,
      ⟨S1024x320, (extractStridedSlice S1024x320 ![0, 2056] w slices_S1024x3661_S1024x320_0_2056)⟩,
      ⟨S1024x64, (broadcastInDim S1024x64 ![] bcast_S_S1024x64 (constant S_ .f32 0x00000000#32))⟩,
      ⟨S1024x320, (extractStridedSlice S1024x320 ![0, 2376] w slices_S1024x3661_S1024x320_0_2376)⟩,
      ⟨S1024x64, (broadcastInDim S1024x64 ![] bcast_S_S1024x64 (constant S_ .f32 0x00000000#32))⟩,
      ⟨S1024x320, (extractStridedSlice S1024x320 ![0, 2696] w slices_S1024x3661_S1024x320_0_2696)⟩,
      ⟨S1024x64, (broadcastInDim S1024x64 ![] bcast_S_S1024x64 (constant S_ .f32 0x00000000#32))⟩,
      ⟨S1024x320, (extractStridedSlice S1024x320 ![0, 3016] w slices_S1024x3661_S1024x320_0_3016)⟩] concatenates_S1024x768_S1024x576_S1024x64_S1024x8_S1024x5_S1024x115_S1024x384_S1024x320_S1024x64_S1024x320_S1024x64_S1024x320_S1024x64_S1024x320_S1024x64_S1024x320_S1024x3776_d1)⟩,
      ⟨S1024x448, (concatenate S1024x448 1 [⟨S1024x64, (broadcastInDim S1024x64 ![] bcast_S_S1024x64 (constant S_ .f32 0x00000000#32))⟩,
      ⟨S1024x320, (extractStridedSlice S1024x320 ![0, 3336] w slices_S1024x3661_S1024x320_0_3336)⟩,
      ⟨S1024x64, (broadcastInDim S1024x64 ![] bcast_S_S1024x64 (constant S_ .f32 0x00000000#32))⟩] concatenates_S1024x64_S1024x320_S1024x64_S1024x448_d1)⟩] concatenates_S1024x3776_S1024x448_S1024x4224_d1) bitsLt_bf16_f32

/-- The packed biases. -/
def biasArray (b : FVec Ideal S3661 .f32) : FVec Ideal S1x4224 .f32 :=
  concatenate S1x4224 1 [⟨S1x3776, (concatenate S1x3776 1 [⟨S1x768, (extractStridedSlice S1x768 ![0, 0] (shapeCast S1x3661 b shapeCasts_S3661_S1x3661) slices_S1x3661_S1x768_0_0)⟩,
      ⟨S1x576, (extractStridedSlice S1x576 ![0, 1152] (shapeCast S1x3661 b shapeCasts_S3661_S1x3661) slices_S1x3661_S1x576_0_1152)⟩,
      ⟨S1x64, (broadcastInDim S1x64 ![] bcast_S_S1x64 (constant S_ .f32 0x00000000#32))⟩,
      ⟨S1x8, (extractStridedSlice S1x8 ![0, 1728] (shapeCast S1x3661 b shapeCasts_S3661_S1x3661) slices_S1x3661_S1x8_0_1728)⟩,
      ⟨S1x5, (extractStridedSlice S1x5 ![0, 3656] (shapeCast S1x3661 b shapeCasts_S3661_S1x3661) slices_S1x3661_S1x5_0_3656)⟩,
      ⟨S1x115, (broadcastInDim S1x115 ![] bcast_S_S1x115 (constant S_ .f32 0x00000000#32))⟩,
      ⟨S1x384, (extractStridedSlice S1x384 ![0, 768] (shapeCast S1x3661 b shapeCasts_S3661_S1x3661) slices_S1x3661_S1x384_0_768)⟩,
      ⟨S1x320, (extractStridedSlice S1x320 ![0, 1736] (shapeCast S1x3661 b shapeCasts_S3661_S1x3661) slices_S1x3661_S1x320_0_1736)⟩,
      ⟨S1x64, (broadcastInDim S1x64 ![] bcast_S_S1x64 (constant S_ .f32 0x00000000#32))⟩,
      ⟨S1x320, (extractStridedSlice S1x320 ![0, 2056] (shapeCast S1x3661 b shapeCasts_S3661_S1x3661) slices_S1x3661_S1x320_0_2056)⟩,
      ⟨S1x64, (broadcastInDim S1x64 ![] bcast_S_S1x64 (constant S_ .f32 0x00000000#32))⟩,
      ⟨S1x320, (extractStridedSlice S1x320 ![0, 2376] (shapeCast S1x3661 b shapeCasts_S3661_S1x3661) slices_S1x3661_S1x320_0_2376)⟩,
      ⟨S1x64, (broadcastInDim S1x64 ![] bcast_S_S1x64 (constant S_ .f32 0x00000000#32))⟩,
      ⟨S1x320, (extractStridedSlice S1x320 ![0, 2696] (shapeCast S1x3661 b shapeCasts_S3661_S1x3661) slices_S1x3661_S1x320_0_2696)⟩,
      ⟨S1x64, (broadcastInDim S1x64 ![] bcast_S_S1x64 (constant S_ .f32 0x00000000#32))⟩,
      ⟨S1x320, (extractStridedSlice S1x320 ![0, 3016] (shapeCast S1x3661 b shapeCasts_S3661_S1x3661) slices_S1x3661_S1x320_0_3016)⟩] concatenates_S1x768_S1x576_S1x64_S1x8_S1x5_S1x115_S1x384_S1x320_S1x64_S1x320_S1x64_S1x320_S1x64_S1x320_S1x64_S1x320_S1x3776_d1)⟩,
      ⟨S1x448, (concatenate S1x448 1 [⟨S1x64, (broadcastInDim S1x64 ![] bcast_S_S1x64 (constant S_ .f32 0x00000000#32))⟩,
      ⟨S1x320, (extractStridedSlice S1x320 ![0, 3336] (shapeCast S1x3661 b shapeCasts_S3661_S1x3661) slices_S1x3661_S1x320_0_3336)⟩,
      ⟨S1x64, (broadcastInDim S1x64 ![] bcast_S_S1x64 (constant S_ .f32 0x00000000#32))⟩] concatenates_S1x64_S1x320_S1x64_S1x448_d1)⟩] concatenates_S1x3776_S1x448_S1x4224_d1

section Held

variable (m : (ℓ : Loc nD τ sig) → Buf (Elt Ideal) ℓ) (c : Dev nD)

/-- What the arrays that the host passes hold. -/
structure Held : Prop where
  hidden : V m c main_v20 = (m (c.tc.loc main_arg0) : FVec Ideal S32768x1024 .bf16)
  weights : V m c main_v43 = weightArray (m (c.tc.loc main_arg1))
  biases : V m c main_v66 = biasArray (m (c.tc.loc main_arg2))
  scales : V m c main_v8 = scaleArray
  cosines : V m c main_v12 = cosArray (m (c.tc.loc main_arg3))
  after : V m c main_v16 = afterArray (m (c.tc.loc main_arg4))
  before : V m c main_v19 = beforeArray (m (c.tc.loc main_arg4))

set_option maxHeartbeats 2000000 in
theorem held : Held m c := by
  constructor <;>
  · unfold V
    simp only [hostOps0, List.flatten_cons, List.flatten_nil, List.append_nil, List.cons_append, List.nil_append]
    after_reads_simp
    rfl

end Held

/-- The scale of a packed column. -/
def scaleAt (n : Fin 4224) : EReal :=
  if n.val < 384 then Ideal.ofBits .f32 0x3E38AA3B#32 else if n.val < 1408 then 1 else if n.val < 1416 then Ideal.ofBits .f32 0x3D3504F3#32
  else if n.val < 1920 then 1 else if n.val < 2304 then Ideal.ofBits .f32 0x3E000000#32 else if n.val < 3072 then 1
  else if n.val < 3456 then Ideal.ofBits .f32 0x3E38AA3B#32 else 1

theorem at_place {n k : ℕ} (x : (⟨2, ![n, k]⟩ : Shape).Idx → EReal) (y : Fin n) {a b : Fin k} (e : a.val = b.val) : x (ix2 y a) = x (ix2 y b) :=
  congrArg (fun j => x (ix2 y j)) (Fin.ext e)

theorem at_place1 {k : ℕ} (x : (⟨1, ![k]⟩ : Shape).Idx → EReal) {a b : Fin k} (e : a.val = b.val) : x (ix1 a) = x (ix1 b) :=
  congrArg (fun j => x (ix1 j)) (Fin.ext e)

theorem scaleArray_apply (n : Fin 4224) : scaleArray (ix2 0 n) = scaleAt n := by
  pointwise [scaleArray, scaleAt]
  repeat' split
  all_goals first | rfl | (exfalso; omega)

theorem cosArray_apply (cos : FVec Ideal S32768x8 .f32) (t : Fin 32768) (l : Fin 128) :
    cosArray cos (ix2 t l) = cosLane (fun j => cos (ix2 t j)) l := by
  pointwise [cosArray, cosLane]
  repeat' split
  all_goals first | rfl | (exfalso; omega) | (refine at_place cos t ?_; dsimp only; omega)

theorem afterArray_apply (sin : FVec Ideal S32768x8 .f32) (t : Fin 32768) (l : Fin 128) :
    afterArray sin (ix2 t l) = afterLane (fun j => sin (ix2 t j)) l := by
  pointwise [afterArray, afterLane]
  repeat' split
  all_goals first | rfl | (exfalso; omega) | (refine congrArg (- ·) (at_place sin t ?_); dsimp only; omega)

theorem beforeArray_apply (sin : FVec Ideal S32768x8 .f32) (t : Fin 32768) (l : Fin 128) :
    beforeArray sin (ix2 t l) = beforeLane (fun j => sin (ix2 t j)) l := by
  pointwise [beforeArray, beforeLane]
  repeat' split
  all_goals first | rfl | (exfalso; omega) | (refine at_place sin t ?_; dsimp only; omega)

end Cert.Kernel4Ideal.HostArrays

end
-- ==== Proof.ProjPacks.lean ====
/-
  The groups of packed columns side by side.
-/
module

public import proofs.«01_k».proof.Proof.ProjPlain
public import proofs.«01_k».proof.Proof.ProjPiece

@[expose] public section

noncomputable section

namespace Cert.Plain

open Idealize.ShloMosaic

theorem segments (n : Fin 4224) : (0 ≤ n.val ∧ n.val < 768)
    ∨ (768 ≤ n.val ∧ n.val < 1344)
    ∨ (1344 ≤ n.val ∧ n.val < 1408)
    ∨ (1408 ≤ n.val ∧ n.val < 1416)
    ∨ (1416 ≤ n.val ∧ n.val < 1421)
    ∨ (1421 ≤ n.val ∧ n.val < 1536)
    ∨ (1536 ≤ n.val ∧ n.val < 1920)
    ∨ (1920 ≤ n.val ∧ n.val < 2240)
    ∨ (2240 ≤ n.val ∧ n.val < 2304)
    ∨ (2304 ≤ n.val ∧ n.val < 2624)
    ∨ (2624 ≤ n.val ∧ n.val < 2688)
    ∨ (2688 ≤ n.val ∧ n.val < 3008)
    ∨ (3008 ≤ n.val ∧ n.val < 3072)
    ∨ (3072 ≤ n.val ∧ n.val < 3392)
    ∨ (3392 ≤ n.val ∧ n.val < 3456)
    ∨ (3456 ≤ n.val ∧ n.val < 3776)
    ∨ (3776 ≤ n.val ∧ n.val < 3840)
    ∨ (3840 ≤ n.val ∧ n.val < 4160)
    ∨ (4160 ≤ n.val ∧ n.val < 4224) := by
  omega

/-- Columns of a matrix of sources from the column `o` on. -/
def cut {n : ℕ} (x : (⟨2, ![n, 3661]⟩ : Shape).Idx → EReal) (o w : ℕ) (h : o + w ≤ 3661) : (⟨2, ![n, w]⟩ : Shape).Idx → EReal :=
  extractStridedSlice ⟨2, ![n, w]⟩ ![0, o] x ⟨rfl, fun a => by
    match a with
    | ⟨0, _⟩ => exact (Nat.zero_add n).le
    | ⟨1, _⟩ => exact h⟩

theorem cut_apply {n : ℕ} (x : (⟨2, ![n, 3661]⟩ : Shape).Idx → EReal) (o w : ℕ) (h : o + w ≤ 3661) (y : Fin n) (i : Fin w) (j : Fin 3661) (e : o + i.val = j.val) :
    cut x o w h (ix2 y i) = x (ix2 y j) := by
  refine congrArg x (funext fun a => Fin.ext ?_)
  match a with
  | ⟨0, _⟩ => exact Nat.zero_add _
  | ⟨1, _⟩ => exact e

/-- The first sixteen groups of packed columns, `z` and `z'` where there is no source. -/
def packs {n : ℕ} (x : (⟨2, ![n, 3661]⟩ : Shape).Idx → EReal) (z : (⟨2, ![n, 64]⟩ : Shape).Idx → EReal) (z' : (⟨2, ![n, 115]⟩ : Shape).Idx → EReal) : List ((s : Shape) × (s.Idx → EReal)) :=
  [⟨⟨2, ![n, 768]⟩, cut x 0 768 (by decide)⟩,
    ⟨⟨2, ![n, 576]⟩, cut x 1152 576 (by decide)⟩,
    ⟨⟨2, ![n, 64]⟩, z⟩,
    ⟨⟨2, ![n, 8]⟩, cut x 1728 8 (by decide)⟩,
    ⟨⟨2, ![n, 5]⟩, cut x 3656 5 (by decide)⟩,
    ⟨⟨2, ![n, 115]⟩, z'⟩,
    ⟨⟨2, ![n, 384]⟩, cut x 768 384 (by decide)⟩,
    ⟨⟨2, ![n, 320]⟩, cut x 1736 320 (by decide)⟩,
    ⟨⟨2, ![n, 64]⟩, z⟩,
    ⟨⟨2, ![n, 320]⟩, cut x 2056 320 (by decide)⟩,
    ⟨⟨2, ![n, 64]⟩, z⟩,
    ⟨⟨2, ![n, 320]⟩, cut x 2376 320 (by decide)⟩,
    ⟨⟨2, ![n, 64]⟩, z⟩,
    ⟨⟨2, ![n, 320]⟩, cut x 2696 320 (by decide)⟩,
    ⟨⟨2, ![n, 64]⟩, z⟩,
    ⟨⟨2, ![n, 320]⟩, cut x 3016 320 (by decide)⟩]

/-- The last three groups. -/
def packsLast {n : ℕ} (x : (⟨2, ![n, 3661]⟩ : Shape).Idx → EReal) (z : (⟨2, ![n, 64]⟩ : Shape).Idx → EReal) : List ((s : Shape) × (s.Idx → EReal)) :=
  [⟨⟨2, ![n, 64]⟩, z⟩,
    ⟨⟨2, ![n, 320]⟩, cut x 3336 320 (by decide)⟩,
    ⟨⟨2, ![n, 64]⟩, z⟩]

/-- The width of a matrix of columns. -/
def width (s : Shape) : ℕ := if h : s.rank = 2 then s.size ((1 : Fin 2).cast h.symm) else 0

/-- Columns side by side, read at a column of the piece `k`, given the widths of the pieces. -/
theorem column_of_widths {n N w : ℕ} (xs : List ((s : Shape) × (s.Idx → EReal))) (h : Shape.Concatenates (xs.map (·.1)) ⟨2, ![n, N]⟩ 1)
    (ws : List ℕ) (hws : (xs.map (·.1)).map width = ws) (k : ℕ) (hk : k < xs.length) (x : (⟨2, ![n, w]⟩ : Shape).Idx → EReal)
    (hx : xs[k] = ⟨⟨2, ![n, w]⟩, x⟩) (pre : ℕ) (hpre : (ws.take k).sum = pre) (y : Fin n) (j : Fin N) (i : Fin w) (hi : pre + i.val = j.val) :
    concatenate ⟨2, ![n, N]⟩ 1 xs h (ix2 y j) = x (ix2 y i) := by
  refine piece_column xs h k hk x hx pre ?_ y j i hi
  rw [← hpre, ← hws, List.map_take, List.map_take]
  rfl

/-- The widths of the first sixteen groups. -/
def widths : List ℕ := [768, 576, 64, 8, 5, 115, 384, 320, 64, 320, 64, 320, 64, 320, 64, 320]

theorem packs_widths {n : ℕ} (x : (⟨2, ![n, 3661]⟩ : Shape).Idx → EReal) (z : (⟨2, ![n, 64]⟩ : Shape).Idx → EReal) (z' : (⟨2, ![n, 115]⟩ : Shape).Idx → EReal) :
    ((packs x z z').map (·.1)).map width = widths := rfl

theorem packsLast_widths {n : ℕ} (x : (⟨2, ![n, 3661]⟩ : Shape).Idx → EReal) (z : (⟨2, ![n, 64]⟩ : Shape).Idx → EReal) :
    ((packsLast x z).map (·.1)).map width = [64, 320, 64] := rfl

set_option maxHeartbeats 4000000 in
/-- The groups side by side are the packed columns. -/
theorem packs_apply {n : ℕ} (x : (⟨2, ![n, 3661]⟩ : Shape).Idx → EReal) (z : (⟨2, ![n, 64]⟩ : Shape).Idx → EReal) (z' : (⟨2, ![n, 115]⟩ : Shape).Idx → EReal)
    (hz : ∀ i, z i = 0) (hz' : ∀ i, z' i = 0) (h1 : Shape.Concatenates ((packs x z z').map (·.1)) ⟨2, ![n, 3776]⟩ 1)
    (h2 : Shape.Concatenates ((packsLast x z).map (·.1)) ⟨2, ![n, 448]⟩ 1)
    (h3 : Shape.Concatenates [⟨2, ![n, 3776]⟩, ⟨2, ![n, 448]⟩] ⟨2, ![n, 4224]⟩ 1) (y : Fin n) (j : Fin 4224) :
    concatenate ⟨2, ![n, 4224]⟩ 1 [⟨⟨2, ![n, 3776]⟩, concatenate ⟨2, ![n, 3776]⟩ 1 (packs x z z') h1⟩,
      ⟨⟨2, ![n, 448]⟩, concatenate ⟨2, ![n, 448]⟩ 1 (packsLast x z) h2⟩] h3 (ix2 y j) = packed (fun i => x (ix2 y i)) j := by
  have first : ∀ h : j.val < 3776, concatenate ⟨2, ![n, 4224]⟩ 1 [⟨⟨2, ![n, 3776]⟩, concatenate ⟨2, ![n, 3776]⟩ 1 (packs x z z') h1⟩,
      ⟨⟨2, ![n, 448]⟩, concatenate ⟨2, ![n, 448]⟩ 1 (packsLast x z) h2⟩] h3 (ix2 y j) = concatenate ⟨2, ![n, 3776]⟩ 1 (packs x z z') h1 (ix2 y ⟨j, h⟩) :=
    fun h => piece_column [⟨⟨2, ![n, 3776]⟩, concatenate ⟨2, ![n, 3776]⟩ 1 (packs x z z') h1⟩, ⟨⟨2, ![n, 448]⟩, concatenate ⟨2, ![n, 448]⟩ 1 (packsLast x z) h2⟩] h3 0 (Nat.succ_pos _) _ rfl 0 rfl y j ⟨j, h⟩ (Nat.zero_add _)
  have last : ∀ h : 3776 ≤ j.val, concatenate ⟨2, ![n, 4224]⟩ 1 [⟨⟨2, ![n, 3776]⟩, concatenate ⟨2, ![n, 3776]⟩ 1 (packs x z z') h1⟩,
      ⟨⟨2, ![n, 448]⟩, concatenate ⟨2, ![n, 448]⟩ 1 (packsLast x z) h2⟩] h3 (ix2 y j) = concatenate ⟨2, ![n, 448]⟩ 1 (packsLast x z) h2 (ix2 y ⟨j - 3776, by omega⟩) :=
    fun h => piece_column [⟨⟨2, ![n, 3776]⟩, concatenate ⟨2, ![n, 3776]⟩ 1 (packs x z z') h1⟩, ⟨⟨2, ![n, 448]⟩, concatenate ⟨2, ![n, 448]⟩ 1 (packsLast x z) h2⟩] h3 1 (Nat.lt_succ_self _) _ rfl 3776 rfl y j ⟨j - 3776, by omega⟩ (by dsimp only; omega)
  unfold packed source
  rcases segments j with hn | hn | hn | hn | hn | hn | hn | hn | hn | hn | hn | hn | hn | hn | hn | hn | hn | hn | hn <;>
    repeat first | rw [dif_pos (by omega)] | rw [dif_neg (by omega)]
  · exact (first (by omega)).trans ((column_of_widths (w := 768) _ h1 _ (packs_widths x z z') 0 (by show 0 < 16; decide) _ rfl 0 (by decide) y _ ⟨j - 0, by omega⟩ (by dsimp only; omega)).trans (cut_apply x 0 768 _ y _ _ (by dsimp only; omega)))
  · exact (first (by omega)).trans ((column_of_widths (w := 576) _ h1 _ (packs_widths x z z') 1 (by show 1 < 16; decide) _ rfl 768 (by decide) y _ ⟨j - 768, by omega⟩ (by dsimp only; omega)).trans (cut_apply x 1152 576 _ y _ _ (by dsimp only; omega)))
  · exact (first (by omega)).trans ((column_of_widths (w := 64) _ h1 _ (packs_widths x z z') 2 (by show 2 < 16; decide) _ rfl 1344 (by decide) y _ ⟨j - 1344, by omega⟩ (by dsimp only; omega)).trans (hz _))
  · exact (first (by omega)).trans ((column_of_widths (w := 8) _ h1 _ (packs_widths x z z') 3 (by show 3 < 16; decide) _ rfl 1408 (by decide) y _ ⟨j - 1408, by omega⟩ (by dsimp only; omega)).trans (cut_apply x 1728 8 _ y _ _ (by dsimp only; omega)))
  · exact (first (by omega)).trans ((column_of_widths (w := 5) _ h1 _ (packs_widths x z z') 4 (by show 4 < 16; decide) _ rfl 1416 (by decide) y _ ⟨j - 1416, by omega⟩ (by dsimp only; omega)).trans (cut_apply x 3656 5 _ y _ _ (by dsimp only; omega)))
  · exact (first (by omega)).trans ((column_of_widths (w := 115) _ h1 _ (packs_widths x z z') 5 (by show 5 < 16; decide) _ rfl 1421 (by decide) y _ ⟨j - 1421, by omega⟩ (by dsimp only; omega)).trans (hz' _))
  · exact (first (by omega)).trans ((column_of_widths (w := 384) _ h1 _ (packs_widths x z z') 6 (by show 6 < 16; decide) _ rfl 1536 (by decide) y _ ⟨j - 1536, by omega⟩ (by dsimp only; omega)).trans (cut_apply x 768 384 _ y _ _ (by dsimp only; omega)))
  · exact (first (by omega)).trans ((column_of_widths (w := 320) _ h1 _ (packs_widths x z z') 7 (by show 7 < 16; decide) _ rfl 1920 (by decide) y _ ⟨j - 1920, by omega⟩ (by dsimp only; omega)).trans (cut_apply x 1736 320 _ y _ _ (by dsimp only; omega)))
  · exact (first (by omega)).trans ((column_of_widths (w := 64) _ h1 _ (packs_widths x z z') 8 (by show 8 < 16; decide) _ rfl 2240 (by decide) y _ ⟨j - 2240, by omega⟩ (by dsimp only; omega)).trans (hz _))
  · exact (first (by omega)).trans ((column_of_widths (w := 320) _ h1 _ (packs_widths x z z') 9 (by show 9 < 16; decide) _ rfl 2304 (by decide) y _ ⟨j - 2304, by omega⟩ (by dsimp only; omega)).trans (cut_apply x 2056 320 _ y _ _ (by dsimp only; omega)))
  · exact (first (by omega)).trans ((column_of_widths (w := 64) _ h1 _ (packs_widths x z z') 10 (by show 10 < 16; decide) _ rfl 2624 (by decide) y _ ⟨j - 2624, by omega⟩ (by dsimp only; omega)).trans (hz _))
  · exact (first (by omega)).trans ((column_of_widths (w := 320) _ h1 _ (packs_widths x z z') 11 (by show 11 < 16; decide) _ rfl 2688 (by decide) y _ ⟨j - 2688, by omega⟩ (by dsimp only; omega)).trans (cut_apply x 2376 320 _ y _ _ (by dsimp only; omega)))
  · exact (first (by omega)).trans ((column_of_widths (w := 64) _ h1 _ (packs_widths x z z') 12 (by show 12 < 16; decide) _ rfl 3008 (by decide) y _ ⟨j - 3008, by omega⟩ (by dsimp only; omega)).trans (hz _))
  · exact (first (by omega)).trans ((column_of_widths (w := 320) _ h1 _ (packs_widths x z z') 13 (by show 13 < 16; decide) _ rfl 3072 (by decide) y _ ⟨j - 3072, by omega⟩ (by dsimp only; omega)).trans (cut_apply x 2696 320 _ y _ _ (by dsimp only; omega)))
  · exact (first (by omega)).trans ((column_of_widths (w := 64) _ h1 _ (packs_widths x z z') 14 (by show 14 < 16; decide) _ rfl 3392 (by decide) y _ ⟨j - 3392, by omega⟩ (by dsimp only; omega)).trans (hz _))
  · exact (first (by omega)).trans ((column_of_widths (w := 320) _ h1 _ (packs_widths x z z') 15 (by show 15 < 16; decide) _ rfl 3456 (by decide) y _ ⟨j - 3456, by omega⟩ (by dsimp only; omega)).trans (cut_apply x 3016 320 _ y _ _ (by dsimp only; omega)))
  · exact (last (by omega)).trans ((column_of_widths (w := 64) _ h2 _ (packsLast_widths x z) 0 (by show 0 < 3; decide) _ rfl 0 (by decide) y _ ⟨j - 3776, by omega⟩ (by dsimp only; omega)).trans (hz _))
  · exact (last (by omega)).trans ((column_of_widths (w := 320) _ h2 _ (packsLast_widths x z) 1 (by show 1 < 3; decide) _ rfl 64 (by decide) y _ ⟨j - 3840, by omega⟩ (by dsimp only; omega)).trans (cut_apply x 3336 320 _ y _ _ (by dsimp only; omega)))
  · exact (last (by omega)).trans ((column_of_widths (w := 64) _ h2 _ (packsLast_widths x z) 2 (by show 2 < 3; decide) _ rfl 384 (by decide) y _ ⟨j - 4160, by omega⟩ (by dsimp only; omega)).trans (hz _))

end Cert.Plain

end
-- ==== Proof.ProjArrays.lean ====
/-
  The packed weights and biases that the host passes, at a place.
-/
module

public import proofs.«01_k».proof.Proof.ProjHost
public import proofs.«01_k».proof.Proof.ProjPacks

@[expose] public section

set_option maxRecDepth 16384

noncomputable section

namespace Cert.Kernel4Ideal.HostArrays

open Cert.Kernel4Ideal Cert.Kernel4Ideal.Gen Cert.Plain
open Idealize.ShloMosaic

/-- Zeros of any shape, as the host makes them. -/
def zero (t : Shape) (h : S_.BroadcastsInDim t (![] : Fin 0 → Fin t.rank)) : FVec Ideal t .f32 :=
  broadcastInDim t ![] h (constant S_ .f32 0x00000000#32)

theorem zero_apply (t : Shape) (h : S_.BroadcastsInDim t (![] : Fin 0 → Fin t.rank)) (i : t.Idx) : zero t h i = 0 := Ideal.ofBits_zero_f32

theorem weightArray_apply (w : FVec Ideal S1024x3661 .f32) (k : Fin 1024) (n : Fin 4224) :
    weightArray w (ix2 k n) = packed (fun j => w (ix2 k j)) n := by
  have e : ∀ X : FVec Ideal S1024x4224 .f32, truncf .bf16 X bitsLt_bf16_f32 (ix2 k n) = X (ix2 k n) := fun _ => rfl
  unfold weightArray
  rw [e]
  exact packs_apply (n := 1024) w (zero S1024x64 bcast_S_S1024x64) (zero S1024x115 bcast_S_S1024x115)
    (zero_apply S1024x64 _) (zero_apply S1024x115 _)
    concatenates_S1024x768_S1024x576_S1024x64_S1024x8_S1024x5_S1024x115_S1024x384_S1024x320_S1024x64_S1024x320_S1024x64_S1024x320_S1024x64_S1024x320_S1024x64_S1024x320_S1024x3776_d1
    concatenates_S1024x64_S1024x320_S1024x64_S1024x448_d1 concatenates_S1024x3776_S1024x448_S1024x4224_d1 k n

theorem biasRow_apply (b : FVec Ideal S3661 .f32) (j : Fin 3661) : shapeCast S1x3661 b shapeCasts_S3661_S1x3661 (ix2 0 j) = b (ix1 j) := by
  pointwise

theorem biasArray_apply (b : FVec Ideal S3661 .f32) (n : Fin 4224) :
    biasArray b (ix2 0 n) = packed (fun j => b (ix1 j)) n := by
  have e : packed (fun j => b (ix1 j)) n = packed (fun j => shapeCast S1x3661 b shapeCasts_S3661_S1x3661 (ix2 0 j)) n :=
    congrArg (fun f => packed f n) (funext fun j => (biasRow_apply b j).symm)
  rw [e]
  unfold biasArray
  generalize shapeCast S1x3661 b shapeCasts_S3661_S1x3661 = v
  exact packs_apply (n := 1) v (zero S1x64 bcast_S_S1x64) (zero S1x115 bcast_S_S1x115)
    (zero_apply S1x64 _) (zero_apply S1x115 _)
    concatenates_S1x768_S1x576_S1x64_S1x8_S1x5_S1x115_S1x384_S1x320_S1x64_S1x320_S1x64_S1x320_S1x64_S1x320_S1x64_S1x320_S1x3776_d1
    concatenates_S1x64_S1x320_S1x64_S1x448_d1 concatenates_S1x3776_S1x448_S1x4224_d1 0 n

end Cert.Kernel4Ideal.HostArrays

end
-- ==== Proof.ProjBody.lean ====
/-
  The input projection's arithmetic on one block of 512 tokens read at an index.
-/
module

public import proofs.«01_k».proof.Proof.Gen.Kernel4Ideal.Skeleton
public import proofs.«01_k».proof.Proof.ProjPlain
public import Idealize.ShloMosaic.Lib.Pointwise
public import Idealize.ShloMosaic.Lib.Pipeline.Value
public import Idealize.ShloMosaic.Lib.Tactic.CleanTypes

@[expose] public section

set_option maxRecDepth 16384

noncomputable section

namespace Cert.Kernel4Ideal.Body

open Cert.Kernel4Ideal Cert.Kernel4Ideal.Gen Cert.Plain
open Idealize.ShloMosaic Idealize.ShloMosaic.TcCoe Idealize.SL.Sem

/-- The columns of a segment for one row of a block. -/
abbrev row {n : ℕ} (h : Vec Ideal S512x1024 .bf16) (w : Vec Ideal ⟨2, ![1024, n]⟩ .bf16) (b s : Vec Ideal ⟨2, ![1, n]⟩ .f32) (y : Fin 512) : Fin n → EReal :=
  projected (fun k => h (ix2 y k)) (fun k j => w (ix2 k j)) (fun j => b (ix2 0 j)) (fun j => s (ix2 0 j))

theorem at_col {n k : ℕ} (x : (⟨2, ![n, k]⟩ : Shape).Idx → EReal) (y : Fin n) {a b : Fin k} (h : a.val = b.val) : x (ix2 y a) = x (ix2 y b) :=
  congrArg (fun j => x (ix2 y j)) (Fin.ext h)

/-- Equal places give equal lanes. -/
theorem lane_at {n k : ℕ} (x : (⟨2, ![n, k]⟩ : Shape).Idx → EReal) (cs sa sb : (⟨2, ![n, 128]⟩ : Shape).Idx → EReal) (y : Fin n)
    {a a' b b' d d' : Fin k} {l l' : Fin 128} (ha : a.val = a'.val) (hb : b.val = b'.val) (hd : d.val = d'.val) (hl : l.val = l'.val) :
    x (ix2 y a) * cs (ix2 y l) + x (ix2 y b) * sa (ix2 y l) + x (ix2 y d) * sb (ix2 y l)
      = x (ix2 y a') * cs (ix2 y l') + x (ix2 y b') * sa (ix2 y l') + x (ix2 y d') * sb (ix2 y l') := by
  obtain rfl := Fin.ext ha
  obtain rfl := Fin.ext hb
  obtain rfl := Fin.ext hd
  obtain rfl := Fin.ext hl
  rfl

theorem heads6 (e : Fin 6) : e.val = 0 ∨ e.val = 1 ∨ e.val = 2 ∨ e.val = 3 ∨ e.val = 4 ∨ e.val = 5 := by omega

theorem heads5 (e : Fin 5) : e.val = 0 ∨ e.val = 1 ∨ e.val = 2 ∨ e.val = 3 ∨ e.val = 4 := by omega

variable (h : Vec Ideal S512x1024 .bf16) (cs sa sb : Vec Ideal S512x128 .f32) (y : Fin 512)

section Wide

variable (w : Vec Ideal S1024x384 .bf16) (b s : Vec Ideal S1x384 .f32)

theorem pay3_apply (j : Fin 384) : k0_pay3 h w b s (ix2 y j) = row h w b s y j := by
  pointwise [k0_pay3, k0_pay2, projected]

theorem pay13_apply (j : Fin 384) : k0_pay13 (k0_pay2 h) w b s (ix2 y j) = row h w b s y j := by
  pointwise [k0_pay13, k0_pay2, projected]

theorem pay40_apply (j : Fin 384) : k0_pay40 (k0_pay2 h) w b s (ix2 y j) = row h w b s y j := by
  pointwise [k0_pay40, k0_pay2, projected]

/-- The turn of a segment of 384 columns, transposed. -/
theorem pay12_apply (q : Fin 3) (l : Fin 128) :
    k0_pay12 (k0_pay6 sb) (k0_pay7 h w b s cs sa sb) (k0_pay8 h w b s cs sa sb) (k0_pay9 h w b s) (k0_pay10 h w b s cs) (k0_pay11 h w b s sa)
        (ix2 ⟨q * 128 + l, by omega⟩ y)
      = lane (fun l => row h w b s y ⟨q * 128 + l, by omega⟩) (fun l => cs (ix2 y l)) (fun l => sa (ix2 y l)) (fun l => sb (ix2 y l)) l := by
  simp only [← pay3_apply]
  unfold k0_pay7 k0_pay8 k0_pay10 k0_pay11 k0_pay9
  generalize k0_pay3 h w b s = v
  pointwise [k0_pay12, k0_pay4, k0_pay5, k0_pay6, lane]
  split_ifs <;> refine lane_at _ _ _ _ _ ?_ ?_ ?_ ?_ <;> dsimp only <;> omega

/-- The turn of a segment of 384 columns. -/
theorem pay21_apply (q : Fin 3) (l : Fin 128) :
    k0_pay21 (k0_pay13 (k0_pay2 h) w b s) (k0_pay14 cs) (k0_pay15 sa) (k0_pay16 sb) (k0_pay17 (k0_pay2 h) w b s cs sa sb)
        (k0_pay19 (k0_pay2 h) w b s cs sa) (k0_pay20 (k0_pay2 h) w b s) (ix2 y ⟨q * 128 + l, by omega⟩)
      = lane (fun l => row h w b s y ⟨q * 128 + l, by omega⟩) (fun l => cs (ix2 y l)) (fun l => sa (ix2 y l)) (fun l => sb (ix2 y l)) l := by
  simp only [← pay13_apply]
  unfold k0_pay17 k0_pay19 k0_pay20 k0_pay18
  generalize k0_pay13 (k0_pay2 h) w b s = v
  pointwise [k0_pay21, k0_pay14, k0_pay15, k0_pay16, lane]
  split_ifs <;> refine lane_at _ _ _ _ _ ?_ ?_ ?_ ?_ <;> dsimp only <;> omega

theorem pay35_apply (j : Fin 384) : k0_pay35 (k0_pay2 h) w b (ix2 y j) * s (ix2 0 j) = row h w b s y j := by
  pointwise [k0_pay35, k0_pay2, projected]

set_option maxHeartbeats 6000000 in
/-- The six heads of a block, each followed by sixteen rows of ones. -/
theorem heads_filled (v : FVec Ideal S512x384 .f32) (e : Fin 6) (r : Fin 80) :
    k0_pay36 v s (ix3 0 ⟨e * 80 + r, by omega⟩ y) = if hr : r.val < 64 then v (ix2 y ⟨e * 64 + r, by omega⟩) * s (ix2 0 ⟨e * 64 + r, by omega⟩) else 1 := by
  by_cases hr : r.val < 64
  · rw [dif_pos hr]
    pointwise [k0_pay36]
    rcases heads6 e with he | he | he | he | he | he <;>
    · repeat first | rw [dif_pos (by omega)] | rw [dif_neg (by omega)]
      refine congrArg₂ (· * ·) (at_col v y ?_) (at_col s 0 ?_) <;> simp <;> omega
  · rw [dif_neg hr]
    pointwise [k0_pay36]
    rcases heads6 e with he | he | he | he | he | he <;> repeat first | rfl | rw [dif_pos (by omega)] | rw [dif_neg (by omega)]

/-- The six heads of values, each followed by sixteen rows of ones. -/
theorem pay36_apply (e : Fin 6) (r : Fin 80) :
    k0_pay36 (k0_pay35 (k0_pay2 h) w b) s (ix3 0 ⟨e * 80 + r, by omega⟩ y) = if hr : r.val < 64 then row h w b s y ⟨e * 64 + r, by omega⟩ else 1 := by
  refine (heads_filled ..).trans ?_
  split
  · exact pay35_apply ..
  · rfl

/-- Five heads of a block, each followed by sixteen rows of ones. -/
def filled (v : FVec Ideal S512x384 .f32) : FVec Ideal S400x512 .bf16 :=
  have u : FVec Ideal S384x512 .f32 := transpose S384x512 [1, 0] v transposes_S512x384_p1_0_S384x512
  have o : FVec Ideal S16x512 .f32 := broadcast S16x512 (Scalar.ofBits .f32 0x3F800000#32)
  truncf .bf16 (concatenate S400x512 0 [⟨S64x512, extractStridedSlice S64x512 ![0, 0] u slices_S384x512_o0_0_S64x512⟩, ⟨S16x512, o⟩,
    ⟨S64x512, extractStridedSlice S64x512 ![64, 0] u slices_S384x512_o64_0_S64x512⟩, ⟨S16x512, o⟩,
    ⟨S64x512, extractStridedSlice S64x512 ![128, 0] u slices_S384x512_o128_0_S64x512⟩, ⟨S16x512, o⟩,
    ⟨S64x512, extractStridedSlice S64x512 ![192, 0] u slices_S384x512_o192_0_S64x512⟩, ⟨S16x512, o⟩,
    ⟨S64x512, extractStridedSlice S64x512 ![256, 0] u slices_S384x512_o256_0_S64x512⟩, ⟨S16x512, o⟩]
    concatenates_S64x512_S16x512_S64x512_S16x512_S64x512_S16x512_S64x512_S16x512_S64x512_S16x512_S400x512_d0) bitsLt_bf16_f32

set_option maxHeartbeats 4000000 in
theorem filled_apply (v : FVec Ideal S512x384 .f32) (e : Fin 5) (r : Fin 80) :
    k0_pay1 (filled v) (ix3 0 ⟨e * 80 + r, by omega⟩ y) = if hr : r.val < 64 then v (ix2 y ⟨e * 64 + r, by omega⟩) else 1 := by
  by_cases hr : r.val < 64
  · rw [dif_pos hr]
    pointwise [k0_pay1, filled]
    rcases heads5 e with he | he | he | he | he <;>
    · repeat first | rw [dif_pos (by omega)] | rw [dif_neg (by omega)]
      refine at_col v y ?_ <;> simp <;> omega
  · rw [dif_neg hr]
    pointwise [k0_pay1, filled]
    rcases heads5 e with he | he | he | he | he <;> repeat first | rfl | rw [dif_pos (by omega)] | rw [dif_neg (by omega)]

/-- The five heads of values of a block of 512 positions. -/
theorem pay49_apply (e : Fin 5) (r : Fin 80) :
    k0_pay1 (k0_pay49 (k0_pay2 h) w b s) (ix3 0 ⟨e * 80 + r, by omega⟩ y) = if hr : r.val < 64 then row h w b s y ⟨e * 64 + r, by omega⟩ else 1 := by
  rw [show k0_pay49 (k0_pay2 h) w b s = filled (k0_pay40 (k0_pay2 h) w b s) from rfl]
  refine (filled_apply ..).trans ?_
  split
  · exact pay40_apply ..
  · rfl

theorem pay37_apply (j : Fin 384) : k0_pay37 (k0_pay2 h) w b s (ix2 j y) = row h w b s y j := by
  pointwise [k0_pay37, k0_pay2, projected]

theorem pay39_apply (j : Fin 384) : k0_pay39 (k0_pay38 (k0_pay2 h) w b) s (ix2 y j) = row h w b s y j := by
  pointwise [k0_pay39, k0_pay38, k0_pay2, projected]

theorem pay47_apply (j : Fin 384) : k0_pay47 (k0_pay2 h) w b s (ix2 j y) = row h w b s y j := by
  pointwise [k0_pay47, k0_pay2, projected]

theorem pay48_apply (j : Fin 384) : k0_pay48 (k0_pay2 h) w b s (ix2 y j) = row h w b s y j := by
  pointwise [k0_pay48, k0_pay2, projected]

end Wide

section Band

variable (w : Vec Ideal S1024x384 .bf16) (b s : Vec Ideal S1x384 .f32) (e : Fin 5) (r : Fin 80) (l : Fin 128)

/-- The value of a head in a block of 128 positions, its extra rows ones. -/
def bandAt (v : FVec Ideal S512x384 .f32) (g : Fin 4) (e : Fin 5) (r : Fin 80) (l : Fin 128) : EReal :=
  if hr : r.val < 64 then v (ix2 ⟨g * 128 + l, by omega⟩ ⟨e * 64 + r, by omega⟩) else 1

theorem at_place (v : FVec Ideal S512x384 .f32) {a a' : Fin 512} {d d' : Fin 384} (ha : a.val = a'.val) (hd : d.val = d'.val) :
    v (ix2 a d) = v (ix2 a' d') := by
  obtain rfl := Fin.ext ha
  obtain rfl := Fin.ext hd
  rfl

set_option maxHeartbeats 2000000 in
theorem pay42_apply : k0_pay42 (k0_pay2 h) w b s (ix3 0 ⟨e * 80 + r, by omega⟩ l) = bandAt (k0_pay40 (k0_pay2 h) w b s) 0 e r l := by
  unfold k0_pay42
  generalize k0_pay40 (k0_pay2 h) w b s = v
  unfold bandAt
  by_cases hr : r.val < 64
  · rw [dif_pos hr]
    pointwise [k0_pay41]
    rcases heads5 e with he | he | he | he | he <;>
    · repeat first | rw [dif_pos (by omega)] | rw [dif_neg (by omega)]
      refine at_place v ?_ ?_ <;> simp <;> omega
  · rw [dif_neg hr]
    pointwise [k0_pay41]
    rcases heads5 e with he | he | he | he | he <;> repeat first | rfl | rw [dif_pos (by omega)] | rw [dif_neg (by omega)]

set_option maxHeartbeats 2000000 in
theorem pay44_apply : k0_pay44 (k0_pay43 (k0_pay2 h) w b s) (ix3 0 ⟨e * 80 + r, by omega⟩ l) = bandAt (k0_pay40 (k0_pay2 h) w b s) 1 e r l := by
  unfold k0_pay43
  generalize k0_pay40 (k0_pay2 h) w b s = v
  unfold bandAt
  by_cases hr : r.val < 64
  · rw [dif_pos hr]
    pointwise [k0_pay44, k0_pay41]
    rcases heads5 e with he | he | he | he | he <;>
    · repeat first | rw [dif_pos (by omega)] | rw [dif_neg (by omega)]
      refine at_place v ?_ ?_ <;> simp <;> omega
  · rw [dif_neg hr]
    pointwise [k0_pay44, k0_pay41]
    rcases heads5 e with he | he | he | he | he <;> repeat first | rfl | rw [dif_pos (by omega)] | rw [dif_neg (by omega)]

set_option maxHeartbeats 2000000 in
theorem pay45_apply (v : FVec Ideal S512x384 .f32) : k0_pay45 v k0_pay41 (ix3 0 ⟨e * 80 + r, by omega⟩ l) = bandAt v 2 e r l := by
  unfold bandAt
  by_cases hr : r.val < 64
  · rw [dif_pos hr]
    pointwise [k0_pay45, k0_pay41]
    rcases heads5 e with he | he | he | he | he <;>
    · repeat first | rw [dif_pos (by omega)] | rw [dif_neg (by omega)]
      refine at_place v ?_ ?_ <;> simp <;> omega
  · rw [dif_neg hr]
    pointwise [k0_pay45, k0_pay41]
    rcases heads5 e with he | he | he | he | he <;> repeat first | rfl | rw [dif_pos (by omega)] | rw [dif_neg (by omega)]

set_option maxHeartbeats 2000000 in
theorem pay46_apply (v : FVec Ideal S512x384 .f32) : k0_pay46 v k0_pay41 (ix3 0 ⟨e * 80 + r, by omega⟩ l) = bandAt v 3 e r l := by
  unfold bandAt
  by_cases hr : r.val < 64
  · rw [dif_pos hr]
    pointwise [k0_pay46, k0_pay41]
    rcases heads5 e with he | he | he | he | he <;>
    · repeat first | rw [dif_pos (by omega)] | rw [dif_neg (by omega)]
      refine at_place v ?_ ?_ <;> simp <;> omega
  · rw [dif_neg hr]
    pointwise [k0_pay46, k0_pay41]
    rcases heads5 e with he | he | he | he | he <;> repeat first | rfl | rw [dif_pos (by omega)] | rw [dif_neg (by omega)]

end Band

section Index

variable (w : Vec Ideal S1024x512 .bf16) (b s : Vec Ideal S1x512 .f32)

theorem pay22_apply (j : Fin 512) : k0_pay22 (k0_pay2 h) w b s (ix2 y j) = row h w b s y j := by
  pointwise [k0_pay22, k0_pay2, projected]

/-- The turn of a segment of 512 columns, transposed. -/
theorem pay29_apply (q : Fin 4) (l : Fin 128) :
    k0_pay29 (k0_pay22 (k0_pay2 h) w b s) (k0_pay23 cs) (k0_pay24 sa) (k0_pay25 sb) (k0_pay26 (k0_pay2 h) w b s cs sa sb)
        (k0_pay27 (k0_pay2 h) w b s) (k0_pay28 (k0_pay2 h) w b s cs) (ix2 ⟨q * 128 + l, by omega⟩ y)
      = lane (fun l => row h w b s y ⟨q * 128 + l, by omega⟩) (fun l => cs (ix2 y l)) (fun l => sa (ix2 y l)) (fun l => sb (ix2 y l)) l := by
  simp only [← pay22_apply]
  unfold k0_pay26 k0_pay28 k0_pay27
  generalize k0_pay22 (k0_pay2 h) w b s = v
  pointwise [k0_pay29, k0_pay23, k0_pay24, k0_pay25, lane]
  split_ifs <;> refine lane_at _ _ _ _ _ ?_ ?_ ?_ ?_ <;> dsimp only <;> omega

end Index

section Small

variable (w : Vec Ideal S1024x128 .bf16) (b s : Vec Ideal S1x128 .f32)

theorem pay30_apply (j : Fin 128) : k0_pay30 (k0_pay2 h) w b s (ix2 y j) = row h w b s y j := by
  pointwise [k0_pay30, k0_pay2, projected]

/-- The turn of one head. -/
theorem pay32_apply (j : Fin 64) :
    k0_pay32 (k0_pay30 (k0_pay2 h) w b s) (k0_pay31 cs) sa sb (ix2 y j)
      = lane (row h w b s y) (fun l => cs (ix2 y l)) (fun l => sa (ix2 y l)) (fun l => sb (ix2 y l)) ⟨j, by omega⟩ := by
  have e : row h w b s y = fun j => k0_pay30 (k0_pay2 h) w b s (ix2 y j) := funext fun j => (pay30_apply ..).symm
  rw [e]
  generalize k0_pay30 (k0_pay2 h) w b s = v
  pointwise [k0_pay32, k0_pay31, lane]
  refine lane_at _ _ _ _ _ ?_ ?_ ?_ ?_ <;> dsimp only <;> omega

theorem pay33_apply (j : Fin 128) : k0_pay33 (k0_pay2 h) w b s (ix2 y j) = row h w b s y j := by
  pointwise [k0_pay33, k0_pay2, projected]

theorem pay34_apply (j : Fin 8) : k0_pay34 (k0_pay2 h) w b s (ix2 j y) = row h w b s y ⟨j, by omega⟩ := by
  pointwise [k0_pay34, k0_pay33, k0_pay2, projected]

end Small

end Cert.Kernel4Ideal.Body

end
-- ==== Proof.ProjBlocks.lean ====
/-
  What the input projection's body leaves in its thirteen output blocks, read at an index: columns of the packed segments, turned
  where the segment holds heads to turn.
-/
module

public import proofs.«01_k».proof.Proof.ProjBody
public import proofs.«01_k».proof.Proof.ProjFrame
public import Idealize.ShloMosaic.Lib.Pipeline.ValueKit

@[expose] public section

set_option maxRecDepth 16384

noncomputable section

namespace Cert.Kernel4Ideal.Body

open Cert.Kernel4Ideal Cert.Kernel4Ideal.Gen Cert.Plain
open Idealize.ShloMosaic Idealize.ShloMosaic.TcCoe Idealize.SL.Sem

/-- The columns of a loaded segment are columns of the packed arrays. -/
theorem row_ld {n : ℕ} (g : ℕ) (hg : g + n ≤ 4224) (h : Vec Ideal S512x1024 .bf16) (w : Vec Ideal S1024x4224 .bf16) (b s : Vec Ideal S1x4224 .f32)
    (iw : ∀ a, ![0, g] a + (⟨2, ![1024, n]⟩ : Shape).size a ≤ S1024x4224.size a) (ib : ∀ a, ![0, g] a + (⟨2, ![1, n]⟩ : Shape).size a ≤ S1x4224.size a)
    (y : Fin 512) (j : Fin n) :
    row h (View.ld w (Rect.unit (s := S1024x4224) ![0, g] (⟨2, ![1024, n]⟩ : Shape).size iw))
        (View.ld b (Rect.unit (s := S1x4224) ![0, g] (⟨2, ![1, n]⟩ : Shape).size ib))
        (View.ld s (Rect.unit (s := S1x4224) ![0, g] (⟨2, ![1, n]⟩ : Shape).size ib)) y j
      = row h w b s y ⟨g + j, by omega⟩ := by
  have ew : ∀ k : Fin 1024, View.ld w (Rect.unit (s := S1024x4224) ![0, g] (⟨2, ![1024, n]⟩ : Shape).size iw) (ix2 k j) = w (ix2 k ⟨g + j, by omega⟩) := fun k => by
    refine congrArg w (funext fun a => Fin.ext ?_)
    match a with
    | 0 => show 0 + 1 * k.val = k.val; omega
    | 1 => show g + 1 * j.val = g + j.val; omega
  have eb : ∀ v : Vec Ideal S1x4224 .f32, View.ld v (Rect.unit (s := S1x4224) ![0, g] (⟨2, ![1, n]⟩ : Shape).size ib) (ix2 0 j) = v (ix2 0 ⟨g + j, by omega⟩) := fun v => by
    refine congrArg v (funext fun a => Fin.ext ?_)
    match a with
    | 0 => rfl
    | 1 => show g + 1 * j.val = g + j.val; omega
  exact congrArg₂ (· * ·) (congrArg₂ (· + ·) (Finset.sum_congr rfl fun k _ => congrArg (h (ix2 y k) * ·) (ew k)) (eb b)) (eb s)

/-- A piece of four blocks that holds a place. -/
theorem piece_at {α : Type} (w : S1x400x128.Idx → α) (g : Fin 4) (o : ℕ) (k : Fin 400) (l : Fin 128) (v : α) (hw : g.val = o → w (ix3 0 k l) = v)
    (x : S1x400x128.Idx) (hx : ∀ a, ((ix3 g k l : S4x400x128.Idx) a : ℕ) = ![o, 0, 0] a + x a) : w x = v := by
  obtain ⟨u, k', l', rfl⟩ : ∃ (u : Fin 1) (k' : Fin 400) (l' : Fin 128), x = ix3 u k' l' := ⟨x 0, x 1, x 2, eq_ix3 x⟩
  obtain rfl : u = 0 := Subsingleton.elim _ _
  have h0 : g.val = o + 0 := hx 0
  have h1 : k.val = 0 + k'.val := hx 1
  have h2 : l.val = 0 + l'.val := hx 2
  obtain rfl : k = k' := Fin.ext (by omega)
  obtain rfl : l = l' := Fin.ext (by omega)
  exact hw (by omega)

variable (x0 : Vec Ideal S512x1024 .bf16) (x1 : Vec Ideal S1024x4224 .bf16) (x2 x3 : Vec Ideal S1x4224 .f32) (x4 x5 x6 : Vec Ideal S512x128 .f32) (y : Fin 512)

/-- The turn of a chunk of 128 packed columns from the column `g` on. -/
def laneAt (g : ℕ) (hg : g + 128 ≤ 4224) (l : Fin 128) : EReal :=
  lane (fun l => row x0 x1 x2 x3 y ⟨g + l, by omega⟩) (fun l => x4 (ix2 y l)) (fun l => x5 (ix2 y l)) (fun l => x6 (ix2 y l)) l

theorem out7_apply (q : Fin 3) (l : Fin 128) :
    out0_7 x0 x1 x2 x3 x4 x5 x6 (ix2 ⟨q * 128 + l, by omega⟩ y) = laneAt x0 x1 x2 x3 x4 x5 x6 y (0 + q * 128) (by omega) l := by
  unfold out0_7
  frame_out
  refine (pay12_apply ..).trans (congrArg (fun f => lane f _ _ _ l) (funext fun l => ?_))
  refine (row_ld 0 (by omega) ..).trans (congrArg (row x0 x1 x2 x3 y) (Fin.ext ?_))
  dsimp only; omega

theorem out8_apply (q : Fin 3) (l : Fin 128) :
    out0_8 x0 x1 x2 x3 x4 x5 x6 (ix2 y ⟨q * 128 + l, by omega⟩) = laneAt x0 x1 x2 x3 x4 x5 x6 y (384 + q * 128) (by omega) l := by
  unfold out0_8 k0_pay50
  frame_out
  refine (pay21_apply ..).trans (congrArg (fun f => lane f _ _ _ l) (funext fun l => ?_))
  refine (row_ld 384 (by omega) ..).trans (congrArg (row x0 x1 x2 x3 y) (Fin.ext ?_))
  dsimp only; omega

theorem out10_apply (q : Fin 4) (l : Fin 128) :
    out0_10 x0 x1 x2 x3 x4 x5 x6 (ix2 ⟨q * 128 + l, by omega⟩ y) = laneAt x0 x1 x2 x3 x4 x5 x6 y (768 + q * 128) (by omega) l := by
  unfold out0_10 k0_pay50
  frame_out
  refine (pay29_apply ..).trans (congrArg (fun f => lane f _ _ _ l) (funext fun l => ?_))
  refine (row_ld 768 (by omega) ..).trans (congrArg (row x0 x1 x2 x3 y) (Fin.ext ?_))
  dsimp only; omega

theorem out11_apply (j : Fin 64) : out0_11 x0 x1 x2 x3 x4 x5 x6 (ix2 y j) = laneAt x0 x1 x2 x3 x4 x5 x6 y 1280 (by omega) ⟨j, by omega⟩ := by
  unfold out0_11 k0_pay50
  frame_out
  exact (pay32_apply ..).trans (congrArg (fun f => lane f _ _ _ _) (funext fun l => row_ld 1280 (by omega) ..))

theorem out12_apply (j : Fin 8) : out0_12 x0 x1 x2 x3 x4 x5 x6 (ix2 j y) = row x0 x1 x2 x3 y ⟨1408 + j, by omega⟩ := by
  unfold out0_12 k0_pay50
  frame_out
  exact (pay34_apply ..).trans (row_ld 1408 (by omega) ..)

theorem out13_apply (j : Fin 128) : out0_13 x0 x1 x2 x3 x4 x5 x6 (ix2 y j) = row x0 x1 x2 x3 y ⟨1408 + j, by omega⟩ := by
  unfold out0_13 k0_pay50
  frame_out
  exact (pay33_apply ..).trans (row_ld 1408 (by omega) ..)

theorem out14_apply (j : Fin 384) : out0_14 x0 x1 x2 x3 x4 x5 x6 (ix2 j y) = row x0 x1 x2 x3 y ⟨1920 + j, by omega⟩ := by
  unfold out0_14 k0_pay50
  frame_out
  exact (pay37_apply ..).trans (row_ld 1920 (by omega) ..)

theorem out15_apply (j : Fin 384) : out0_15 x0 x1 x2 x3 x4 x5 x6 (ix2 y j) = row x0 x1 x2 x3 y ⟨2304 + j, by omega⟩ := by
  unfold out0_15 k0_pay50
  frame_out
  exact (pay39_apply ..).trans (row_ld 2304 (by omega) ..)

theorem out17_apply (j : Fin 384) : out0_17 x0 x1 x2 x3 x4 x5 x6 (ix2 j y) = row x0 x1 x2 x3 y ⟨3072 + j, by omega⟩ := by
  unfold out0_17 k0_pay50
  frame_out
  exact (pay47_apply ..).trans (row_ld 3072 (by omega) ..)

theorem out18_apply (j : Fin 384) : out0_18 x0 x1 x2 x3 x4 x5 x6 (ix2 y j) = row x0 x1 x2 x3 y ⟨3456 + j, by omega⟩ := by
  unfold out0_18 k0_pay50
  frame_out
  exact (pay48_apply ..).trans (row_ld 3456 (by omega) ..)

theorem out9_apply (e : Fin 6) (r : Fin 80) :
    out0_9 x0 x1 x2 x3 x4 x5 x6 (ix3 0 ⟨e * 80 + r, by omega⟩ y) = if hr : r.val < 64 then row x0 x1 x2 x3 y ⟨1536 + (e * 64 + r), by omega⟩ else 1 := by
  unfold out0_9 k0_pay50
  frame_out
  refine (pay36_apply ..).trans ?_
  split
  · exact row_ld 1536 (by omega) ..
  · rfl

theorem out19_apply (e : Fin 5) (r : Fin 80) :
    out0_19 x0 x1 x2 x3 x4 x5 x6 (ix3 0 ⟨e * 80 + r, by omega⟩ y) = if hr : r.val < 64 then row x0 x1 x2 x3 y ⟨3840 + (e * 64 + r), by omega⟩ else 1 := by
  unfold out0_19 k0_pay50
  frame_out
  refine (pay49_apply ..).trans ?_
  split
  · exact row_ld 3840 (by omega) ..
  · rfl

theorem out16_apply (g : Fin 4) (e : Fin 5) (r : Fin 80) (l : Fin 128) :
    out0_16 x0 x1 x2 x3 x4 x5 x6 (ix3 g ⟨e * 80 + r, by omega⟩ l)
      = if hr : r.val < 64 then row x0 x1 x2 x3 ⟨g * 128 + l, by omega⟩ ⟨2688 + (e * 64 + r), by omega⟩ else 1 := by
  have key : out0_16 x0 x1 x2 x3 x4 x5 x6 (ix3 g ⟨e * 80 + r, by omega⟩ l)
      = bandAt (k0_pay40 (k0_pay2 x0) (View.ld x1 r0_24) (View.ld x2 r0_25) (View.ld x3 r0_25)) g e r l := by
    unfold out0_16 k0_pay52 k0_pay51 k0_pay50
    rw [show View.ld x0 r0_0 = x0 from View.ld_unit_lit' _ x0 (by decide)]
    refine View.canon_eq_of_allAt _ _ _ (cover0_16 _ _ _ _ _)
      (View.allAt_cons_unit _ _ _ _ _ (piece_at _ g 3 _ l _ fun hg => ?_) (View.allAt_cons_unit _ _ _ _ _ (piece_at _ g 2 _ l _ fun hg => ?_)
        (View.allAt_cons_unit _ _ _ _ _ (piece_at _ g 1 _ l _ fun hg => ?_) (View.allAt_cons_unit _ _ _ _ _ (piece_at _ g 0 _ l _ fun hg => ?_) (View.allAt_nil _ _)))))
    · obtain rfl : g = 3 := Fin.ext hg
      exact pay46_apply ..
    · obtain rfl : g = 2 := Fin.ext hg
      exact pay45_apply ..
    · obtain rfl : g = 1 := Fin.ext hg
      exact pay44_apply ..
    · obtain rfl : g = 0 := Fin.ext hg
      exact pay42_apply ..
  rw [key]
  unfold bandAt
  split
  · exact (pay40_apply ..).trans (row_ld 2688 (by omega) ..)
  · rfl

end Cert.Kernel4Ideal.Body

end
-- ==== Proof.ProjRef.lean ====
/-
  The reference of the input projection read at an index: its thirteen results as plain formulas over the five arguments.
-/
module

public import proofs.«01_k».proof.Proof.Gen.Reference4Ideal
public import proofs.«01_k».proof.Proof.ProjPlain
public import Idealize.ShloMosaic.Lib.Pointwise
public import Idealize.ShloMosaic.Lib.Tactic.CleanTypes

@[expose] public section

set_option maxRecDepth 16384

noncomputable section

namespace Cert.Reference4Ideal.RefValue

open Cert.Reference4Ideal Cert.Reference4Ideal.Gen Cert.Plain Idealize.ShloMosaic Idealize.ShloMosaic.TcCoe Idealize.SL.Sem

/-- The projection of every token. -/
def proj (h : FVec Ideal S32768x1024 .f32) (w : FVec Ideal S1024x3661 .f32) (b : FVec Ideal S3661 .f32) : FVec Ideal S32768x3661 .f32 :=
  addf (Host.dotGeneral dot_S32768x1024_S1024x3661_S32768x3661_1_0_0_1_n_n none h w)
    (broadcastInDim S32768x3661 ![0, 1] bcast_S1x3661_S32768x3661_0_1 (broadcastInDim S1x3661 ![1] bcast_S3661_S1x3661_1 b))

/-- The heads that are turned, side by side. -/
def heads (p : FVec Ideal S32768x3661 .f32) : FVec Ideal S32768x1344 .f32 :=
  concatenate S32768x1344 1 [⟨S32768x384, (mulf (extractStridedSlice S32768x384 ![0, 0] p slices_S32768x3661_S32768x384_0_0) (broadcastInDim S32768x384 ![] bcast_S_S32768x384 (constant S_ .f32 0x3E38AA3B#32)))⟩,
     ⟨S32768x384, (extractStridedSlice S32768x384 ![0, 384] p slices_S32768x3661_S32768x384_0_384)⟩,
     ⟨S32768x512, (extractStridedSlice S32768x512 ![0, 1152] p slices_S32768x3661_S32768x512_0_1152)⟩,
     ⟨S32768x64, (extractStridedSlice S32768x64 ![0, 1664] p slices_S32768x3661_S32768x64_0_1664)⟩] concatenates_S32768x384_S32768x384_S32768x512_S32768x64_S32768x1344_d1

/-- The heads, turned by their token's tables. -/
def turned (hd : FVec Ideal S32768x1344 .f32) (cos sin : FVec Ideal S32768x8 .f32) : FVec Ideal S32768x1344 .f32 :=
  shapeCast S32768x1344 (concatenate S32768x21x64 2 [⟨S32768x21x8, (subf (mulf (extractStridedSlice S32768x21x8 ![0, 0, 0] (shapeCast S32768x21x64 hd shapeCasts_S32768x1344_S32768x21x64) slices_S32768x21x64_S32768x21x8_0_0_0) (broadcastInDim S32768x21x8 ![0, 1, 2] bcast_S32768x1x8_S32768x21x8_0_1_2 (broadcastInDim S32768x1x8 ![0, 2] bcast_S32768x8_S32768x1x8_0_2 cos))) (mulf (extractStridedSlice S32768x21x8 ![0, 0, 8] (shapeCast S32768x21x64 hd shapeCasts_S32768x1344_S32768x21x64) slices_S32768x21x64_S32768x21x8_0_0_8) (broadcastInDim S32768x21x8 ![0, 1, 2] bcast_S32768x1x8_S32768x21x8_0_1_2 (broadcastInDim S32768x1x8 ![0, 2] bcast_S32768x8_S32768x1x8_0_2 sin))))⟩,
     ⟨S32768x21x8, (addf (mulf (extractStridedSlice S32768x21x8 ![0, 0, 8] (shapeCast S32768x21x64 hd shapeCasts_S32768x1344_S32768x21x64) slices_S32768x21x64_S32768x21x8_0_0_8) (broadcastInDim S32768x21x8 ![0, 1, 2] bcast_S32768x1x8_S32768x21x8_0_1_2 (broadcastInDim S32768x1x8 ![0, 2] bcast_S32768x8_S32768x1x8_0_2 cos))) (mulf (extractStridedSlice S32768x21x8 ![0, 0, 0] (shapeCast S32768x21x64 hd shapeCasts_S32768x1344_S32768x21x64) slices_S32768x21x64_S32768x21x8_0_0_0) (broadcastInDim S32768x21x8 ![0, 1, 2] bcast_S32768x1x8_S32768x21x8_0_1_2 (broadcastInDim S32768x1x8 ![0, 2] bcast_S32768x8_S32768x1x8_0_2 sin))))⟩,
     ⟨S32768x21x48, (extractStridedSlice S32768x21x48 ![0, 0, 16] (shapeCast S32768x21x64 hd shapeCasts_S32768x1344_S32768x21x64) slices_S32768x21x64_S32768x21x48_0_0_16)⟩] concatenates_S32768x21x8_S32768x21x8_S32768x21x48_S32768x21x64_d2) shapeCasts_S32768x21x64_S32768x1344

/-- The queries of the first mixer. -/
def queriesA (r : FVec Ideal S32768x1344 .f32) : FVec Ideal S384x32768 .bf16 :=
  truncf .bf16 (transpose S384x32768 [1, 0] (extractStridedSlice S32768x384 ![0, 0] r slices_S32768x1344_S32768x384_0_0) transposes_S32768x384_S384x32768_1_0) bitsLt_bf16_f32

/-- The keys of the first mixer. -/
def keysA (r : FVec Ideal S32768x1344 .f32) : FVec Ideal S32768x384 .bf16 :=
  truncf .bf16 (extractStridedSlice S32768x384 ![0, 384] r slices_S32768x1344_S32768x384_0_384) bitsLt_bf16_f32

/-- The queries of the index. -/
def queriesIdx (r : FVec Ideal S32768x1344 .f32) : FVec Ideal S512x32768 .bf16 :=
  truncf .bf16 (transpose S512x32768 [1, 0] (extractStridedSlice S32768x512 ![0, 768] r slices_S32768x1344_S32768x512_0_768) transposes_S32768x512_S512x32768_1_0) bitsLt_bf16_f32

/-- The key of the index. -/
def keyIdx (r : FVec Ideal S32768x1344 .f32) : FVec Ideal S32768x64 .bf16 :=
  truncf .bf16 (extractStridedSlice S32768x64 ![0, 1280] r slices_S32768x1344_S32768x64_0_1280) bitsLt_bf16_f32

/-- The values of the first mixer by heads. -/
def valuesA (p : FVec Ideal S32768x3661 .f32) : FVec Ideal S64x480x512 .bf16 :=
  truncf .bf16 (shapeCast S64x480x512 (pad S64x6x80x512 ![0, 0, 0, 0] ![0, 0, 16, 0] ![0, 0, 0, 0]
    (transpose S64x6x64x512 [0, 2, 3, 1] (shapeCast S64x512x6x64 (extractStridedSlice S32768x384 ![0, 768] p slices_S32768x3661_S32768x384_0_768)
      shapeCasts_S32768x384_S64x512x6x64) transposes_S64x512x6x64_S64x6x64x512_0_2_3_1)
    (constant S_ .f32 0x3F800000#32) pads_S64x6x64x512_S64x6x80x512_000_000_0160_000 h_S_) shapeCasts_S64x6x80x512_S64x480x512) bitsLt_bf16_f32

/-- The index weights of a token. -/
def weights (p : FVec Ideal S32768x3661 .f32) : FVec Ideal S32768x8 .f32 :=
  mulf (extractStridedSlice S32768x8 ![0, 1728] p slices_S32768x3661_S32768x8_0_1728) (broadcastInDim S32768x8 ![] bcast_S_S32768x8 (constant S_ .f32 0x3D3504F3#32))

/-- The index weights, transposed. -/
def weightsT (p : FVec Ideal S32768x3661 .f32) : FVec Ideal S8x32768 .f32 :=
  transpose S8x32768 [1, 0] (weights p) transposes_S32768x8_S8x32768_1_0

/-- The index weights and the forgetting gates of a token in one row. -/
def small (p : FVec Ideal S32768x3661 .f32) : FVec Ideal S32768x128 .f32 :=
  pad S32768x128 ![0, 0] ![0, 115] ![0, 0] (concatenate S32768x13 1 [⟨S32768x8, weights p⟩,
    ⟨S32768x5, extractStridedSlice S32768x5 ![0, 3656] p slices_S32768x3661_S32768x5_0_3656⟩] concatenates_S32768x8_S32768x5_S32768x13_d1)
    (constant S_ .f32 0x00000000#32) pads_S32768x13_S32768x128_000_01150 h_S_

/-- Heads of 320 columns filled up to 384. -/
def wide (a : FVec Ideal S32768x320 .f32) : FVec Ideal S32768x384 .f32 :=
  pad S32768x384 ![0, 0] ![0, 64] ![0, 0] a (constant S_ .f32 0x00000000#32) pads_S32768x320_S32768x384_000_0640 h_S_

/-- The 320 columns scaled by one number. -/
def times (a : FVec Ideal S32768x320 .f32) (s : BitVec 32) : FVec Ideal S32768x320 .f32 :=
  mulf a (broadcastInDim S32768x320 ![] bcast_S_S32768x320 (constant S_ .f32 s))

/-- The columns of the second mixer. -/
def partB (p : FVec Ideal S32768x3661 .f32) : FVec Ideal S32768x960 .f32 := extractStridedSlice S32768x960 ![0, 1736] p slices_S32768x3661_S32768x960_0_1736

/-- The columns of the third mixer. -/
def partC (p : FVec Ideal S32768x3661 .f32) : FVec Ideal S32768x960 .f32 := extractStridedSlice S32768x960 ![0, 2696] p slices_S32768x3661_S32768x960_0_2696

/-- The queries of the second or third mixer. -/
def queries (a : FVec Ideal S32768x960 .f32) (s : BitVec 32) : FVec Ideal S384x32768 .bf16 :=
  truncf .bf16 (transpose S384x32768 [1, 0] (wide (times (extractStridedSlice S32768x320 ![0, 0] a slices_S32768x960_S32768x320_0_0) s)) transposes_S32768x384_S384x32768_1_0) bitsLt_bf16_f32

/-- The keys of the second or third mixer. -/
def keys (a : FVec Ideal S32768x960 .f32) : FVec Ideal S32768x384 .bf16 :=
  truncf .bf16 (wide (extractStridedSlice S32768x320 ![0, 320] a slices_S32768x960_S32768x320_0_320)) bitsLt_bf16_f32

/-- The values of the second mixer by heads, in blocks of 128 positions. -/
def valuesB (a : FVec Ideal S32768x960 .f32) : FVec Ideal S256x400x128 .bf16 :=
  truncf .bf16 (shapeCast S256x400x128 (pad S256x5x80x128 ![0, 0, 0, 0] ![0, 0, 16, 0] ![0, 0, 0, 0]
    (transpose S256x5x64x128 [0, 2, 3, 1] (shapeCast S256x128x5x64 (extractStridedSlice S32768x320 ![0, 640] a slices_S32768x960_S32768x320_0_640)
      shapeCasts_S32768x320_S256x128x5x64) transposes_S256x128x5x64_S256x5x64x128_0_2_3_1)
    (constant S_ .f32 0x3F800000#32) pads_S256x5x64x128_S256x5x80x128_000_000_0160_000 h_S_) shapeCasts_S256x5x80x128_S256x400x128) bitsLt_bf16_f32

/-- The values of the third mixer by heads, in blocks of 512 positions. -/
def valuesC (a : FVec Ideal S32768x960 .f32) : FVec Ideal S64x400x512 .bf16 :=
  truncf .bf16 (shapeCast S64x400x512 (pad S64x5x80x512 ![0, 0, 0, 0] ![0, 0, 16, 0] ![0, 0, 0, 0]
    (transpose S64x5x64x512 [0, 2, 3, 1] (shapeCast S64x512x5x64 (extractStridedSlice S32768x320 ![0, 640] a slices_S32768x960_S32768x320_0_640)
      shapeCasts_S32768x320_S64x512x5x64) transposes_S64x512x5x64_S64x5x64x512_0_2_3_1)
    (constant S_ .f32 0x3F800000#32) pads_S64x5x64x512_S64x5x80x512_000_000_0160_000 h_S_) shapeCasts_S64x5x80x512_S64x400x512) bitsLt_bf16_f32

/-- The number that a float word stands for. -/
abbrev num (s : BitVec 32) : EReal := Ideal.ofBits FTy.f32 s

section

variable (h : FVec Ideal S32768x1024 .f32) (w : FVec Ideal S1024x3661 .f32) (b : FVec Ideal S3661 .f32) (p : FVec Ideal S32768x3661 .f32)
  (hd r : FVec Ideal S32768x1344 .f32) (cos sin : FVec Ideal S32768x8 .f32) (t : Fin 32768)

theorem proj_apply (j : Fin 3661) : proj h w b (ix2 t j) = ∑ k : Fin 1024, h (ix2 t k) * w (ix2 k j) + b (ix1 j) := by
  pointwise [proj]

theorem at_place {n k : ℕ} (x : (⟨2, ![n, k]⟩ : Shape).Idx → EReal) (y : Fin n) {a b : Fin k} (e : a.val = b.val) : x (ix2 y a) = x (ix2 y b) :=
  congrArg (fun j => x (ix2 y j)) (Fin.ext e)

theorem heads_apply (n : Fin 1344) :
    heads p (ix2 t n) = if h : n.val < 384 then p (ix2 t ⟨n, by omega⟩) * num 0x3E38AA3B#32
      else if h : n.val < 768 then p (ix2 t ⟨n, by omega⟩) else p (ix2 t ⟨n + 384, by omega⟩) := by
  pointwise [heads]
  repeat' split
  all_goals first | rfl | (exfalso; omega) | (refine at_place p t ?_; dsimp only; omega)

theorem turned_apply (n : Fin 1344) :
    turned hd cos sin (ix2 t n) = turn (fun d => hd (ix2 t ⟨n / 64 * 64 + d, by omega⟩)) (fun j => cos (ix2 t j)) (fun j => sin (ix2 t j)) ⟨n % 64, by omega⟩ := by
  pointwise [turned, turn]
  repeat' split
  all_goals first
    | (exfalso; omega)
    | (refine congrArg₂ (· - ·) (congrArg (· * _) (at_place hd t ?_)) (congrArg (· * _) (at_place hd t ?_)) <;> dsimp only <;> omega)
    | (refine congrArg₂ (· + ·) (congrArg (· * _) (at_place hd t ?_)) (congrArg (· * _) (at_place hd t ?_)) <;> dsimp only <;> omega)
    | (refine at_place hd t ?_; dsimp only; omega)

theorem queriesA_apply (j : Fin 384) : queriesA r (ix2 j t) = r (ix2 t ⟨j, by omega⟩) := by
  pointwise [queriesA]

theorem keysA_apply (j : Fin 384) : keysA r (ix2 t j) = r (ix2 t ⟨384 + j, by omega⟩) := by
  pointwise [keysA]

theorem queriesIdx_apply (j : Fin 512) : queriesIdx r (ix2 j t) = r (ix2 t ⟨768 + j, by omega⟩) := by
  pointwise [queriesIdx]

theorem keyIdx_apply (j : Fin 64) : keyIdx r (ix2 t j) = r (ix2 t ⟨1280 + j, by omega⟩) := by
  pointwise [keyIdx]

theorem valuesA_apply (a : Fin 64) (e : Fin 6) (d : Fin 80) (y : Fin 512) :
    valuesA p (ix3 a ⟨e * 80 + d, by omega⟩ y)
      = if hd : d.val < 64 then p (ix2 ⟨a * 512 + y, by omega⟩ ⟨768 + (e * 64 + d), by omega⟩) else 1 := by
  pointwise [valuesA]

theorem weights_apply (j : Fin 8) : weights p (ix2 t j) = p (ix2 t ⟨1728 + j, by omega⟩) * num 0x3D3504F3#32 := by
  pointwise [weights]

theorem weightsT_apply (j : Fin 8) : weightsT p (ix2 j t) = p (ix2 t ⟨1728 + j, by omega⟩) * num 0x3D3504F3#32 := by
  pointwise [weightsT, weights]

theorem small_apply (j : Fin 128) :
    small p (ix2 t j) = if h : j.val < 8 then p (ix2 t ⟨1728 + j, by omega⟩) * num 0x3D3504F3#32
      else if h : j.val < 13 then p (ix2 t ⟨3648 + j, by omega⟩) else 0 := by
  pointwise [small, weights]
  repeat' split
  all_goals first | rfl | (exfalso; omega) | (refine at_place p t ?_; dsimp only; omega)

theorem partB_apply (j : Fin 960) : partB p (ix2 t j) = p (ix2 t ⟨1736 + j, by omega⟩) := by
  pointwise [partB]

theorem partC_apply (j : Fin 960) : partC p (ix2 t j) = p (ix2 t ⟨2696 + j, by omega⟩) := by
  pointwise [partC]

variable (u : FVec Ideal S32768x960 .f32)

theorem queries_apply (s : BitVec 32) (j : Fin 384) :
    queries u s (ix2 j t) = if h : j.val < 320 then u (ix2 t ⟨j, by omega⟩) * num s else 0 := by
  pointwise [queries, wide, times]

theorem keys_apply (j : Fin 384) : keys u (ix2 t j) = if h : j.val < 320 then u (ix2 t ⟨320 + j, by omega⟩) else 0 := by
  pointwise [keys, wide]

theorem valuesB_apply (a : Fin 256) (e : Fin 5) (d : Fin 80) (l : Fin 128) :
    valuesB u (ix3 a ⟨e * 80 + d, by omega⟩ l)
      = if hd : d.val < 64 then u (ix2 ⟨a * 128 + l, by omega⟩ ⟨640 + (e * 64 + d), by omega⟩) else 1 := by
  pointwise [valuesB]

theorem valuesC_apply (a : Fin 64) (e : Fin 5) (d : Fin 80) (y : Fin 512) :
    valuesC u (ix3 a ⟨e * 80 + d, by omega⟩ y)
      = if hd : d.val < 64 then u (ix2 ⟨a * 512 + y, by omega⟩ ⟨640 + (e * 64 + d), by omega⟩) else 1 := by
  pointwise [valuesC]

/-- With the tables of a lane, a chunk of 128 columns is turned as the heads are. -/
theorem lane_turned (f c a a' : Fin 128 → EReal) (hc : ∀ l, c l = cosLane (fun j => cos (ix2 t j)) l) (ha : ∀ l, a l = afterLane (fun j => sin (ix2 t j)) l)
    (hb : ∀ l, a' l = beforeLane (fun j => sin (ix2 t j)) l) (l : Fin 128) (n : Fin 1344) (hl : l.val % 64 = n.val % 64)
    (hf : ∀ d : Fin 64, f ⟨l / 64 * 64 + d, by omega⟩ = hd (ix2 t ⟨n / 64 * 64 + d, by omega⟩)) :
    lane f c a a' l = turned hd cos sin (ix2 t n) := by
  obtain rfl := funext hc
  obtain rfl := funext ha
  obtain rfl := funext hb
  rw [lane_eq_turn, turned_apply]
  obtain e := Fin.ext (show (⟨l.val % 64, by omega⟩ : Fin 64).val = (⟨n.val % 64, by omega⟩ : Fin 64).val from hl)
  rw [e, funext hf]

end

end Cert.Reference4Ideal.RefValue

end
-- ==== Proof.ProjColumns.lean ====
/-
  Where the packed columns of a token come from.
-/
module

public import proofs.«01_k».proof.Proof.ProjHost
public import proofs.«01_k».proof.Proof.ProjRef

@[expose] public section

set_option maxRecDepth 16384

noncomputable section

namespace Cert.Kernel4Ideal.Result

open Cert.Kernel4Ideal Cert.Kernel4Ideal.Gen Cert.Kernel4Ideal.HostArrays Cert.Plain
open Cert.Reference4Ideal.RefValue hiding at_place
open Idealize.ShloMosaic Idealize.ShloMosaic.TcCoe Idealize.SL.Sem
open Idealize.ShloMosaic.Pipeline (Dat)

variable (p : FVec Ideal Cert.Reference4Ideal.S32768x3661 .f32) (i : Fin 32768)

theorem column_source (n : Fin 4224) (j : Fin 3661) (s : EReal) (hs : source n = some j) (hc : scaleAt n = s) :
    packed (fun j => p (ix2 i j) * scaleAt n) n = p (ix2 i j) * s := by
  rw [packed, hs, hc]
  rfl

theorem column_one (n : Fin 4224) (j : Fin 3661) (hs : source n = some j) (hc : scaleAt n = 1) :
    packed (fun j => p (ix2 i j) * scaleAt n) n = p (ix2 i j) :=
  (column_source p i n j 1 hs hc).trans (mul_one _)

theorem column_none (n : Fin 4224) (hs : source n = none) : packed (fun j => p (ix2 i j) * scaleAt n) n = 0 := by
  rw [packed, hs]
  rfl

/-- The columns up to 1344 are the heads in their order. -/
theorem heads_column (n : Fin 4224) (k : Fin 1344) (e : n.val = k.val) : packed (fun j => p (ix2 i j) * scaleAt n) n = heads p (ix2 i k) := by
  rw [heads_apply]
  by_cases h : k.val < 384
  · rw [dif_pos h]
    refine column_source p i n _ _ ?_ ?_
    · unfold source
      rw [dif_pos (by omega)]
      exact congrArg some (Fin.ext e)
    · unfold scaleAt
      rw [if_pos (by omega)]
  · rw [dif_neg h]
    have hc : scaleAt n = 1 := by
      unfold scaleAt
      rw [if_neg (by omega), if_pos (by omega)]
    by_cases h' : k.val < 768
    · rw [dif_pos h']
      refine column_one p i n _ ?_ hc
      unfold source
      rw [dif_pos (by omega)]
      exact congrArg some (Fin.ext e)
    · rw [dif_neg h']
      refine column_one p i n _ ?_ hc
      unfold source
      rw [dif_neg (by omega), dif_pos (by omega)]
      exact congrArg some (Fin.ext (by first | omega | (dsimp only; omega)))

/-- The source of a column of the small segment's weights. -/
theorem small_weight (i : Fin 32768) (p : FVec Ideal Cert.Reference4Ideal.S32768x3661 .f32) (n : Fin 4224) (j : Fin 3661) (h : 1408 ≤ n.val ∧ n.val < 1416) (e : j.val = n.val + 320) :
    packed (fun j => p (ix2 i j) * scaleAt n) n = p (ix2 i j) * num 0x3D3504F3#32 := by
  refine column_source p i n j _ ?_ ?_
  · unfold source
    repeat first | rw [dif_pos (by omega)] | rw [dif_neg (by omega)]
    exact congrArg some (Fin.ext e.symm)
  · unfold scaleAt
    repeat first | rw [if_pos (by omega)] | rw [if_neg (by omega)]

/-- A segment of 320 columns of the second or third mixer, filled up to 384: where its columns come from. -/
theorem wide_column (p : FVec Ideal Cert.Reference4Ideal.S32768x3661 .f32) (i : Fin 32768) (n : Fin 4224) (j : Fin 3661) (s : EReal)
    (h : (1920 ≤ n.val ∧ n.val < 2240 ∧ j.val + 184 = n.val ∧ s = num 0x3E000000#32) ∨ (2304 ≤ n.val ∧ n.val < 2624 ∧ j.val + 248 = n.val ∧ s = 1)
      ∨ (2688 ≤ n.val ∧ n.val < 3008 ∧ j.val + 312 = n.val ∧ s = 1) ∨ (3072 ≤ n.val ∧ n.val < 3392 ∧ j.val + 376 = n.val ∧ s = num 0x3E38AA3B#32)
      ∨ (3456 ≤ n.val ∧ n.val < 3776 ∧ j.val + 440 = n.val ∧ s = 1) ∨ (3840 ≤ n.val ∧ n.val < 4160 ∧ j.val + 504 = n.val ∧ s = 1)
      ∨ (1536 ≤ n.val ∧ n.val < 1920 ∧ j.val + 768 = n.val ∧ s = 1)) :
    packed (fun j => p (ix2 i j) * scaleAt n) n = p (ix2 i j) * s := by
  refine column_source p i n j s ?_ ?_
  · unfold source
    rcases h with ⟨h1, h2, h3, -⟩ | ⟨h1, h2, h3, -⟩ | ⟨h1, h2, h3, -⟩ | ⟨h1, h2, h3, -⟩ | ⟨h1, h2, h3, -⟩ | ⟨h1, h2, h3, -⟩ | ⟨h1, h2, h3, -⟩ <;>
    · repeat first | rw [dif_pos (by omega)] | rw [dif_neg (by omega)]
      exact congrArg some (Fin.ext (by first | omega | (dsimp only; omega)))
  · unfold scaleAt
    rcases h with ⟨h1, h2, h3, rfl⟩ | ⟨h1, h2, h3, rfl⟩ | ⟨h1, h2, h3, rfl⟩ | ⟨h1, h2, h3, rfl⟩ | ⟨h1, h2, h3, rfl⟩ | ⟨h1, h2, h3, rfl⟩ | ⟨h1, h2, h3, rfl⟩ <;>
    repeat first | rw [if_pos (by omega)] | rw [if_neg (by omega)]

/-- The columns that fill a segment up are zero. -/
theorem fill_column (p : FVec Ideal Cert.Reference4Ideal.S32768x3661 .f32) (i : Fin 32768) (n : Fin 4224)
    (h : (2240 ≤ n.val ∧ n.val < 2304) ∨ (2624 ≤ n.val ∧ n.val < 2688) ∨ (3392 ≤ n.val ∧ n.val < 3456) ∨ (3776 ≤ n.val ∧ n.val < 3840)) :
    packed (fun j => p (ix2 i j) * scaleAt n) n = 0 := by
  refine column_none p i n ?_
  unfold source
  rcases h with h | h | h | h <;> repeat first | rw [dif_pos (by omega)] | rw [dif_neg (by omega)]

end Cert.Kernel4Ideal.Result

end
-- ==== Proof.ProjWindows.lean ====
/-
  What the input projection's windows hold at a grid point.
-/
module

public import proofs.«01_k».proof.Proof.ProjArrays
public import proofs.«01_k».proof.Proof.ProjBlocks
public import proofs.«01_k».proof.Proof.ProjColumns
public import Idealize.ShloMosaic.Lib.Pipeline.ValueKit
public import Idealize.ShloMosaic.Lib.StableHlo.RunRead

@[expose] public section

set_option maxRecDepth 16384

noncomputable section

namespace Cert.Kernel4Ideal.Result

open Cert.Kernel4Ideal Cert.Kernel4Ideal.Gen Cert.Kernel4Ideal.Body Cert.Kernel4Ideal.HostArrays Cert.Plain
open Cert.Reference4Ideal.RefValue hiding at_place
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-! ## The arguments -/

abbrev H : FVec Ideal S32768x1024 .f32 := m (c.tc.loc main_arg0)
abbrev W : FVec Ideal S1024x3661 .f32 := m (c.tc.loc main_arg1)
abbrev B : FVec Ideal S3661 .f32 := m (c.tc.loc main_arg2)
abbrev Cos : FVec Ideal S32768x8 .f32 := m (c.tc.loc main_arg3)
abbrev Sin : FVec Ideal S32768x8 .f32 := m (c.tc.loc main_arg4)

/-- The reference's projection of every token. -/
def P : FVec Ideal Cert.Reference4Ideal.S32768x3661 .f32 := proj (H m c) (W m c) (B m c)

/-- The reference's turned heads. -/
def R : FVec Ideal Cert.Reference4Ideal.S32768x1344 .f32 := turned (heads (P m c)) (Cos m c) (Sin m c)

/-! ## The windows' blocks at a grid point -/

/-- The block of tokens of a grid point. -/
def bat (t : Fin cfg0.N) : Fin 64 := grid0.coords t 0

/-- The token of a row of a block. -/
def tok (t : Fin cfg0.N) (y : Fin 512) : Fin 32768 := ⟨bat t * 512 + y, by omega⟩

theorem index0 : ∀ t : Fin cfg0.N, win0_0.index t = ![(bat t).val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![(bat t).val, 0] := by decide +kernel
theorem index5 : ∀ t : Fin cfg0.N, win0_5.index t = ![(bat t).val, 0] := by decide +kernel
theorem index6 : ∀ t : Fin cfg0.N, win0_6.index t = ![(bat t).val, 0] := by decide +kernel
theorem index7 : ∀ t : Fin cfg0.N, win0_7.index t = ![0, (bat t).val] := by decide +kernel
theorem index8 : ∀ t : Fin cfg0.N, win0_8.index t = ![(bat t).val, 0] := by decide +kernel
theorem index9 : ∀ t : Fin cfg0.N, win0_9.index t = ![(bat t).val, 0, 0] := by decide +kernel
theorem index10 : ∀ t : Fin cfg0.N, win0_10.index t = ![0, (bat t).val] := by decide +kernel
theorem index11 : ∀ t : Fin cfg0.N, win0_11.index t = ![(bat t).val, 0] := by decide +kernel
theorem index12 : ∀ t : Fin cfg0.N, win0_12.index t = ![0, (bat t).val] := by decide +kernel
theorem index13 : ∀ t : Fin cfg0.N, win0_13.index t = ![(bat t).val, 0] := by decide +kernel
theorem index14 : ∀ t : Fin cfg0.N, win0_14.index t = ![0, (bat t).val] := by decide +kernel
theorem index15 : ∀ t : Fin cfg0.N, win0_15.index t = ![(bat t).val, 0] := by decide +kernel
theorem index16 : ∀ t : Fin cfg0.N, win0_16.index t = ![(bat t).val, 0, 0] := by decide +kernel
theorem index17 : ∀ t : Fin cfg0.N, win0_17.index t = ![0, (bat t).val] := by decide +kernel
theorem index18 : ∀ t : Fin cfg0.N, win0_18.index t = ![(bat t).val, 0] := by decide +kernel
theorem index19 : ∀ t : Fin cfg0.N, win0_19.index t = ![(bat t).val, 0, 0] := by decide +kernel

theorem read0 (A : FVec Ideal S32768x1024 .bf16) (y : Fin 512) (k : Fin 1024) :
    ((cfg0.win 0).blk t).view.read (Elt Ideal) A (ix2 y k) = A (ix2 (tok t y) k) := by
  blk_ext [index0]
  rfl

theorem read1 (A : FVec Ideal S1024x4224 .bf16) (k : Fin 1024) (n : Fin 4224) :
    ((cfg0.win 1).blk t).view.read (Elt Ideal) A (ix2 k n) = A (ix2 k n) := by
  blk_ext [index1]

theorem read2 (A : FVec Ideal S1x4224 .f32) (n : Fin 4224) : ((cfg0.win 2).blk t).view.read (Elt Ideal) A (ix2 0 n) = A (ix2 0 n) := by
  blk_ext [index2]

theorem read3 (A : FVec Ideal S1x4224 .f32) (n : Fin 4224) : ((cfg0.win 3).blk t).view.read (Elt Ideal) A (ix2 0 n) = A (ix2 0 n) := by
  blk_ext [index3]

theorem read4 (A : FVec Ideal S32768x128 .f32) (y : Fin 512) (l : Fin 128) :
    ((cfg0.win 4).blk t).view.read (Elt Ideal) A (ix2 y l) = A (ix2 (tok t y) l) := by
  blk_ext [index4]
  rfl

theorem read5 (A : FVec Ideal S32768x128 .f32) (y : Fin 512) (l : Fin 128) :
    ((cfg0.win 5).blk t).view.read (Elt Ideal) A (ix2 y l) = A (ix2 (tok t y) l) := by
  blk_ext [index5]
  rfl

theorem read6 (A : FVec Ideal S32768x128 .f32) (y : Fin 512) (l : Fin 128) :
    ((cfg0.win 6).blk t).view.read (Elt Ideal) A (ix2 y l) = A (ix2 (tok t y) l) := by
  blk_ext [index6]
  rfl

theorem read7 (A : FVec Ideal S384x32768 .bf16) (j : Fin 384) (y : Fin 512) :
    ((cfg0.win 7).blk t).view.read (Elt Ideal) A (ix2 j y) = A (ix2 j (tok t y)) := by
  blk_ext [index7]
  rfl

theorem read8 (A : FVec Ideal S32768x384 .bf16) (y : Fin 512) (j : Fin 384) :
    ((cfg0.win 8).blk t).view.read (Elt Ideal) A (ix2 y j) = A (ix2 (tok t y) j) := by
  blk_ext [index8]
  rfl

theorem read9 (A : FVec Ideal S64x480x512 .bf16) (r : Fin 480) (y : Fin 512) :
    ((cfg0.win 9).blk t).view.read (Elt Ideal) A (ix3 0 r y) = A (ix3 (bat t) r y) := by
  blk_ext [index9]

theorem read10 (A : FVec Ideal S512x32768 .bf16) (j : Fin 512) (y : Fin 512) :
    ((cfg0.win 10).blk t).view.read (Elt Ideal) A (ix2 j y) = A (ix2 j (tok t y)) := by
  blk_ext [index10]
  rfl

theorem read11 (A : FVec Ideal S32768x64 .bf16) (y : Fin 512) (j : Fin 64) :
    ((cfg0.win 11).blk t).view.read (Elt Ideal) A (ix2 y j) = A (ix2 (tok t y) j) := by
  blk_ext [index11]
  rfl

theorem read12 (A : FVec Ideal S8x32768 .f32) (j : Fin 8) (y : Fin 512) :
    ((cfg0.win 12).blk t).view.read (Elt Ideal) A (ix2 j y) = A (ix2 j (tok t y)) := by
  blk_ext [index12]
  rfl

theorem read13 (A : FVec Ideal S32768x128 .f32) (y : Fin 512) (j : Fin 128) :
    ((cfg0.win 13).blk t).view.read (Elt Ideal) A (ix2 y j) = A (ix2 (tok t y) j) := by
  blk_ext [index13]
  rfl

theorem read14 (A : FVec Ideal S384x32768 .bf16) (j : Fin 384) (y : Fin 512) :
    ((cfg0.win 14).blk t).view.read (Elt Ideal) A (ix2 j y) = A (ix2 j (tok t y)) := by
  blk_ext [index14]
  rfl

theorem read15 (A : FVec Ideal S32768x384 .bf16) (y : Fin 512) (j : Fin 384) :
    ((cfg0.win 15).blk t).view.read (Elt Ideal) A (ix2 y j) = A (ix2 (tok t y) j) := by
  blk_ext [index15]
  rfl

theorem read16 (A : FVec Ideal S256x400x128 .bf16) (g : Fin 4) (r : Fin 400) (l : Fin 128) :
    ((cfg0.win 16).blk t).view.read (Elt Ideal) A (ix3 g r l) = A (ix3 ⟨bat t * 4 + g, by omega⟩ r l) := by
  blk_ext [index16]

theorem read17 (A : FVec Ideal S384x32768 .bf16) (j : Fin 384) (y : Fin 512) :
    ((cfg0.win 17).blk t).view.read (Elt Ideal) A (ix2 j y) = A (ix2 j (tok t y)) := by
  blk_ext [index17]
  rfl

theorem read18 (A : FVec Ideal S32768x384 .bf16) (y : Fin 512) (j : Fin 384) :
    ((cfg0.win 18).blk t).view.read (Elt Ideal) A (ix2 y j) = A (ix2 (tok t y) j) := by
  blk_ext [index18]
  rfl

theorem read19 (A : FVec Ideal S64x400x512 .bf16) (r : Fin 400) (y : Fin 512) :
    ((cfg0.win 19).blk t).view.read (Elt Ideal) A (ix3 0 r y) = A (ix3 (bat t) r y) := by
  blk_ext [index19]

theorem iblk0 (y : Fin 512) (k : Fin 1024) : (iblk m c 0 t : FVec Ideal S512x1024 .bf16) (ix2 y k) = H m c (ix2 (tok t y) k) :=
  (congrFun (congrArg (((cfg0.win 0).blk t).view.read (Elt Ideal)) (held m c).hidden) _).trans (read0 t _ _ _)

theorem iblk1 (k : Fin 1024) (n : Fin 4224) : (iblk m c 1 t : FVec Ideal S1024x4224 .bf16) (ix2 k n) = packed (fun j => W m c (ix2 k j)) n :=
  (congrFun (congrArg (((cfg0.win 1).blk t).view.read (Elt Ideal)) (held m c).weights) _).trans ((read1 t _ _ _).trans (weightArray_apply _ _ _))

theorem iblk2 (n : Fin 4224) : (iblk m c 2 t : FVec Ideal S1x4224 .f32) (ix2 0 n) = packed (fun j => B m c (ix1 j)) n :=
  (congrFun (congrArg (((cfg0.win 2).blk t).view.read (Elt Ideal)) (held m c).biases) _).trans ((read2 t _ _).trans (biasArray_apply _ _))

theorem iblk3 (n : Fin 4224) : (iblk m c 3 t : FVec Ideal S1x4224 .f32) (ix2 0 n) = scaleAt n :=
  (congrFun (congrArg (((cfg0.win 3).blk t).view.read (Elt Ideal)) (held m c).scales) _).trans ((read3 t _ _).trans (scaleArray_apply _))

theorem iblk4 (y : Fin 512) (l : Fin 128) : (iblk m c 4 t : FVec Ideal S512x128 .f32) (ix2 y l) = cosLane (fun j => Cos m c (ix2 (tok t y) j)) l :=
  (congrFun (congrArg (((cfg0.win 4).blk t).view.read (Elt Ideal)) (held m c).cosines) _).trans ((read4 t _ _ _).trans (cosArray_apply _ _ _))

theorem iblk5 (y : Fin 512) (l : Fin 128) : (iblk m c 5 t : FVec Ideal S512x128 .f32) (ix2 y l) = afterLane (fun j => Sin m c (ix2 (tok t y) j)) l :=
  (congrFun (congrArg (((cfg0.win 5).blk t).view.read (Elt Ideal)) (held m c).after) _).trans ((read5 t _ _ _).trans (afterArray_apply _ _ _))

theorem iblk6 (y : Fin 512) (l : Fin 128) : (iblk m c 6 t : FVec Ideal S512x128 .f32) (ix2 y l) = beforeLane (fun j => Sin m c (ix2 (tok t y) j)) l :=
  (congrFun (congrArg (((cfg0.win 6).blk t).view.read (Elt Ideal)) (held m c).before) _).trans ((read6 t _ _ _).trans (beforeArray_apply _ _ _))

/-! ## The packed columns of a token -/

/-- A packed column of a row of a block is its source's projection, scaled. -/
theorem row_eq (y : Fin 512) (n : Fin 4224) :
    row (iblk m c 0 t) (iblk m c 1 t) (iblk m c 2 t) (iblk m c 3 t) y n = packed (fun j => P m c (ix2 (tok t y) j) * scaleAt n) n := by
  have e : row (iblk m c 0 t) (iblk m c 1 t) (iblk m c 2 t) (iblk m c 3 t) y n
      = projected (fun k => H m c (ix2 (tok t y) k)) (fun k => packed fun j => W m c (ix2 k j)) (packed fun j => B m c (ix1 j)) scaleAt n := by
    unfold row projected
    simp only [iblk0, iblk1, iblk2, iblk3]
  rw [e, segment_packed]
  simp only [P, proj_apply]

/-- A chunk of columns of heads is turned as the reference turns it. -/
theorem lane_eq (y : Fin 512) (g : ℕ) (hg : g + 128 ≤ 4224) (l : Fin 128) (k : Fin 1344) (h64 : g % 64 = 0) (hk : g + l.val = k.val)
    (hl : g + l.val / 64 * 64 + 64 ≤ 1344) :
    laneAt (iblk m c 0 t) (iblk m c 1 t) (iblk m c 2 t) (iblk m c 3 t) (iblk m c 4 t) (iblk m c 5 t) (iblk m c 6 t) y g hg l = R m c (ix2 (tok t y) k) := by
  refine lane_turned (heads (P m c)) (Cos m c) (Sin m c) (tok t y) _ _ _ _ (iblk4 m c t y) (iblk5 m c t y) (iblk6 m c t y) l k (by omega) fun d => ?_
  exact (row_eq m c t y _).trans (heads_column _ _ _ _ (by first | omega | (dsimp only; omega)))

end Cert.Kernel4Ideal.Result

end
-- ==== Proof.ProjLeft.lean ====
/-
  The blocks that the input projection's body leaves are blocks of the reference's results.
-/
module

public import proofs.«01_k».proof.Proof.ProjWindows

@[expose] public section

set_option maxRecDepth 16384

noncomputable section

namespace Cert.Kernel4Ideal.Result

open Cert.Kernel4Ideal Cert.Kernel4Ideal.Gen Cert.Kernel4Ideal.Body Cert.Kernel4Ideal.HostArrays Cert.Plain
open Cert.Reference4Ideal.RefValue hiding at_place
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-! ## The body's blocks at a grid point -/

/-- What the body leaves in window 7's block. -/
def left7 : FVec Ideal S384x512 .bf16 :=
  out0_7 (iblk m c 0 t) (iblk m c 1 t) (iblk m c 2 t) (iblk m c 3 t) (iblk m c 4 t) (iblk m c 5 t) (iblk m c 6 t)

/-- What the body leaves in window 8's block. -/
def left8 : FVec Ideal S512x384 .bf16 :=
  out0_8 (iblk m c 0 t) (iblk m c 1 t) (iblk m c 2 t) (iblk m c 3 t) (iblk m c 4 t) (iblk m c 5 t) (iblk m c 6 t)

/-- What the body leaves in window 9's block. -/
def left9 : FVec Ideal S1x480x512 .bf16 :=
  out0_9 (iblk m c 0 t) (iblk m c 1 t) (iblk m c 2 t) (iblk m c 3 t) (iblk m c 4 t) (iblk m c 5 t) (iblk m c 6 t)

/-- What the body leaves in window 10's block. -/
def left10 : FVec Ideal S512x512 .bf16 :=
  out0_10 (iblk m c 0 t) (iblk m c 1 t) (iblk m c 2 t) (iblk m c 3 t) (iblk m c 4 t) (iblk m c 5 t) (iblk m c 6 t)

/-- What the body leaves in window 11's block. -/
def left11 : FVec Ideal S512x64 .bf16 :=
  out0_11 (iblk m c 0 t) (iblk m c 1 t) (iblk m c 2 t) (iblk m c 3 t) (iblk m c 4 t) (iblk m c 5 t) (iblk m c 6 t)

/-- What the body leaves in window 12's block. -/
def left12 : FVec Ideal S8x512 .f32 :=
  out0_12 (iblk m c 0 t) (iblk m c 1 t) (iblk m c 2 t) (iblk m c 3 t) (iblk m c 4 t) (iblk m c 5 t) (iblk m c 6 t)

/-- What the body leaves in window 13's block. -/
def left13 : FVec Ideal S512x128 .f32 :=
  out0_13 (iblk m c 0 t) (iblk m c 1 t) (iblk m c 2 t) (iblk m c 3 t) (iblk m c 4 t) (iblk m c 5 t) (iblk m c 6 t)

/-- What the body leaves in window 14's block. -/
def left14 : FVec Ideal S384x512 .bf16 :=
  out0_14 (iblk m c 0 t) (iblk m c 1 t) (iblk m c 2 t) (iblk m c 3 t) (iblk m c 4 t) (iblk m c 5 t) (iblk m c 6 t)

/-- What the body leaves in window 15's block. -/
def left15 : FVec Ideal S512x384 .bf16 :=
  out0_15 (iblk m c 0 t) (iblk m c 1 t) (iblk m c 2 t) (iblk m c 3 t) (iblk m c 4 t) (iblk m c 5 t) (iblk m c 6 t)

/-- What the body leaves in window 16's block. -/
def left16 : FVec Ideal S4x400x128 .bf16 :=
  out0_16 (iblk m c 0 t) (iblk m c 1 t) (iblk m c 2 t) (iblk m c 3 t) (iblk m c 4 t) (iblk m c 5 t) (iblk m c 6 t)

/-- What the body leaves in window 17's block. -/
def left17 : FVec Ideal S384x512 .bf16 :=
  out0_17 (iblk m c 0 t) (iblk m c 1 t) (iblk m c 2 t) (iblk m c 3 t) (iblk m c 4 t) (iblk m c 5 t) (iblk m c 6 t)

/-- What the body leaves in window 18's block. -/
def left18 : FVec Ideal S512x384 .bf16 :=
  out0_18 (iblk m c 0 t) (iblk m c 1 t) (iblk m c 2 t) (iblk m c 3 t) (iblk m c 4 t) (iblk m c 5 t) (iblk m c 6 t)

/-- What the body leaves in window 19's block. -/
def left19 : FVec Ideal S1x400x512 .bf16 :=
  out0_19 (iblk m c 0 t) (iblk m c 1 t) (iblk m c 2 t) (iblk m c 3 t) (iblk m c 4 t) (iblk m c 5 t) (iblk m c 6 t)

theorem chunk {n : ℕ} (k : ℕ) (hn : n = k * 128) (j : Fin n) : ∃ (q : Fin k) (l : Fin 128), j = ⟨q * 128 + l, by omega⟩ :=
  ⟨⟨j / 128, by omega⟩, ⟨j % 128, by omega⟩, Fin.ext (by first | omega | (dsimp only; omega))⟩

theorem place {n : ℕ} (k : ℕ) (hn : n = k * 80) (j : Fin n) : ∃ (e : Fin k) (r : Fin 80), j = ⟨e * 80 + r, by omega⟩ :=
  ⟨⟨j / 80, by omega⟩, ⟨j % 80, by omega⟩, Fin.ext (by first | omega | (dsimp only; omega))⟩

theorem block7 (j : Fin 384) (y : Fin 512) : left7 m c t (ix2 j y) = queriesA (R m c) (ix2 j (tok t y)) := by
  obtain ⟨q, l, rfl⟩ := chunk 3 rfl j
  rw [queriesA_apply]
  exact (out7_apply ..).trans (lane_eq m c t y _ _ _ _ (by omega) (by first | omega | (dsimp only; omega)) (by omega))

theorem block8 (y : Fin 512) (j : Fin 384) : left8 m c t (ix2 y j) = keysA (R m c) (ix2 (tok t y) j) := by
  obtain ⟨q, l, rfl⟩ := chunk 3 rfl j
  rw [keysA_apply]
  exact (out8_apply ..).trans (lane_eq m c t y _ _ _ _ (by omega) (by first | omega | (dsimp only; omega)) (by omega))

theorem block10 (j : Fin 512) (y : Fin 512) : left10 m c t (ix2 j y) = queriesIdx (R m c) (ix2 j (tok t y)) := by
  obtain ⟨q, l, rfl⟩ := chunk 4 rfl j
  rw [queriesIdx_apply]
  exact (out10_apply ..).trans (lane_eq m c t y _ _ _ _ (by omega) (by first | omega | (dsimp only; omega)) (by omega))

theorem block11 (y : Fin 512) (j : Fin 64) : left11 m c t (ix2 y j) = keyIdx (R m c) (ix2 (tok t y) j) := by
  rw [keyIdx_apply]
  exact (out11_apply ..).trans (lane_eq m c t y _ _ _ _ (by omega) (by first | rfl | (dsimp only; omega)) (by first | omega | (dsimp only; omega)))

theorem block12 (j : Fin 8) (y : Fin 512) : left12 m c t (ix2 j y) = weightsT (P m c) (ix2 j (tok t y)) := by
  rw [weightsT_apply]
  exact (out12_apply ..).trans ((row_eq m c t y _).trans (small_weight _ _ _ _ ⟨by first | omega | (dsimp only; omega), by first | omega | (dsimp only; omega)⟩ (by first | omega | (dsimp only; omega))))

theorem block13 (y : Fin 512) (j : Fin 128) : left13 m c t (ix2 y j) = small (P m c) (ix2 (tok t y) j) := by
  rw [small_apply]
  refine (out13_apply ..).trans ((row_eq m c t y _).trans ?_)
  split
  · exact small_weight _ _ _ _ ⟨by first | omega | (dsimp only; omega), by first | omega | (dsimp only; omega)⟩ (by first | omega | (dsimp only; omega))
  split
  · refine column_one _ _ _ _ ?_ ?_
    · unfold source
      repeat first | rw [dif_pos (by first | omega | (dsimp only; omega))] | rw [dif_neg (by first | omega | (dsimp only; omega))]
      exact congrArg some (Fin.ext (by first | omega | (dsimp only; omega)))
    · unfold scaleAt
      repeat first | rw [if_pos (by first | omega | (dsimp only; omega))] | rw [if_neg (by first | omega | (dsimp only; omega))]
  · refine column_none _ _ _ ?_
    unfold source
    repeat first | rw [dif_pos (by first | omega | (dsimp only; omega))] | rw [dif_neg (by first | omega | (dsimp only; omega))]

theorem block14 (j : Fin 384) (y : Fin 512) : left14 m c t (ix2 j y) = queries (partB (P m c)) 0x3E000000#32 (ix2 j (tok t y)) := by
  rw [queries_apply]
  refine (out14_apply ..).trans ((row_eq m c t y _).trans ?_)
  split
  · rw [partB_apply]
    exact wide_column _ _ _ _ _ (Or.inl ⟨by first | omega | (dsimp only; omega), by first | omega | (dsimp only; omega), by first | omega | (dsimp only; omega), rfl⟩)
  · exact fill_column _ _ _ (Or.inl ⟨by first | omega | (dsimp only; omega), by first | omega | (dsimp only; omega)⟩)

theorem block15 (y : Fin 512) (j : Fin 384) : left15 m c t (ix2 y j) = keys (partB (P m c)) (ix2 (tok t y) j) := by
  rw [keys_apply]
  refine (out15_apply ..).trans ((row_eq m c t y _).trans ?_)
  split
  · rw [partB_apply]
    exact (wide_column _ _ _ _ 1 (Or.inr (Or.inl ⟨by first | omega | (dsimp only; omega), by first | omega | (dsimp only; omega), by first | omega | (dsimp only; omega), rfl⟩))).trans (mul_one _)
  · exact fill_column _ _ _ (Or.inr (Or.inl ⟨by first | omega | (dsimp only; omega), by first | omega | (dsimp only; omega)⟩))

theorem block17 (j : Fin 384) (y : Fin 512) : left17 m c t (ix2 j y) = queries (partC (P m c)) 0x3E38AA3B#32 (ix2 j (tok t y)) := by
  rw [queries_apply]
  refine (out17_apply ..).trans ((row_eq m c t y _).trans ?_)
  split
  · rw [partC_apply]
    exact wide_column _ _ _ _ _ (Or.inr (Or.inr (Or.inr (Or.inl ⟨by first | omega | (dsimp only; omega), by first | omega | (dsimp only; omega), by first | omega | (dsimp only; omega), rfl⟩))))
  · exact fill_column _ _ _ (Or.inr (Or.inr (Or.inl ⟨by first | omega | (dsimp only; omega), by first | omega | (dsimp only; omega)⟩)))

theorem block18 (y : Fin 512) (j : Fin 384) : left18 m c t (ix2 y j) = keys (partC (P m c)) (ix2 (tok t y) j) := by
  rw [keys_apply]
  refine (out18_apply ..).trans ((row_eq m c t y _).trans ?_)
  split
  · rw [partC_apply]
    exact (wide_column _ _ _ _ 1 (Or.inr (Or.inr (Or.inr (Or.inr (Or.inl ⟨by first | omega | (dsimp only; omega), by first | omega | (dsimp only; omega), by first | omega | (dsimp only; omega), rfl⟩)))))).trans (mul_one _)
  · exact fill_column _ _ _ (Or.inr (Or.inr (Or.inr (⟨by first | omega | (dsimp only; omega), by first | omega | (dsimp only; omega)⟩))))

theorem block9 (e : Fin 6) (r : Fin 80) (y : Fin 512) :
    left9 m c t (ix3 0 ⟨e * 80 + r, by omega⟩ y) = valuesA (P m c) (ix3 (bat t) ⟨e * 80 + r, by omega⟩ y) := by
  rw [valuesA_apply]
  refine (out9_apply ..).trans ?_
  split
  · exact (row_eq m c t y _).trans ((wide_column _ _ _ _ 1 (Or.inr (Or.inr (Or.inr (Or.inr (Or.inr (Or.inr
      ⟨by first | omega | (dsimp only; omega), by first | omega | (dsimp only; omega), by first | omega | (dsimp only; omega), rfl⟩))))))).trans (mul_one _))
  · rfl

theorem block19 (e : Fin 5) (r : Fin 80) (y : Fin 512) :
    left19 m c t (ix3 0 ⟨e * 80 + r, by omega⟩ y) = valuesC (partC (P m c)) (ix3 (bat t) ⟨e * 80 + r, by omega⟩ y) := by
  rw [valuesC_apply]
  refine (out19_apply ..).trans ?_
  split
  · rw [partC_apply]
    exact (row_eq m c t y _).trans ((wide_column _ _ _ _ 1 (Or.inr (Or.inr (Or.inr (Or.inr (Or.inr (Or.inl
      ⟨by first | omega | (dsimp only; omega), by first | omega | (dsimp only; omega), by first | omega | (dsimp only; omega), rfl⟩))))))).trans (mul_one _))
  · rfl

theorem block16 (g : Fin 4) (e : Fin 5) (r : Fin 80) (l : Fin 128) :
    left16 m c t (ix3 g ⟨e * 80 + r, by omega⟩ l) = valuesB (partB (P m c)) (ix3 ⟨bat t * 4 + g, by omega⟩ ⟨e * 80 + r, by omega⟩ l) := by
  rw [valuesB_apply]
  refine (out16_apply ..).trans ?_
  split
  · rw [partB_apply]
    have et : tok t ⟨g * 128 + l, by omega⟩ = ⟨(bat t * 4 + g) * 128 + l, by omega⟩ :=
      Fin.ext (by show (bat t).val * 512 + (g.val * 128 + l.val) = ((bat t).val * 4 + g.val) * 128 + l.val; omega)
    refine (row_eq m c t _ _).trans ((wide_column _ _ _ ⟨1736 + (640 + (e * 64 + r)), by omega⟩ 1 (Or.inr (Or.inr (Or.inl
      ⟨by first | omega | (dsimp only; omega), by first | omega | (dsimp only; omega), by first | omega | (dsimp only; omega), rfl⟩)))).trans ((mul_one _).trans ?_))
    exact congrArg (fun i => P m c (ix2 i ⟨1736 + (640 + (e * 64 + r)), by omega⟩)) et
  · rfl

end Cert.Kernel4Ideal.Result

end
-- ==== Proof.ProjValue.lean ====
/-
  The input projection's thirteen result arrays hold the reference's results.
-/
module

public import proofs.«01_k».proof.Proof.ProjLeft

@[expose] public section

set_option maxRecDepth 16384

noncomputable section

namespace Cert.Kernel4Ideal.Result

open Cert.Kernel4Ideal Cert.Kernel4Ideal.Gen Cert.Kernel4Ideal.Body Cert.Kernel4Ideal.HostArrays Cert.Plain
open Cert.Reference4Ideal.RefValue hiding at_place
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-! ## The result arrays -/

theorem left7_eq (z : S384x512.Idx) : left7 m c t z = ((cfg0.win 7).blk t).view.read (Elt Ideal) (queriesA (R m c)) z := by
  obtain ⟨a, b, rfl⟩ : ∃ (a : Fin 384) (b : Fin 512), z = ix2 a b := ⟨z 0, z 1, eq_ix2 z⟩
  rw [read7]
  exact block7 m c t a b

theorem covers7 : (cfg0.win 7).Covers := by decide +kernel

theorem array7 : (dats m 0 c).arrAt 7 cfg0.N = queriesA (R m c) := by
  refine (dats m 0 c).arrAt_eq_of_covers 7 _ covers7 fun t hf z => ?_
  rw [show (dats m 0 c).after 7 t = left7 m c t from after0_7 m c t]
  have key := left7_eq m c t
  generalize left7 m c t = A at key ⊢
  generalize queriesA (R m c) = E at key ⊢
  exact key z

theorem left8_eq (z : S512x384.Idx) : left8 m c t z = ((cfg0.win 8).blk t).view.read (Elt Ideal) (keysA (R m c)) z := by
  obtain ⟨a, b, rfl⟩ : ∃ (a : Fin 512) (b : Fin 384), z = ix2 a b := ⟨z 0, z 1, eq_ix2 z⟩
  rw [read8]
  exact block8 m c t a b

theorem covers8 : (cfg0.win 8).Covers := by decide +kernel

theorem array8 : (dats m 0 c).arrAt 8 cfg0.N = keysA (R m c) := by
  refine (dats m 0 c).arrAt_eq_of_covers 8 _ covers8 fun t hf z => ?_
  rw [show (dats m 0 c).after 8 t = left8 m c t from after0_8 m c t]
  have key := left8_eq m c t
  generalize left8 m c t = A at key ⊢
  generalize keysA (R m c) = E at key ⊢
  exact key z

theorem left9_eq (z : S1x480x512.Idx) : left9 m c t z = ((cfg0.win 9).blk t).view.read (Elt Ideal) (valuesA (P m c)) z := by
  obtain ⟨x, a, b, rfl⟩ : ∃ (x : Fin 1) (a : Fin 480) (b : Fin 512), z = ix3 x a b := ⟨z 0, z 1, z 2, eq_ix3 z⟩
  obtain rfl : x = 0 := Subsingleton.elim _ _
  obtain ⟨e, r, rfl⟩ := place 6 rfl a
  rw [read9]
  exact block9 m c t e r b

theorem covers9 : (cfg0.win 9).Covers := by decide +kernel

theorem array9 : (dats m 0 c).arrAt 9 cfg0.N = valuesA (P m c) := by
  refine (dats m 0 c).arrAt_eq_of_covers 9 _ covers9 fun t hf z => ?_
  rw [show (dats m 0 c).after 9 t = left9 m c t from after0_9 m c t]
  have key := left9_eq m c t
  generalize left9 m c t = A at key ⊢
  generalize valuesA (P m c) = E at key ⊢
  exact key z

theorem left10_eq (z : S512x512.Idx) : left10 m c t z = ((cfg0.win 10).blk t).view.read (Elt Ideal) (queriesIdx (R m c)) z := by
  obtain ⟨a, b, rfl⟩ : ∃ (a : Fin 512) (b : Fin 512), z = ix2 a b := ⟨z 0, z 1, eq_ix2 z⟩
  rw [read10]
  exact block10 m c t a b

theorem covers10 : (cfg0.win 10).Covers := by decide +kernel

theorem array10 : (dats m 0 c).arrAt 10 cfg0.N = queriesIdx (R m c) := by
  refine (dats m 0 c).arrAt_eq_of_covers 10 _ covers10 fun t hf z => ?_
  rw [show (dats m 0 c).after 10 t = left10 m c t from after0_10 m c t]
  have key := left10_eq m c t
  generalize left10 m c t = A at key ⊢
  generalize queriesIdx (R m c) = E at key ⊢
  exact key z

theorem left11_eq (z : S512x64.Idx) : left11 m c t z = ((cfg0.win 11).blk t).view.read (Elt Ideal) (keyIdx (R m c)) z := by
  obtain ⟨a, b, rfl⟩ : ∃ (a : Fin 512) (b : Fin 64), z = ix2 a b := ⟨z 0, z 1, eq_ix2 z⟩
  rw [read11]
  exact block11 m c t a b

theorem covers11 : (cfg0.win 11).Covers := by decide +kernel

theorem array11 : (dats m 0 c).arrAt 11 cfg0.N = keyIdx (R m c) := by
  refine (dats m 0 c).arrAt_eq_of_covers 11 _ covers11 fun t hf z => ?_
  rw [show (dats m 0 c).after 11 t = left11 m c t from after0_11 m c t]
  have key := left11_eq m c t
  generalize left11 m c t = A at key ⊢
  generalize keyIdx (R m c) = E at key ⊢
  exact key z

theorem left12_eq (z : S8x512.Idx) : left12 m c t z = ((cfg0.win 12).blk t).view.read (Elt Ideal) (weightsT (P m c)) z := by
  obtain ⟨a, b, rfl⟩ : ∃ (a : Fin 8) (b : Fin 512), z = ix2 a b := ⟨z 0, z 1, eq_ix2 z⟩
  rw [read12]
  exact block12 m c t a b

theorem covers12 : (cfg0.win 12).Covers := by decide +kernel

theorem array12 : (dats m 0 c).arrAt 12 cfg0.N = weightsT (P m c) := by
  refine (dats m 0 c).arrAt_eq_of_covers 12 _ covers12 fun t hf z => ?_
  rw [show (dats m 0 c).after 12 t = left12 m c t from after0_12 m c t]
  have key := left12_eq m c t
  generalize left12 m c t = A at key ⊢
  generalize weightsT (P m c) = E at key ⊢
  exact key z

theorem left13_eq (z : S512x128.Idx) : left13 m c t z = ((cfg0.win 13).blk t).view.read (Elt Ideal) (small (P m c)) z := by
  obtain ⟨a, b, rfl⟩ : ∃ (a : Fin 512) (b : Fin 128), z = ix2 a b := ⟨z 0, z 1, eq_ix2 z⟩
  rw [read13]
  exact block13 m c t a b

theorem covers13 : (cfg0.win 13).Covers := by decide +kernel

theorem array13 : (dats m 0 c).arrAt 13 cfg0.N = small (P m c) := by
  refine (dats m 0 c).arrAt_eq_of_covers 13 _ covers13 fun t hf z => ?_
  rw [show (dats m 0 c).after 13 t = left13 m c t from after0_13 m c t]
  have key := left13_eq m c t
  generalize left13 m c t = A at key ⊢
  generalize small (P m c) = E at key ⊢
  exact key z

theorem left14_eq (z : S384x512.Idx) : left14 m c t z = ((cfg0.win 14).blk t).view.read (Elt Ideal) (queries (partB (P m c)) 0x3E000000#32) z := by
  obtain ⟨a, b, rfl⟩ : ∃ (a : Fin 384) (b : Fin 512), z = ix2 a b := ⟨z 0, z 1, eq_ix2 z⟩
  rw [read14]
  exact block14 m c t a b

theorem covers14 : (cfg0.win 14).Covers := by decide +kernel

theorem array14 : (dats m 0 c).arrAt 14 cfg0.N = queries (partB (P m c)) 0x3E000000#32 := by
  refine (dats m 0 c).arrAt_eq_of_covers 14 _ covers14 fun t hf z => ?_
  rw [show (dats m 0 c).after 14 t = left14 m c t from after0_14 m c t]
  have key := left14_eq m c t
  generalize left14 m c t = A at key ⊢
  generalize queries (partB (P m c)) 0x3E000000#32 = E at key ⊢
  exact key z

theorem left15_eq (z : S512x384.Idx) : left15 m c t z = ((cfg0.win 15).blk t).view.read (Elt Ideal) (keys (partB (P m c))) z := by
  obtain ⟨a, b, rfl⟩ : ∃ (a : Fin 512) (b : Fin 384), z = ix2 a b := ⟨z 0, z 1, eq_ix2 z⟩
  rw [read15]
  exact block15 m c t a b

theorem covers15 : (cfg0.win 15).Covers := by decide +kernel

theorem array15 : (dats m 0 c).arrAt 15 cfg0.N = keys (partB (P m c)) := by
  refine (dats m 0 c).arrAt_eq_of_covers 15 _ covers15 fun t hf z => ?_
  rw [show (dats m 0 c).after 15 t = left15 m c t from after0_15 m c t]
  have key := left15_eq m c t
  generalize left15 m c t = A at key ⊢
  generalize keys (partB (P m c)) = E at key ⊢
  exact key z

theorem left16_eq (z : S4x400x128.Idx) : left16 m c t z = ((cfg0.win 16).blk t).view.read (Elt Ideal) (valuesB (partB (P m c))) z := by
  obtain ⟨x, a, b, rfl⟩ : ∃ (x : Fin 4) (a : Fin 400) (b : Fin 128), z = ix3 x a b := ⟨z 0, z 1, z 2, eq_ix3 z⟩
  obtain ⟨e, r, rfl⟩ := place 5 rfl a
  rw [read16]
  exact block16 m c t x e r b

theorem covers16 : (cfg0.win 16).Covers := by decide +kernel

theorem array16 : (dats m 0 c).arrAt 16 cfg0.N = valuesB (partB (P m c)) := by
  refine (dats m 0 c).arrAt_eq_of_covers 16 _ covers16 fun t hf z => ?_
  rw [show (dats m 0 c).after 16 t = left16 m c t from after0_16 m c t]
  have key := left16_eq m c t
  generalize left16 m c t = A at key ⊢
  generalize valuesB (partB (P m c)) = E at key ⊢
  exact key z

theorem left17_eq (z : S384x512.Idx) : left17 m c t z = ((cfg0.win 17).blk t).view.read (Elt Ideal) (queries (partC (P m c)) 0x3E38AA3B#32) z := by
  obtain ⟨a, b, rfl⟩ : ∃ (a : Fin 384) (b : Fin 512), z = ix2 a b := ⟨z 0, z 1, eq_ix2 z⟩
  rw [read17]
  exact block17 m c t a b

theorem covers17 : (cfg0.win 17).Covers := by decide +kernel

theorem array17 : (dats m 0 c).arrAt 17 cfg0.N = queries (partC (P m c)) 0x3E38AA3B#32 := by
  refine (dats m 0 c).arrAt_eq_of_covers 17 _ covers17 fun t hf z => ?_
  rw [show (dats m 0 c).after 17 t = left17 m c t from after0_17 m c t]
  have key := left17_eq m c t
  generalize left17 m c t = A at key ⊢
  generalize queries (partC (P m c)) 0x3E38AA3B#32 = E at key ⊢
  exact key z

theorem left18_eq (z : S512x384.Idx) : left18 m c t z = ((cfg0.win 18).blk t).view.read (Elt Ideal) (keys (partC (P m c))) z := by
  obtain ⟨a, b, rfl⟩ : ∃ (a : Fin 512) (b : Fin 384), z = ix2 a b := ⟨z 0, z 1, eq_ix2 z⟩
  rw [read18]
  exact block18 m c t a b

theorem covers18 : (cfg0.win 18).Covers := by decide +kernel

theorem array18 : (dats m 0 c).arrAt 18 cfg0.N = keys (partC (P m c)) := by
  refine (dats m 0 c).arrAt_eq_of_covers 18 _ covers18 fun t hf z => ?_
  rw [show (dats m 0 c).after 18 t = left18 m c t from after0_18 m c t]
  have key := left18_eq m c t
  generalize left18 m c t = A at key ⊢
  generalize keys (partC (P m c)) = E at key ⊢
  exact key z

theorem left19_eq (z : S1x400x512.Idx) : left19 m c t z = ((cfg0.win 19).blk t).view.read (Elt Ideal) (valuesC (partC (P m c))) z := by
  obtain ⟨x, a, b, rfl⟩ : ∃ (x : Fin 1) (a : Fin 400) (b : Fin 512), z = ix3 x a b := ⟨z 0, z 1, z 2, eq_ix3 z⟩
  obtain rfl : x = 0 := Subsingleton.elim _ _
  obtain ⟨e, r, rfl⟩ := place 5 rfl a
  rw [read19]
  exact block19 m c t e r b

theorem covers19 : (cfg0.win 19).Covers := by decide +kernel

theorem array19 : (dats m 0 c).arrAt 19 cfg0.N = valuesC (partC (P m c)) := by
  refine (dats m 0 c).arrAt_eq_of_covers 19 _ covers19 fun t hf z => ?_
  rw [show (dats m 0 c).after 19 t = left19 m c t from after0_19 m c t]
  have key := left19_eq m c t
  generalize left19 m c t = A at key ⊢
  generalize valuesC (partC (P m c)) = E at key ⊢
  exact key z

end Cert.Kernel4Ideal.Result

end
-- ==== Proof.ProjRun.lean ====
/-
  The run of the input projection ends with the reference's results.
-/
module

public import proofs.«01_k».proof.Proof.ProjValue

@[expose] public section

set_option maxRecDepth 16384

noncomputable section

namespace Cert.Kernel4Ideal.Result

open Cert.Kernel4Ideal Cert.Kernel4Ideal.Gen Cert.Kernel4Ideal.Body Cert.Kernel4Ideal.HostArrays Cert.Plain
open Cert.Reference4Ideal.RefValue hiding at_place
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

set_option maxHeartbeats 4000000 in
/-- The kernel ends with the reference's results and its arguments unchanged. -/
theorem run :
    θ_run defs (onTc (τ := τ) (main (F := Ideal))) ⟨m, fun _ => 0, ρ⟩ (fun r => ∀ c : Dev nD,
      r.2.mem ((c.tc : Thread nD τ).loc main_v67_0) = queriesA (R m c)
      ∧ r.2.mem ((c.tc : Thread nD τ).loc main_v67_1) = keysA (R m c)
      ∧ r.2.mem ((c.tc : Thread nD τ).loc main_v67_2) = valuesA (P m c)
      ∧ r.2.mem ((c.tc : Thread nD τ).loc main_v67_3) = queriesIdx (R m c)
      ∧ r.2.mem ((c.tc : Thread nD τ).loc main_v67_4) = keyIdx (R m c)
      ∧ r.2.mem ((c.tc : Thread nD τ).loc main_v67_5) = weightsT (P m c)
      ∧ r.2.mem ((c.tc : Thread nD τ).loc main_v67_6) = small (P m c)
      ∧ r.2.mem ((c.tc : Thread nD τ).loc main_v67_7) = queries (partB (P m c)) 0x3E000000#32
      ∧ r.2.mem ((c.tc : Thread nD τ).loc main_v67_8) = keys (partB (P m c))
      ∧ r.2.mem ((c.tc : Thread nD τ).loc main_v67_9) = valuesB (partB (P m c))
      ∧ r.2.mem ((c.tc : Thread nD τ).loc main_v67_10) = queries (partC (P m c)) 0x3E38AA3B#32
      ∧ r.2.mem ((c.tc : Thread nD τ).loc main_v67_11) = keys (partC (P m c))
      ∧ r.2.mem ((c.tc : Thread nD τ).loc main_v67_12) = valuesC (partC (P m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ p c => by
    obtain ⟨h7, h8, h9, h10, h11, h12, h13, h14, h15, h16, h17, h18, h19, hr⟩ := p c
    exact ⟨h7.trans (array7 m c), h8.trans (array8 m c), h9.trans (array9 m c), h10.trans (array10 m c), h11.trans (array11 m c), h12.trans (array12 m c), h13.trans (array13 m c), h14.trans (array14 m c), h15.trans (array15 m c), h16.trans (array16 m c), h17.trans (array17 m c), h18.trans (array18 m c), h19.trans (array19 m c), hr⟩) (Value.run_blocks m ρ)

end Cert.Kernel4Ideal.Result

end
-- ==== Proof.ProjRefRun.lean ====
/-
  The reference of the input projection ends with its thirteen results, as functions of the device's memory.
-/
module

public import proofs.«01_k».proof.Proof.Gen.Reference4Ideal.Run
public import proofs.«01_k».proof.Proof.ProjRef

@[expose] public section

set_option maxRecDepth 16384

noncomputable section

namespace Cert.Reference4Ideal.RefValue

open Cert.Reference4Ideal Cert.Reference4Ideal.Gen Idealize.ShloMosaic Idealize.ShloMosaic.TcCoe Idealize.SL.Sem

variable (m : (ℓ : Loc nD τ sig) → Buf (Elt Ideal) ℓ) (c : Dev nD)

/-- The projection as a function of the device's memory. -/
def tokens : FVec Ideal S32768x3661 .f32 :=
  proj (m ((c.tc : Thread nD τ).loc main_arg0)) (m ((c.tc : Thread nD τ).loc main_arg1)) (m ((c.tc : Thread nD τ).loc main_arg2))

/-- The turned heads as a function of the device's memory. -/
def turnedHeads : FVec Ideal S32768x1344 .f32 :=
  turned (heads (tokens m c)) (m ((c.tc : Thread nD τ).loc main_arg3)) (m ((c.tc : Thread nD τ).loc main_arg4))

/-- The reference ends with its results, its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v49) = queriesA (turnedHeads m c)
      ∧ r.2.mem ((c.tc : Thread nD τ).loc main_v50) = keysA (turnedHeads m c)
      ∧ r.2.mem ((c.tc : Thread nD τ).loc main_v55) = valuesA (tokens m c)
      ∧ r.2.mem ((c.tc : Thread nD τ).loc main_v57) = queriesIdx (turnedHeads m c)
      ∧ r.2.mem ((c.tc : Thread nD τ).loc main_v58) = keyIdx (turnedHeads m c)
      ∧ r.2.mem ((c.tc : Thread nD τ).loc main_v59) = weightsT (tokens m c)
      ∧ r.2.mem ((c.tc : Thread nD τ).loc main_v47) = small (tokens m c)
      ∧ r.2.mem ((c.tc : Thread nD τ).loc main_v64) = queries (partB (tokens m c)) 0x3E000000#32
      ∧ r.2.mem ((c.tc : Thread nD τ).loc main_v66) = keys (partB (tokens m c))
      ∧ r.2.mem ((c.tc : Thread nD τ).loc main_v71) = valuesB (partB (tokens m c))
      ∧ r.2.mem ((c.tc : Thread nD τ).loc main_v76) = queries (partC (tokens m c)) 0x3E38AA3B#32
      ∧ r.2.mem ((c.tc : Thread nD τ).loc main_v78) = keys (partC (tokens m c))
      ∧ r.2.mem ((c.tc : Thread nD τ).loc main_v83) = valuesC (partC (tokens m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, h4, h5, h6, h7, h8, h9, h10, h11, h12, hr⟩ := h c
    refine ⟨h0.trans ?_, h1.trans ?_, h2.trans ?_, h3.trans ?_, h4.trans ?_, h5.trans ?_, h6.trans ?_, h7.trans ?_, h8.trans ?_, h9.trans ?_, h10.trans ?_,
      h11.trans ?_, h12.trans ?_, hr⟩
    · unfold Value.res_main_v49 queriesA turnedHeads turned heads tokens proj; rfl
    · unfold Value.res_main_v50 keysA turnedHeads turned heads tokens proj; rfl
    · unfold valuesA tokens proj; rfl
    · unfold Value.res_main_v57 queriesIdx turnedHeads turned heads tokens proj; rfl
    · unfold Value.res_main_v58 keyIdx turnedHeads turned heads tokens proj; rfl
    · unfold weightsT weights tokens proj; rfl
    · unfold small weights tokens proj; rfl
    · unfold queries wide times partB tokens proj; rfl
    · unfold keys wide partB tokens proj; rfl
    · unfold valuesB partB tokens proj; rfl
    · unfold queries wide times partC tokens proj; rfl
    · unfold keys wide partC tokens proj; rfl
    · unfold valuesC partC tokens proj; rfl) (Value.run (F := Ideal) m ρ)

end Cert.Reference4Ideal.RefValue

end
-- ==== Proof.lean ====
module

public import proofs.«01_k».proof.Defs
public import proofs.«01_k».proof.Proof.KernelBody
public import proofs.«01_k».proof.Proof.Body
public import proofs.«01_k».proof.Proof.Value
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Proof.FfnValue
public import proofs.«01_k».proof.Proof.MergeValue
public import proofs.«01_k».proof.Proof.Gen.Kernel2.Frame
public import proofs.«01_k».proof.Proof.Gen.Kernel3.Frame
public import proofs.«01_k».proof.Proof.ProjLaunch
public import proofs.«01_k».proof.Proof.ProjFrame
public import proofs.«01_k».proof.Proof.ProjRun
public import proofs.«01_k».proof.Proof.ProjRefRun
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Body.frame m ρ

theorem frame_pi : Cert.quiescent_KernelIdeal := fun m ρ _ => Cert.KernelIdeal.Body.frame m ρ

theorem frame_ri : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem preserves : Cert.preserves_Kernel_KernelIdeal :=
  ⟨IdealRules.named_const.statement Cert.KernelIdeal.κ "qscale" .f32 0x3E38AA3B#32 _ rfl,
    IdealRules.named_const.statement Cert.KernelIdeal.κ "log2e" .f32 0x3FB8AA3B#32 _ rfl⟩

theorem facts_finite : Cert.Pre_finite.Facts := by
  constructor <;> decide

theorem algebraic : Cert.algebraic_KernelIdeal_ReferenceIdeal_pre_finite (hPre_finite := facts_finite) :=
  fun m ρ m' ρ' hpre hag => ⟨fun c => Cert.KernelIdeal.Result.expected m c,
    Cert.KernelIdeal.Result.run m ρ fun c => @Cert.Pre_finite.real_of facts_finite _ _ _ _ (hpre c),
    (θ_run Cert.ReferenceIdeal.defs _ _).mono (fun r h c => ⟨(h c).1.trans (by
        obtain ⟨h0, h1, h2, h3⟩ := hag c
        refine (Cert.ReferenceIdeal.RefValue.result_eq m' c).trans ?_
        rw [h0, h1, h2, h3]
        rfl), (h c).2⟩) (Cert.ReferenceIdeal.Value.run (F := Ideal) m' ρ')⟩

/-! ## The feed-forward block -/

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

theorem algebraic2 : Cert.algebraic_Kernel2Ideal_Reference2Ideal :=
  fun m ρ m' ρ' _ hag => ⟨fun c => Cert.Kernel2Ideal.Result.expected m c, Cert.Kernel2Ideal.Result.run m ρ,
    (θ_run Cert.Reference2Ideal.defs _ _).mono (fun r h c => ⟨(h c).1.trans (by
        obtain ⟨h0, h1, h2, h3, h4, h5⟩ := hag c
        refine (Cert.Reference2Ideal.RefValue.result_eq m' c).trans ?_
        rw [h0, h1, h2, h3, h4, h5]
        rfl), (h c).2⟩) (Cert.Reference2Ideal.Value.run (F := Ideal) m' ρ')⟩

/-! ## The merge of the branches -/

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono
    (fun r h => ⟨fun c => (h c).2.2, sem_eq_zero_of_no_sems (by decide) r.2⟩) (Cert.Reference3Ideal.RefValue.run m ρ)

theorem result3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' (c.tc.loc Cert.Reference3Ideal.main_arg0) = m (c.tc.loc Cert.Kernel3Ideal.main_arg0))
    (h1 : m' (c.tc.loc Cert.Reference3Ideal.main_arg1) = m (c.tc.loc Cert.Kernel3Ideal.main_arg1))
    (h2 : m' (c.tc.loc Cert.Reference3Ideal.main_arg2) = m (c.tc.loc Cert.Kernel3Ideal.main_arg2))
    (h3 : m' (c.tc.loc Cert.Reference3Ideal.main_arg3) = m (c.tc.loc Cert.Kernel3Ideal.main_arg3))
    (h4 : m' (c.tc.loc Cert.Reference3Ideal.main_arg4) = m (c.tc.loc Cert.Kernel3Ideal.main_arg4))
    (h5 : m' (c.tc.loc Cert.Reference3Ideal.main_arg5) = m (c.tc.loc Cert.Kernel3Ideal.main_arg5))
    (h6 : m' (c.tc.loc Cert.Reference3Ideal.main_arg6) = m (c.tc.loc Cert.Kernel3Ideal.main_arg6))
    (h7 : m' (c.tc.loc Cert.Reference3Ideal.main_arg7) = m (c.tc.loc Cert.Kernel3Ideal.main_arg7))
    (h8 : m' (c.tc.loc Cert.Reference3Ideal.main_arg8) = m (c.tc.loc Cert.Kernel3Ideal.main_arg8))
    (h9 : m' (c.tc.loc Cert.Reference3Ideal.main_arg9) = m (c.tc.loc Cert.Kernel3Ideal.main_arg9)) :
    Cert.Reference3Ideal.RefValue.result m' c = Cert.Kernel3Ideal.Result.expected m c := by
  unfold Cert.Reference3Ideal.RefValue.result
  rw [h0, h1, h2, h3, h4, h5, h6, h7, h8, h9]
  rfl

theorem algebraic3 : Cert.algebraic_Kernel3Ideal_Reference3Ideal :=
  fun m ρ m' ρ' _ hag => ⟨fun c => Cert.Kernel3Ideal.Result.expected m c, fun c => Cert.Kernel3Ideal.Result.expectedNorm m c,
    Cert.Kernel3Ideal.Result.run m ρ,
    (θ_run Cert.Reference3Ideal.defs _ _).mono (fun r h c => by
      obtain ⟨h0, h1, h2, h3, h4, h5, h6, h7, h8, h9, h10⟩ := hag c
      have e := result3 m m' c h0 h1 h2 h3 h4 h5 h6 h7 h8 h9
      refine ⟨(h c).1.trans e, (h c).2.1.trans ?_, (h c).2.2⟩
      rw [e, h9, h10]
      rfl) (Cert.Reference3Ideal.RefValue.run m' ρ')⟩

/-! ## The input projection -/

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono
    (fun r h => ⟨fun c => (h c).2.2.2.2.2.2.2.2.2.2.2.2.2, sem_eq_zero_of_no_sems (by decide) r.2⟩) (Cert.Reference4Ideal.RefValue.run m ρ)

theorem tokens_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' (c.tc.loc Cert.Reference4Ideal.main_arg0) = m (c.tc.loc Cert.Kernel4Ideal.main_arg0))
    (h1 : m' (c.tc.loc Cert.Reference4Ideal.main_arg1) = m (c.tc.loc Cert.Kernel4Ideal.main_arg1))
    (h2 : m' (c.tc.loc Cert.Reference4Ideal.main_arg2) = m (c.tc.loc Cert.Kernel4Ideal.main_arg2)) :
    Cert.Reference4Ideal.RefValue.tokens m' c = Cert.Kernel4Ideal.Result.P m c := by
  unfold Cert.Reference4Ideal.RefValue.tokens
  rw [h0, h1, h2]
  rfl

theorem turned_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' (c.tc.loc Cert.Reference4Ideal.main_arg0) = m (c.tc.loc Cert.Kernel4Ideal.main_arg0))
    (h1 : m' (c.tc.loc Cert.Reference4Ideal.main_arg1) = m (c.tc.loc Cert.Kernel4Ideal.main_arg1))
    (h2 : m' (c.tc.loc Cert.Reference4Ideal.main_arg2) = m (c.tc.loc Cert.Kernel4Ideal.main_arg2))
    (h3 : m' (c.tc.loc Cert.Reference4Ideal.main_arg3) = m (c.tc.loc Cert.Kernel4Ideal.main_arg3))
    (h4 : m' (c.tc.loc Cert.Reference4Ideal.main_arg4) = m (c.tc.loc Cert.Kernel4Ideal.main_arg4)) :
    Cert.Reference4Ideal.RefValue.turnedHeads m' c = Cert.Kernel4Ideal.Result.R m c := by
  unfold Cert.Reference4Ideal.RefValue.turnedHeads
  rw [tokens_eq m m' c h0 h1 h2, h3, h4]
  rfl

theorem algebraic4 : Cert.algebraic_Kernel4Ideal_Reference4Ideal :=
  fun m ρ m' ρ' _ hag => ⟨fun c => Cert.Reference4Ideal.RefValue.queriesA (Cert.Kernel4Ideal.Result.R m c),
    fun c => Cert.Reference4Ideal.RefValue.keysA (Cert.Kernel4Ideal.Result.R m c),
    fun c => Cert.Reference4Ideal.RefValue.valuesA (Cert.Kernel4Ideal.Result.P m c),
    fun c => Cert.Reference4Ideal.RefValue.queriesIdx (Cert.Kernel4Ideal.Result.R m c),
    fun c => Cert.Reference4Ideal.RefValue.keyIdx (Cert.Kernel4Ideal.Result.R m c),
    fun c => Cert.Reference4Ideal.RefValue.weightsT (Cert.Kernel4Ideal.Result.P m c),
    fun c => Cert.Reference4Ideal.RefValue.small (Cert.Kernel4Ideal.Result.P m c),
    fun c => Cert.Reference4Ideal.RefValue.queries (Cert.Reference4Ideal.RefValue.partB (Cert.Kernel4Ideal.Result.P m c)) 0x3E000000#32,
    fun c => Cert.Reference4Ideal.RefValue.keys (Cert.Reference4Ideal.RefValue.partB (Cert.Kernel4Ideal.Result.P m c)),
    fun c => Cert.Reference4Ideal.RefValue.valuesB (Cert.Reference4Ideal.RefValue.partB (Cert.Kernel4Ideal.Result.P m c)),
    fun c => Cert.Reference4Ideal.RefValue.queries (Cert.Reference4Ideal.RefValue.partC (Cert.Kernel4Ideal.Result.P m c)) 0x3E38AA3B#32,
    fun c => Cert.Reference4Ideal.RefValue.keys (Cert.Reference4Ideal.RefValue.partC (Cert.Kernel4Ideal.Result.P m c)),
    fun c => Cert.Reference4Ideal.RefValue.valuesC (Cert.Reference4Ideal.RefValue.partC (Cert.Kernel4Ideal.Result.P m c)),
    Cert.Kernel4Ideal.Result.run m ρ,
    (θ_run Cert.Reference4Ideal.defs _ _).mono (fun r h c => by
      obtain ⟨h0, h1, h2, h3, h4⟩ := hag c
      have hc := h c
      rw [turned_eq m m' c h0 h1 h2 h3 h4, tokens_eq m m' c h0 h1 h2] at hc
      exact hc) (Cert.Reference4Ideal.RefValue.run m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, facts_finite, frame_p, frame_pi,
    fun m ρ _ => frame_pi m ρ trivial, frame_ri, fun m ρ _ => frame_ri m ρ trivial, frame_p2, frame_pi2, frame_ri2, frame_p3, frame_pi3, frame_ri3, frame_p4, frame_pi4, frame_ri4,
    preserves, algebraic, trivial, algebraic2, trivial, algebraic3, trivial, algebraic4⟩

end Cert.Proof

end
